-- ==== Defs.lean ====
def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_finite_sample [hPre_finite_sample : Cert.Pre_finite_sample.Facts] (m : (ℓ : Loc Cert.SampleIdeal.nD Cert.SampleIdeal.τ Cert.SampleIdeal.sig) → Buf (Elt Ideal) ℓ) : Prop :=
  ∀ c : Dev Cert.SampleIdeal.nD,
    (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.2.2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.2.2.2.2.2.1 = (fun _ => 1#1)
    ∧ (Cert.Pre_finite_sample.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))).2.2.2.2.2.2.2.2.2.2 = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_finite_sample [hPre_finite_sample : Cert.Pre_finite_sample.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.2.2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.2.2.2.2.2.1 = (fun _ => 1#1)
    ∧ (Cert.Pre_finite_sample.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))).2.2.2.2.2.2.2.2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.2.2.2.2.2.1 = (fun _ => 1#1)
    ∧ (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11))).2.2.2.2.2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.2.2.2.2.2.1 = (fun _ => 1#1)
    ∧ (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11))).2.2.2.2.2.2.2.2.2.2.2 = (fun _ => 1#1)

def Pre_SampleTail (m : (ℓ : Loc Cert.SampleTail.nD Cert.SampleTail.τ Cert.SampleTail.sig) → Buf (Elt Bits) ℓ) : Prop :=
  True

def Pre_SampleTailIdeal (m : (ℓ : Loc Cert.SampleTailIdeal.nD Cert.SampleTailIdeal.τ Cert.SampleTailIdeal.sig) → Buf (Elt Ideal) ℓ) : Prop :=
  True

def Pre_SampleTailIdeal_finite_sample_tail [hPre_finite_sample_tail : Cert.Pre_finite_sample_tail.Facts] (m : (ℓ : Loc Cert.SampleTailIdeal.nD Cert.SampleTailIdeal.τ Cert.SampleTailIdeal.sig) → Buf (Elt Ideal) ℓ) : Prop :=
  ∀ c : Dev Cert.SampleTailIdeal.nD,
    (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.2.2.2.2.2.1 = (fun _ => 1#1)
    ∧ (Cert.Pre_finite_sample_tail.fn (F := Ideal) (m ((c.tc : Thread Cert.SampleTailIdeal.nD Cert.SampleTailIdeal.τ).loc Cert.SampleTailIdeal.main_arg0)) (m ((c.tc : Thread Cert.SampleTailIdeal.nD Cert.SampleTailIdeal.τ).loc Cert.SampleTailIdeal.main_arg1)) (m ((c.tc : Thread Cert.SampleTailIdeal.nD Cert.SampleTailIdeal.τ).loc Cert.SampleTailIdeal.main_arg2)) (m ((c.tc : Thread Cert.SampleTailIdeal.nD Cert.SampleTailIdeal.τ).loc Cert.SampleTailIdeal.main_arg3)) (m ((c.tc : Thread Cert.SampleTailIdeal.nD Cert.SampleTailIdeal.τ).loc Cert.SampleTailIdeal.main_arg4)) (m ((c.tc : Thread Cert.SampleTailIdeal.nD Cert.SampleTailIdeal.τ).loc Cert.SampleTailIdeal.main_arg5)) (m ((c.tc : Thread Cert.SampleTailIdeal.nD Cert.SampleTailIdeal.τ).loc Cert.SampleTailIdeal.main_arg6)) (m ((c.tc : Thread Cert.SampleTailIdeal.nD Cert.SampleTailIdeal.τ).loc Cert.SampleTailIdeal.main_arg7)) (m ((c.tc : Thread Cert.SampleTailIdeal.nD Cert.SampleTailIdeal.τ).loc Cert.SampleTailIdeal.main_arg8)) (m ((c.tc : Thread Cert.SampleTailIdeal.nD Cert.SampleTailIdeal.τ).loc Cert.SampleTailIdeal.main_arg9)) (m ((c.tc : Thread Cert.SampleTailIdeal.nD Cert.SampleTailIdeal.τ).loc Cert.SampleTailIdeal.main_arg10)) (m ((c.tc : Thread Cert.SampleTailIdeal.nD Cert.SampleTailIdeal.τ).loc Cert.SampleTailIdeal.main_arg11))).2.2.2.2.2.2.2.2.2.2.2 = (fun _ => 1#1)

def Pre_SampleTailRefIdeal (m : (ℓ : Loc Cert.SampleTailRefIdeal.nD Cert.SampleTailRefIdeal.τ Cert.SampleTailRefIdeal.sig) → Buf (Elt Ideal) ℓ) : Prop :=
  True

def Pre_SampleTailRefIdeal_finite_sample_tail [hPre_finite_sample_tail : Cert.Pre_finite_sample_tail.Facts] (m : (ℓ : Loc Cert.SampleTailRefIdeal.nD Cert.SampleTailRefIdeal.τ Cert.SampleTailRefIdeal.sig) → Buf (Elt Ideal) ℓ) : Prop :=
  ∀ c : Dev Cert.SampleTailRefIdeal.nD,
    (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.2.2.2.2.2.1 = (fun _ => 1#1)
    ∧ (Cert.Pre_finite_sample_tail.fn (F := Ideal) (m ((c.tc : Thread Cert.SampleTailRefIdeal.nD Cert.SampleTailRefIdeal.τ).loc Cert.SampleTailRefIdeal.main_arg0)) (m ((c.tc : Thread Cert.SampleTailRefIdeal.nD Cert.SampleTailRefIdeal.τ).loc Cert.SampleTailRefIdeal.main_arg1)) (m ((c.tc : Thread Cert.SampleTailRefIdeal.nD Cert.SampleTailRefIdeal.τ).loc Cert.SampleTailRefIdeal.main_arg2)) (m ((c.tc : Thread Cert.SampleTailRefIdeal.nD Cert.SampleTailRefIdeal.τ).loc Cert.SampleTailRefIdeal.main_arg3)) (m ((c.tc : Thread Cert.SampleTailRefIdeal.nD Cert.SampleTailRefIdeal.τ).loc Cert.SampleTailRefIdeal.main_arg4)) (m ((c.tc : Thread Cert.SampleTailRefIdeal.nD Cert.SampleTailRefIdeal.τ).loc Cert.SampleTailRefIdeal.main_arg5)) (m ((c.tc : Thread Cert.SampleTailRefIdeal.nD Cert.SampleTailRefIdeal.τ).loc Cert.SampleTailRefIdeal.main_arg6)) (m ((c.tc : Thread Cert.SampleTailRefIdeal.nD Cert.SampleTailRefIdeal.τ).loc Cert.SampleTailRefIdeal.main_arg7)) (m ((c.tc : Thread Cert.SampleTailRefIdeal.nD Cert.SampleTailRefIdeal.τ).loc Cert.SampleTailRefIdeal.main_arg8)) (m ((c.tc : Thread Cert.SampleTailRefIdeal.nD Cert.SampleTailRefIdeal.τ).loc Cert.SampleTailRefIdeal.main_arg9)) (m ((c.tc : Thread Cert.SampleTailRefIdeal.nD Cert.SampleTailRefIdeal.τ).loc Cert.SampleTailRefIdeal.main_arg10)) (m ((c.tc : Thread Cert.SampleTailRefIdeal.nD Cert.SampleTailRefIdeal.τ).loc Cert.SampleTailRefIdeal.main_arg11))).2.2.2.2.2.2.2.2.2.2.2 = (fun _ => 1#1)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleIdeal_pre_finite_sample [hSampleIdeal : Cert.SampleIdeal.Facts] [hPre_finite_sample : Cert.Pre_finite_sample.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_finite_sample m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def quiescent_SampleRefIdeal_pre_finite_sample [hSampleRefIdeal : Cert.SampleRefIdeal.Facts] [hPre_finite_sample : Cert.Pre_finite_sample.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_finite_sample m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_SampleTail [hSampleTail : Cert.SampleTail.Facts] : Prop :=
  ∀ (m : (ℓ : Loc Cert.SampleTail.nD Cert.SampleTail.τ Cert.SampleTail.sig) → Buf (Elt Bits) ℓ) (g : Dev Cert.SampleTail.nD → PrngReg), Pre_SampleTail m →
    θ_run (Cert.SampleTail.defs (F := Bits)) (onTc (τ := Cert.SampleTail.τ) (Cert.SampleTail.main (F := Bits))) ⟨m, fun _ => 0, g⟩ (fun r => (∀ c : Dev Cert.SampleTail.nD,
      r.2.mem ((c.tc : Thread Cert.SampleTail.nD Cert.SampleTail.τ).loc Cert.SampleTail.main_arg0) = m ((c.tc : Thread Cert.SampleTail.nD Cert.SampleTail.τ).loc Cert.SampleTail.main_arg0)
      ∧ r.2.mem ((c.tc : Thread Cert.SampleTail.nD Cert.SampleTail.τ).loc Cert.SampleTail.main_arg1) = m ((c.tc : Thread Cert.SampleTail.nD Cert.SampleTail.τ).loc Cert.SampleTail.main_arg1)
      ∧ r.2.mem ((c.tc : Thread Cert.SampleTail.nD Cert.SampleTail.τ).loc Cert.SampleTail.main_arg2) = m ((c.tc : Thread Cert.SampleTail.nD Cert.SampleTail.τ).loc Cert.SampleTail.main_arg2)
      ∧ r.2.mem ((c.tc : Thread Cert.SampleTail.nD Cert.SampleTail.τ).loc Cert.SampleTail.main_arg3) = m ((c.tc : Thread Cert.SampleTail.nD Cert.SampleTail.τ).loc Cert.SampleTail.main_arg3)
      ∧ r.2.mem ((c.tc : Thread Cert.SampleTail.nD Cert.SampleTail.τ).loc Cert.SampleTail.main_arg4) = m ((c.tc : Thread Cert.SampleTail.nD Cert.SampleTail.τ).loc Cert.SampleTail.main_arg4)
      ∧ r.2.mem ((c.tc : Thread Cert.SampleTail.nD Cert.SampleTail.τ).loc Cert.SampleTail.main_arg5) = m ((c.tc : Thread Cert.SampleTail.nD Cert.SampleTail.τ).loc Cert.SampleTail.main_arg5)
      ∧ r.2.mem ((c.tc : Thread Cert.SampleTail.nD Cert.SampleTail.τ).loc Cert.SampleTail.main_arg6) = m ((c.tc : Thread Cert.SampleTail.nD Cert.SampleTail.τ).loc Cert.SampleTail.main_arg6)
      ∧ r.2.mem ((c.tc : Thread Cert.SampleTail.nD Cert.SampleTail.τ).loc Cert.SampleTail.main_arg7) = m ((c.tc : Thread Cert.SampleTail.nD Cert.SampleTail.τ).loc Cert.SampleTail.main_arg7)
      ∧ r.2.mem ((c.tc : Thread Cert.SampleTail.nD Cert.SampleTail.τ).loc Cert.SampleTail.main_arg8) = m ((c.tc : Thread Cert.SampleTail.nD Cert.SampleTail.τ).loc Cert.SampleTail.main_arg8)
      ∧ r.2.mem ((c.tc : Thread Cert.SampleTail.nD Cert.SampleTail.τ).loc Cert.SampleTail.main_arg9) = m ((c.tc : Thread Cert.SampleTail.nD Cert.SampleTail.τ).loc Cert.SampleTail.main_arg9)
      ∧ r.2.mem ((c.tc : Thread Cert.SampleTail.nD Cert.SampleTail.τ).loc Cert.SampleTail.main_arg10) = m ((c.tc : Thread Cert.SampleTail.nD Cert.SampleTail.τ).loc Cert.SampleTail.main_arg10)
      ∧ r.2.mem ((c.tc : Thread Cert.SampleTail.nD Cert.SampleTail.τ).loc Cert.SampleTail.main_arg11) = m ((c.tc : Thread Cert.SampleTail.nD Cert.SampleTail.τ).loc Cert.SampleTail.main_arg11))
      ∧ r.2.sem = fun _ => 0)

def quiescent_SampleTailIdeal [hSampleTailIdeal : Cert.SampleTailIdeal.Facts] : Prop :=
  ∀ (m : (ℓ : Loc Cert.SampleTailIdeal.nD Cert.SampleTailIdeal.τ Cert.SampleTailIdeal.sig) → Buf (Elt Ideal) ℓ) (g : Dev Cert.SampleTailIdeal.nD → PrngReg), Pre_SampleTailIdeal m →
    θ_run (Cert.SampleTailIdeal.defs (F := Ideal)) (onTc (τ := Cert.SampleTailIdeal.τ) (Cert.SampleTailIdeal.main (F := Ideal))) ⟨m, fun _ => 0, g⟩ (fun r => (∀ c : Dev Cert.SampleTailIdeal.nD,
      r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
      ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
      ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
      ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
      ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
      ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
      ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
      ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
      ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
      ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
      ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10)
      ∧ r.2.mem ((c.tc : Thread Cert.SampleTailIdeal.nD Cert.SampleTailIdeal.τ).loc Cert.SampleTailIdeal.main_arg11) = m ((c.tc : Thread Cert.SampleTailIdeal.nD Cert.SampleTailIdeal.τ).loc Cert.SampleTailIdeal.main_arg11))
      ∧ r.2.sem = fun _ => 0)

def quiescent_SampleTailIdeal_pre_finite_sample_tail [hSampleTailIdeal : Cert.SampleTailIdeal.Facts] [hPre_finite_sample_tail : Cert.Pre_finite_sample_tail.Facts] : Prop :=
  ∀ (m : (ℓ : Loc Cert.SampleTailIdeal.nD Cert.SampleTailIdeal.τ Cert.SampleTailIdeal.sig) → Buf (Elt Ideal) ℓ) (g : Dev Cert.SampleTailIdeal.nD → PrngReg), Pre_SampleTailIdeal_finite_sample_tail m →
    θ_run (Cert.SampleTailIdeal.defs (F := Ideal)) (onTc (τ := Cert.SampleTailIdeal.τ) (Cert.SampleTailIdeal.main (F := Ideal))) ⟨m, fun _ => 0, g⟩ (fun r => (∀ c : Dev Cert.SampleTailIdeal.nD,
      r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
      ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
      ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
      ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
      ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
      ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
      ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
      ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
      ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
      ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
      ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10)
      ∧ r.2.mem ((c.tc : Thread Cert.SampleTailIdeal.nD Cert.SampleTailIdeal.τ).loc Cert.SampleTailIdeal.main_arg11) = m ((c.tc : Thread Cert.SampleTailIdeal.nD Cert.SampleTailIdeal.τ).loc Cert.SampleTailIdeal.main_arg11))
      ∧ r.2.sem = fun _ => 0)

def quiescent_SampleTailRefIdeal [hSampleTailRefIdeal : Cert.SampleTailRefIdeal.Facts] : Prop :=
  ∀ (m : (ℓ : Loc Cert.SampleTailRefIdeal.nD Cert.SampleTailRefIdeal.τ Cert.SampleTailRefIdeal.sig) → Buf (Elt Ideal) ℓ) (g : Dev Cert.SampleTailRefIdeal.nD → PrngReg), Pre_SampleTailRefIdeal m →
    θ_run (Cert.SampleTailRefIdeal.defs (F := Ideal)) (onTc (τ := Cert.SampleTailRefIdeal.τ) (Cert.SampleTailRefIdeal.main (F := Ideal))) ⟨m, fun _ => 0, g⟩ (fun r => (∀ c : Dev Cert.SampleTailRefIdeal.nD,
      r.2.mem ((c.tc : Thread Cert.SampleTailRefIdeal.nD Cert.SampleTailRefIdeal.τ).loc Cert.SampleTailRefIdeal.main_arg0) = m ((c.tc : Thread Cert.SampleTailRefIdeal.nD Cert.SampleTailRefIdeal.τ).loc Cert.SampleTailRefIdeal.main_arg0)
      ∧ r.2.mem ((c.tc : Thread Cert.SampleTailRefIdeal.nD Cert.SampleTailRefIdeal.τ).loc Cert.SampleTailRefIdeal.main_arg1) = m ((c.tc : Thread Cert.SampleTailRefIdeal.nD Cert.SampleTailRefIdeal.τ).loc Cert.SampleTailRefIdeal.main_arg1)
      ∧ r.2.mem ((c.tc : Thread Cert.SampleTailRefIdeal.nD Cert.SampleTailRefIdeal.τ).loc Cert.SampleTailRefIdeal.main_arg2) = m ((c.tc : Thread Cert.SampleTailRefIdeal.nD Cert.SampleTailRefIdeal.τ).loc Cert.SampleTailRefIdeal.main_arg2)
      ∧ r.2.mem ((c.tc : Thread Cert.SampleTailRefIdeal.nD Cert.SampleTailRefIdeal.τ).loc Cert.SampleTailRefIdeal.main_arg3) = m ((c.tc : Thread Cert.SampleTailRefIdeal.nD Cert.SampleTailRefIdeal.τ).loc Cert.SampleTailRefIdeal.main_arg3)
      ∧ r.2.mem ((c.tc : Thread Cert.SampleTailRefIdeal.nD Cert.SampleTailRefIdeal.τ).loc Cert.SampleTailRefIdeal.main_arg4) = m ((c.tc : Thread Cert.SampleTailRefIdeal.nD Cert.SampleTailRefIdeal.τ).loc Cert.SampleTailRefIdeal.main_arg4)
      ∧ r.2.mem ((c.tc : Thread Cert.SampleTailRefIdeal.nD Cert.SampleTailRefIdeal.τ).loc Cert.SampleTailRefIdeal.main_arg5) = m ((c.tc : Thread Cert.SampleTailRefIdeal.nD Cert.SampleTailRefIdeal.τ).loc Cert.SampleTailRefIdeal.main_arg5)
      ∧ r.2.mem ((c.tc : Thread Cert.SampleTailRefIdeal.nD Cert.SampleTailRefIdeal.τ).loc Cert.SampleTailRefIdeal.main_arg6) = m ((c.tc : Thread Cert.SampleTailRefIdeal.nD Cert.SampleTailRefIdeal.τ).loc Cert.SampleTailRefIdeal.main_arg6)
      ∧ r.2.mem ((c.tc : Thread Cert.SampleTailRefIdeal.nD Cert.SampleTailRefIdeal.τ).loc Cert.SampleTailRefIdeal.main_arg7) = m ((c.tc : Thread Cert.SampleTailRefIdeal.nD Cert.SampleTailRefIdeal.τ).loc Cert.SampleTailRefIdeal.main_arg7)
      ∧ r.2.mem ((c.tc : Thread Cert.SampleTailRefIdeal.nD Cert.SampleTailRefIdeal.τ).loc Cert.SampleTailRefIdeal.main_arg8) = m ((c.tc : Thread Cert.SampleTailRefIdeal.nD Cert.SampleTailRefIdeal.τ).loc Cert.SampleTailRefIdeal.main_arg8)
      ∧ r.2.mem ((c.tc : Thread Cert.SampleTailRefIdeal.nD Cert.SampleTailRefIdeal.τ).loc Cert.SampleTailRefIdeal.main_arg9) = m ((c.tc : Thread Cert.SampleTailRefIdeal.nD Cert.SampleTailRefIdeal.τ).loc Cert.SampleTailRefIdeal.main_arg9)
      ∧ r.2.mem ((c.tc : Thread Cert.SampleTailRefIdeal.nD Cert.SampleTailRefIdeal.τ).loc Cert.SampleTailRefIdeal.main_arg10) = m ((c.tc : Thread Cert.SampleTailRefIdeal.nD Cert.SampleTailRefIdeal.τ).loc Cert.SampleTailRefIdeal.main_arg10)
      ∧ r.2.mem ((c.tc : Thread Cert.SampleTailRefIdeal.nD Cert.SampleTailRefIdeal.τ).loc Cert.SampleTailRefIdeal.main_arg11) = m ((c.tc : Thread Cert.SampleTailRefIdeal.nD Cert.SampleTailRefIdeal.τ).loc Cert.SampleTailRefIdeal.main_arg11))
      ∧ r.2.sem = fun _ => 0)

def quiescent_SampleTailRefIdeal_pre_finite_sample_tail [hSampleTailRefIdeal : Cert.SampleTailRefIdeal.Facts] [hPre_finite_sample_tail : Cert.Pre_finite_sample_tail.Facts] : Prop :=
  ∀ (m : (ℓ : Loc Cert.SampleTailRefIdeal.nD Cert.SampleTailRefIdeal.τ Cert.SampleTailRefIdeal.sig) → Buf (Elt Ideal) ℓ) (g : Dev Cert.SampleTailRefIdeal.nD → PrngReg), Pre_SampleTailRefIdeal_finite_sample_tail m →
    θ_run (Cert.SampleTailRefIdeal.defs (F := Ideal)) (onTc (τ := Cert.SampleTailRefIdeal.τ) (Cert.SampleTailRefIdeal.main (F := Ideal))) ⟨m, fun _ => 0, g⟩ (fun r => (∀ c : Dev Cert.SampleTailRefIdeal.nD,
      r.2.mem ((c.tc : Thread Cert.SampleTailRefIdeal.nD Cert.SampleTailRefIdeal.τ).loc Cert.SampleTailRefIdeal.main_arg0) = m ((c.tc : Thread Cert.SampleTailRefIdeal.nD Cert.SampleTailRefIdeal.τ).loc Cert.SampleTailRefIdeal.main_arg0)
      ∧ r.2.mem ((c.tc : Thread Cert.SampleTailRefIdeal.nD Cert.SampleTailRefIdeal.τ).loc Cert.SampleTailRefIdeal.main_arg1) = m ((c.tc : Thread Cert.SampleTailRefIdeal.nD Cert.SampleTailRefIdeal.τ).loc Cert.SampleTailRefIdeal.main_arg1)
      ∧ r.2.mem ((c.tc : Thread Cert.SampleTailRefIdeal.nD Cert.SampleTailRefIdeal.τ).loc Cert.SampleTailRefIdeal.main_arg2) = m ((c.tc : Thread Cert.SampleTailRefIdeal.nD Cert.SampleTailRefIdeal.τ).loc Cert.SampleTailRefIdeal.main_arg2)
      ∧ r.2.mem ((c.tc : Thread Cert.SampleTailRefIdeal.nD Cert.SampleTailRefIdeal.τ).loc Cert.SampleTailRefIdeal.main_arg3) = m ((c.tc : Thread Cert.SampleTailRefIdeal.nD Cert.SampleTailRefIdeal.τ).loc Cert.SampleTailRefIdeal.main_arg3)
      ∧ r.2.mem ((c.tc : Thread Cert.SampleTailRefIdeal.nD Cert.SampleTailRefIdeal.τ).loc Cert.SampleTailRefIdeal.main_arg4) = m ((c.tc : Thread Cert.SampleTailRefIdeal.nD Cert.SampleTailRefIdeal.τ).loc Cert.SampleTailRefIdeal.main_arg4)
      ∧ r.2.mem ((c.tc : Thread Cert.SampleTailRefIdeal.nD Cert.SampleTailRefIdeal.τ).loc Cert.SampleTailRefIdeal.main_arg5) = m ((c.tc : Thread Cert.SampleTailRefIdeal.nD Cert.SampleTailRefIdeal.τ).loc Cert.SampleTailRefIdeal.main_arg5)
      ∧ r.2.mem ((c.tc : Thread Cert.SampleTailRefIdeal.nD Cert.SampleTailRefIdeal.τ).loc Cert.SampleTailRefIdeal.main_arg6) = m ((c.tc : Thread Cert.SampleTailRefIdeal.nD Cert.SampleTailRefIdeal.τ).loc Cert.SampleTailRefIdeal.main_arg6)
      ∧ r.2.mem ((c.tc : Thread Cert.SampleTailRefIdeal.nD Cert.SampleTailRefIdeal.τ).loc Cert.SampleTailRefIdeal.main_arg7) = m ((c.tc : Thread Cert.SampleTailRefIdeal.nD Cert.SampleTailRefIdeal.τ).loc Cert.SampleTailRefIdeal.main_arg7)
      ∧ r.2.mem ((c.tc : Thread Cert.SampleTailRefIdeal.nD Cert.SampleTailRefIdeal.τ).loc Cert.SampleTailRefIdeal.main_arg8) = m ((c.tc : Thread Cert.SampleTailRefIdeal.nD Cert.SampleTailRefIdeal.τ).loc Cert.SampleTailRefIdeal.main_arg8)
      ∧ r.2.mem ((c.tc : Thread Cert.SampleTailRefIdeal.nD Cert.SampleTailRefIdeal.τ).loc Cert.SampleTailRefIdeal.main_arg9) = m ((c.tc : Thread Cert.SampleTailRefIdeal.nD Cert.SampleTailRefIdeal.τ).loc Cert.SampleTailRefIdeal.main_arg9)
      ∧ r.2.mem ((c.tc : Thread Cert.SampleTailRefIdeal.nD Cert.SampleTailRefIdeal.τ).loc Cert.SampleTailRefIdeal.main_arg10) = m ((c.tc : Thread Cert.SampleTailRefIdeal.nD Cert.SampleTailRefIdeal.τ).loc Cert.SampleTailRefIdeal.main_arg10)
      ∧ r.2.mem ((c.tc : Thread Cert.SampleTailRefIdeal.nD Cert.SampleTailRefIdeal.τ).loc Cert.SampleTailRefIdeal.main_arg11) = m ((c.tc : Thread Cert.SampleTailRefIdeal.nD Cert.SampleTailRefIdeal.τ).loc Cert.SampleTailRefIdeal.main_arg11))
      ∧ r.2.sem = fun _ => 0)

def preserves_Sample_SampleIdeal : Prop :=
  True

def algebraic_SampleIdeal_SampleRefIdeal_pre_finite_sample [hSampleIdeal : Cert.SampleIdeal.Facts] [hSampleRefIdeal : Cert.SampleRefIdeal.Facts] [hPre_finite_sample : Cert.Pre_finite_sample.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_finite_sample m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)) →
    ∃ (v0 : (c : Dev Cert.SampleIdeal.nD) → Buf (Elt Ideal) ((c.tc : Thread Cert.SampleIdeal.nD Cert.SampleIdeal.τ).loc Cert.SampleIdeal.main_v7_0)) (v1 : (c : Dev Cert.SampleIdeal.nD) → Buf (Elt Ideal) ((c.tc : Thread Cert.SampleIdeal.nD Cert.SampleIdeal.τ).loc Cert.SampleIdeal.main_v7_1)) (v2 : (c : Dev Cert.SampleIdeal.nD) → Buf (Elt Ideal) ((c.tc : Thread Cert.SampleIdeal.nD Cert.SampleIdeal.τ).loc Cert.SampleIdeal.main_v7_2)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v7_0) = v0 c
          ∧ r.2.mem ((c.tc : Thread Cert.SampleIdeal.nD Cert.SampleIdeal.τ).loc Cert.SampleIdeal.main_v7_1) = v1 c
          ∧ r.2.mem ((c.tc : Thread Cert.SampleIdeal.nD Cert.SampleIdeal.τ).loc Cert.SampleIdeal.main_v7_2) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v369) = v0 c
          ∧ r.2.mem ((c.tc : Thread Cert.SampleRefIdeal.nD Cert.SampleRefIdeal.τ).loc Cert.SampleRefIdeal.main_v88) = v1 c
          ∧ r.2.mem ((c.tc : Thread Cert.SampleRefIdeal.nD Cert.SampleRefIdeal.τ).loc Cert.SampleRefIdeal.main_v370) = v2 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10))

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v16)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v16) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v68) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_SampleTail_SampleTailIdeal : Prop :=
  True

def algebraic_SampleTailIdeal_SampleTailRefIdeal_pre_finite_sample_tail [hSampleTailIdeal : Cert.SampleTailIdeal.Facts] [hSampleTailRefIdeal : Cert.SampleTailRefIdeal.Facts] [hPre_finite_sample_tail : Cert.Pre_finite_sample_tail.Facts] : Prop :=
  ∀ (m : (ℓ : Loc Cert.SampleTailIdeal.nD Cert.SampleTailIdeal.τ Cert.SampleTailIdeal.sig) → Buf (Elt Ideal) ℓ) (g : Dev Cert.SampleTailIdeal.nD → PrngReg)
    (m' : (ℓ : Loc Cert.SampleTailRefIdeal.nD Cert.SampleTailRefIdeal.τ Cert.SampleTailRefIdeal.sig) → Buf (Elt Ideal) ℓ) (g' : Dev Cert.SampleTailRefIdeal.nD → PrngReg), Pre_SampleTailIdeal_finite_sample_tail m →
    (∀ c : Dev Cert.SampleTailIdeal.nD,
      m' ((c.tc : Thread Cert.SampleTailRefIdeal.nD Cert.SampleTailRefIdeal.τ).loc Cert.SampleTailRefIdeal.main_arg0) = m ((c.tc : Thread Cert.SampleTailIdeal.nD Cert.SampleTailIdeal.τ).loc Cert.SampleTailIdeal.main_arg0)
      ∧ m' ((c.tc : Thread Cert.SampleTailRefIdeal.nD Cert.SampleTailRefIdeal.τ).loc Cert.SampleTailRefIdeal.main_arg1) = m ((c.tc : Thread Cert.SampleTailIdeal.nD Cert.SampleTailIdeal.τ).loc Cert.SampleTailIdeal.main_arg1)
      ∧ m' ((c.tc : Thread Cert.SampleTailRefIdeal.nD Cert.SampleTailRefIdeal.τ).loc Cert.SampleTailRefIdeal.main_arg2) = m ((c.tc : Thread Cert.SampleTailIdeal.nD Cert.SampleTailIdeal.τ).loc Cert.SampleTailIdeal.main_arg2)
      ∧ m' ((c.tc : Thread Cert.SampleTailRefIdeal.nD Cert.SampleTailRefIdeal.τ).loc Cert.SampleTailRefIdeal.main_arg3) = m ((c.tc : Thread Cert.SampleTailIdeal.nD Cert.SampleTailIdeal.τ).loc Cert.SampleTailIdeal.main_arg3)
      ∧ m' ((c.tc : Thread Cert.SampleTailRefIdeal.nD Cert.SampleTailRefIdeal.τ).loc Cert.SampleTailRefIdeal.main_arg4) = m ((c.tc : Thread Cert.SampleTailIdeal.nD Cert.SampleTailIdeal.τ).loc Cert.SampleTailIdeal.main_arg4)
      ∧ m' ((c.tc : Thread Cert.SampleTailRefIdeal.nD Cert.SampleTailRefIdeal.τ).loc Cert.SampleTailRefIdeal.main_arg5) = m ((c.tc : Thread Cert.SampleTailIdeal.nD Cert.SampleTailIdeal.τ).loc Cert.SampleTailIdeal.main_arg5)
      ∧ m' ((c.tc : Thread Cert.SampleTailRefIdeal.nD Cert.SampleTailRefIdeal.τ).loc Cert.SampleTailRefIdeal.main_arg6) = m ((c.tc : Thread Cert.SampleTailIdeal.nD Cert.SampleTailIdeal.τ).loc Cert.SampleTailIdeal.main_arg6)
      ∧ m' ((c.tc : Thread Cert.SampleTailRefIdeal.nD Cert.SampleTailRefIdeal.τ).loc Cert.SampleTailRefIdeal.main_arg7) = m ((c.tc : Thread Cert.SampleTailIdeal.nD Cert.SampleTailIdeal.τ).loc Cert.SampleTailIdeal.main_arg7)
      ∧ m' ((c.tc : Thread Cert.SampleTailRefIdeal.nD Cert.SampleTailRefIdeal.τ).loc Cert.SampleTailRefIdeal.main_arg8) = m ((c.tc : Thread Cert.SampleTailIdeal.nD Cert.SampleTailIdeal.τ).loc Cert.SampleTailIdeal.main_arg8)
      ∧ m' ((c.tc : Thread Cert.SampleTailRefIdeal.nD Cert.SampleTailRefIdeal.τ).loc Cert.SampleTailRefIdeal.main_arg9) = m ((c.tc : Thread Cert.SampleTailIdeal.nD Cert.SampleTailIdeal.τ).loc Cert.SampleTailIdeal.main_arg9)
      ∧ m' ((c.tc : Thread Cert.SampleTailRefIdeal.nD Cert.SampleTailRefIdeal.τ).loc Cert.SampleTailRefIdeal.main_arg10) = m ((c.tc : Thread Cert.SampleTailIdeal.nD Cert.SampleTailIdeal.τ).loc Cert.SampleTailIdeal.main_arg10)
      ∧ m' ((c.tc : Thread Cert.SampleTailRefIdeal.nD Cert.SampleTailRefIdeal.τ).loc Cert.SampleTailRefIdeal.main_arg11) = m ((c.tc : Thread Cert.SampleTailIdeal.nD Cert.SampleTailIdeal.τ).loc Cert.SampleTailIdeal.main_arg11)) →
    ∃ (v0 : (c : Dev Cert.SampleTailIdeal.nD) → Buf (Elt Ideal) ((c.tc : Thread Cert.SampleTailIdeal.nD Cert.SampleTailIdeal.τ).loc Cert.SampleTailIdeal.main_v15)),
      θ_run (Cert.SampleTailIdeal.defs (F := Ideal)) (onTc (τ := Cert.SampleTailIdeal.τ) (Cert.SampleTailIdeal.main (F := Ideal))) ⟨m, fun _ => 0, g⟩ (fun r => ∀ c : Dev Cert.SampleTailIdeal.nD,
          r.2.mem ((c.tc : Thread Cert.SampleTailIdeal.nD Cert.SampleTailIdeal.τ).loc Cert.SampleTailIdeal.main_v15) = v0 c
          ∧ r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
          ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
          ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
          ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
          ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
          ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
          ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
          ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
          ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
          ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
          ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10)
          ∧ r.2.mem ((c.tc : Thread Cert.SampleTailIdeal.nD Cert.SampleTailIdeal.τ).loc Cert.SampleTailIdeal.main_arg11) = m ((c.tc : Thread Cert.SampleTailIdeal.nD Cert.SampleTailIdeal.τ).loc Cert.SampleTailIdeal.main_arg11))
      ∧ θ_run (Cert.SampleTailRefIdeal.defs (F := Ideal)) (onTc (τ := Cert.SampleTailRefIdeal.τ) (Cert.SampleTailRefIdeal.main (F := Ideal))) ⟨m', fun _ => 0, g'⟩ (fun r => ∀ c : Dev Cert.SampleTailRefIdeal.nD,
          r.2.mem ((c.tc : Thread Cert.SampleTailRefIdeal.nD Cert.SampleTailRefIdeal.τ).loc Cert.SampleTailRefIdeal.main_v67) = v0 c
          ∧ r.2.mem ((c.tc : Thread Cert.SampleTailRefIdeal.nD Cert.SampleTailRefIdeal.τ).loc Cert.SampleTailRefIdeal.main_arg0) = m' ((c.tc : Thread Cert.SampleTailRefIdeal.nD Cert.SampleTailRefIdeal.τ).loc Cert.SampleTailRefIdeal.main_arg0)
          ∧ r.2.mem ((c.tc : Thread Cert.SampleTailRefIdeal.nD Cert.SampleTailRefIdeal.τ).loc Cert.SampleTailRefIdeal.main_arg1) = m' ((c.tc : Thread Cert.SampleTailRefIdeal.nD Cert.SampleTailRefIdeal.τ).loc Cert.SampleTailRefIdeal.main_arg1)
          ∧ r.2.mem ((c.tc : Thread Cert.SampleTailRefIdeal.nD Cert.SampleTailRefIdeal.τ).loc Cert.SampleTailRefIdeal.main_arg2) = m' ((c.tc : Thread Cert.SampleTailRefIdeal.nD Cert.SampleTailRefIdeal.τ).loc Cert.SampleTailRefIdeal.main_arg2)
          ∧ r.2.mem ((c.tc : Thread Cert.SampleTailRefIdeal.nD Cert.SampleTailRefIdeal.τ).loc Cert.SampleTailRefIdeal.main_arg3) = m' ((c.tc : Thread Cert.SampleTailRefIdeal.nD Cert.SampleTailRefIdeal.τ).loc Cert.SampleTailRefIdeal.main_arg3)
          ∧ r.2.mem ((c.tc : Thread Cert.SampleTailRefIdeal.nD Cert.SampleTailRefIdeal.τ).loc Cert.SampleTailRefIdeal.main_arg4) = m' ((c.tc : Thread Cert.SampleTailRefIdeal.nD Cert.SampleTailRefIdeal.τ).loc Cert.SampleTailRefIdeal.main_arg4)
          ∧ r.2.mem ((c.tc : Thread Cert.SampleTailRefIdeal.nD Cert.SampleTailRefIdeal.τ).loc Cert.SampleTailRefIdeal.main_arg5) = m' ((c.tc : Thread Cert.SampleTailRefIdeal.nD Cert.SampleTailRefIdeal.τ).loc Cert.SampleTailRefIdeal.main_arg5)
          ∧ r.2.mem ((c.tc : Thread Cert.SampleTailRefIdeal.nD Cert.SampleTailRefIdeal.τ).loc Cert.SampleTailRefIdeal.main_arg6) = m' ((c.tc : Thread Cert.SampleTailRefIdeal.nD Cert.SampleTailRefIdeal.τ).loc Cert.SampleTailRefIdeal.main_arg6)
          ∧ r.2.mem ((c.tc : Thread Cert.SampleTailRefIdeal.nD Cert.SampleTailRefIdeal.τ).loc Cert.SampleTailRefIdeal.main_arg7) = m' ((c.tc : Thread Cert.SampleTailRefIdeal.nD Cert.SampleTailRefIdeal.τ).loc Cert.SampleTailRefIdeal.main_arg7)
          ∧ r.2.mem ((c.tc : Thread Cert.SampleTailRefIdeal.nD Cert.SampleTailRefIdeal.τ).loc Cert.SampleTailRefIdeal.main_arg8) = m' ((c.tc : Thread Cert.SampleTailRefIdeal.nD Cert.SampleTailRefIdeal.τ).loc Cert.SampleTailRefIdeal.main_arg8)
          ∧ r.2.mem ((c.tc : Thread Cert.SampleTailRefIdeal.nD Cert.SampleTailRefIdeal.τ).loc Cert.SampleTailRefIdeal.main_arg9) = m' ((c.tc : Thread Cert.SampleTailRefIdeal.nD Cert.SampleTailRefIdeal.τ).loc Cert.SampleTailRefIdeal.main_arg9)
          ∧ r.2.mem ((c.tc : Thread Cert.SampleTailRefIdeal.nD Cert.SampleTailRefIdeal.τ).loc Cert.SampleTailRefIdeal.main_arg10) = m' ((c.tc : Thread Cert.SampleTailRefIdeal.nD Cert.SampleTailRefIdeal.τ).loc Cert.SampleTailRefIdeal.main_arg10)
          ∧ r.2.mem ((c.tc : Thread Cert.SampleTailRefIdeal.nD Cert.SampleTailRefIdeal.τ).loc Cert.SampleTailRefIdeal.main_arg11) = m' ((c.tc : Thread Cert.SampleTailRefIdeal.nD Cert.SampleTailRefIdeal.τ).loc Cert.SampleTailRefIdeal.main_arg11))

def Claim : Prop :=
  ∃ (hSample : Cert.Sample.Facts) (hSampleIdeal : Cert.SampleIdeal.Facts) (hSampleRefIdeal : Cert.SampleRefIdeal.Facts) (hTail : Cert.Tail.Facts) (hTailIdeal : Cert.TailIdeal.Facts) (hTailRefIdeal : Cert.TailRefIdeal.Facts) (hSampleTail : Cert.SampleTail.Facts) (hSampleTailIdeal : Cert.SampleTailIdeal.Facts) (hSampleTailRefIdeal : Cert.SampleTailRefIdeal.Facts) (hPre_finite_sample : Cert.Pre_finite_sample.Facts) (hPre_finite_tail : Cert.Pre_finite_tail.Facts) (hPre_finite_sample_tail : Cert.Pre_finite_sample_tail.Facts),
    quiescent_Sample (hSample := hSample)
    ∧ quiescent_SampleIdeal (hSampleIdeal := hSampleIdeal)
    ∧ quiescent_SampleIdeal_pre_finite_sample (hSampleIdeal := hSampleIdeal) (hPre_finite_sample := hPre_finite_sample)
    ∧ quiescent_SampleRefIdeal (hSampleRefIdeal := hSampleRefIdeal)
    ∧ quiescent_SampleRefIdeal_pre_finite_sample (hSampleRefIdeal := hSampleRefIdeal) (hPre_finite_sample := hPre_finite_sample)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_SampleTail (hSampleTail := hSampleTail)
    ∧ quiescent_SampleTailIdeal (hSampleTailIdeal := hSampleTailIdeal)
    ∧ quiescent_SampleTailIdeal_pre_finite_sample_tail (hSampleTailIdeal := hSampleTailIdeal) (hPre_finite_sample_tail := hPre_finite_sample_tail)
    ∧ quiescent_SampleTailRefIdeal (hSampleTailRefIdeal := hSampleTailRefIdeal)
    ∧ quiescent_SampleTailRefIdeal_pre_finite_sample_tail (hSampleTailRefIdeal := hSampleTailRefIdeal) (hPre_finite_sample_tail := hPre_finite_sample_tail)
    ∧ preserves_Sample_SampleIdeal
    ∧ algebraic_SampleIdeal_SampleRefIdeal_pre_finite_sample (hSampleIdeal := hSampleIdeal) (hSampleRefIdeal := hSampleRefIdeal) (hPre_finite_sample := hPre_finite_sample)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_SampleTail_SampleTailIdeal
    ∧ algebraic_SampleTailIdeal_SampleTailRefIdeal_pre_finite_sample_tail (hSampleTailIdeal := hSampleTailIdeal) (hSampleTailRefIdeal := hSampleTailRefIdeal) (hPre_finite_sample_tail := hPre_finite_sample_tail)
-- ==== Pre_finite_sample.lean ====
abbrev S128x4x1024 : Shape := ⟨3, ![128, 4, 1024]⟩
abbrev S1x128x4x128x128 : Shape := ⟨5, ![1, 128, 4, 128, 128]⟩
abbrev S1x128x30x512 : Shape := ⟨4, ![1, 128, 30, 512]⟩
abbrev S1x1024 : Shape := ⟨2, ![1, 1024]⟩
abbrev S1x1024x3072 : Shape := ⟨3, ![1, 1024, 3072]⟩
abbrev S2x512 : Shape := ⟨2, ![2, 512]⟩
abbrev S1x128 : Shape := ⟨2, ![1, 128]⟩
abbrev S1x31x512 : Shape := ⟨3, ![1, 31, 512]⟩
abbrev S1x512 : Shape := ⟨2, ![1, 512]⟩
abbrev S_ : Shape := ⟨0, ![]⟩

class Facts : Prop where
  bcast_S_S128x4x1024 : S_.BroadcastsInDim S128x4x1024 (![] : Fin 0 → Fin S128x4x1024.rank)
  bcast_S_S1x128x4x128x128 : S_.BroadcastsInDim S1x128x4x128x128 (![] : Fin 0 → Fin S1x128x4x128x128.rank)
  bcast_S_S1x128x30x512 : S_.BroadcastsInDim S1x128x30x512 (![] : Fin 0 → Fin S1x128x30x512.rank)
  bcast_S_S1x1024 : S_.BroadcastsInDim S1x1024 (![] : Fin 0 → Fin S1x1024.rank)
  bcast_S_S1x1024x3072 : S_.BroadcastsInDim S1x1024x3072 (![] : Fin 0 → Fin S1x1024x3072.rank)
  bcast_S_S2x512 : S_.BroadcastsInDim S2x512 (![] : Fin 0 → Fin S2x512.rank)
  bcast_S_S1x128 : S_.BroadcastsInDim S1x128 (![] : Fin 0 → Fin S1x128.rank)
  bcast_S_S1x31x512 : S_.BroadcastsInDim S1x31x512 (![] : Fin 0 → Fin S1x31x512.rank)
  bcast_S_S1x512 : S_.BroadcastsInDim S1x512 (![] : Fin 0 → Fin S1x512.rank)

variable [Facts]

def fn_part1 {F : FTy → Type} [FloatOps F] (main_arg6 : FVec F S1x128 .f32) (main_arg7 : FVec F S1x31x512 .f32) (main_arg8 : FVec F S1x512 .f32) (main_arg9 : FVec F S1x512 .f32) (main_arg10 : FVec F S1x512 .f32) (main_v2 : IVec S128x4x1024 1) (main_v5 : IVec S1x128x4x128x128 1) (main_v8 : IVec S1x128x30x512 1) (main_v11 : IVec S1x1024 1) (main_v14 : IVec S1x1024x3072 1) (main_v17 : IVec S2x512 1) : IVec S128x4x1024 1 × IVec S1x128x4x128x128 1 × IVec S1x128x30x512 1 × IVec S1x1024 1 × IVec S1x1024x3072 1 × IVec S2x512 1 × IVec S1x128 1 × IVec S1x31x512 1 × IVec S1x512 1 × IVec S1x512 1 × IVec S1x512 1 :=
  let main_v18 : FVec F S1x128 .f32 := Host.absf main_arg6
  let main_cst_5 : FVec F S_ .f32 := constant S_ .f32 0x7F800000#32
  let main_v19 : FVec F S1x128 .f32 := broadcastInDim S1x128 ![] bcast_S_S1x128 main_cst_5
  let main_v20 : IVec S1x128 1 := cmpf .olt main_v18 main_v19
  let main_v21 : FVec F S1x31x512 .f32 := Host.absf main_arg7
  let main_cst_6 : FVec F S_ .f32 := constant S_ .f32 0x7F800000#32
  let main_v22 : FVec F S1x31x512 .f32 := broadcastInDim S1x31x512 ![] bcast_S_S1x31x512 main_cst_6
  let main_v23 : IVec S1x31x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x512 .f32 := Host.absf main_arg9
  let main_cst_8 : FVec F S_ .f32 := constant S_ .f32 0x7F800000#32
  let main_v28 : FVec F S1x512 .f32 := broadcastInDim S1x512 ![] bcast_S_S1x512 main_cst_8
  let main_v29 : IVec S1x512 1 := cmpf .olt main_v27 main_v28
  let main_v30 : FVec F S1x512 .f32 := Host.absf main_arg10
  let main_cst_9 : FVec F S_ .f32 := constant S_ .f32 0x7F800000#32
  let main_v31 : FVec F S1x512 .f32 := broadcastInDim S1x512 ![] bcast_S_S1x512 main_cst_9
  let main_v32 : IVec S1x512 1 := cmpf .olt main_v30 main_v31
  (main_v2, main_v5, main_v8, main_v11, main_v14, main_v17, main_v20, main_v23, main_v26, main_v29, main_v32)

def fn {F : FTy → Type} [FloatOps F] (main_arg0 : FVec F S128x4x1024 .f32) (main_arg1 : FVec F S1x128x4x128x128 .f32) (main_arg2 : FVec F S1x128x30x512 .f32) (main_arg3 : FVec F S1x1024 .f32) (main_arg4 : FVec F S1x1024x3072 .f32) (main_arg5 : FVec F S2x512 .f32) (main_arg6 : FVec F S1x128 .f32) (main_arg7 : FVec F S1x31x512 .f32) (main_arg8 : FVec F S1x512 .f32) (main_arg9 : FVec F S1x512 .f32) (main_arg10 : FVec F S1x512 .f32) : IVec S128x4x1024 1 × IVec S1x128x4x128x128 1 × IVec S1x128x30x512 1 × IVec S1x1024 1 × IVec S1x1024x3072 1 × IVec S2x512 1 × IVec S1x128 1 × IVec S1x31x512 1 × IVec S1x512 1 × IVec S1x512 1 × IVec S1x512 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_v3 : FVec F S1x128x4x128x128 .f32 := Host.absf main_arg1
  let main_cst_0 : FVec F S_ .f32 := constant S_ .f32 0x7F800000#32
  let main_v4 : FVec F S1x128x4x128x128 .f32 := broadcastInDim S1x128x4x128x128 ![] bcast_S_S1x128x4x128x128 main_cst_0
  let main_v5 : IVec S1x128x4x128x128 1 := cmpf .olt main_v3 main_v4
  let main_v6 : FVec F S1x128x30x512 .f32 := Host.absf main_arg2
  let main_cst_1 : FVec F S_ .f32 := constant S_ .f32 0x7F800000#32
  let main_v7 : FVec F S1x128x30x512 .f32 := broadcastInDim S1x128x30x512 ![] bcast_S_S1x128x30x512 main_cst_1
  let main_v8 : IVec S1x128x30x512 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x3072 .f32 := Host.absf main_arg4
  let main_cst_3 : FVec F S_ .f32 := constant S_ .f32 0x7F800000#32
  let main_v13 : FVec F S1x1024x3072 .f32 := broadcastInDim S1x1024x3072 ![] bcast_S_S1x1024x3072 main_cst_3
  let main_v14 : IVec S1x1024x3072 1 := cmpf .olt main_v12 main_v13
  let main_v15 : FVec F S2x512 .f32 := Host.absf main_arg5
  let main_cst_4 : FVec F S_ .f32 := constant S_ .f32 0x7F800000#32
  let main_v16 : FVec F S2x512 .f32 := broadcastInDim S2x512 ![] bcast_S_S2x512 main_cst_4
  let main_v17 : IVec S2x512 1 := cmpf .olt main_v15 main_v16
  fn_part1 (F := F) main_arg6 main_arg7 main_arg8 main_arg9 main_arg10 main_v2 main_v5 main_v8 main_v11 main_v14 main_v17
-- ==== Pre_finite_sample_tail.lean ====
abbrev S128x4x1024 : Shape := ⟨3, ![128, 4, 1024]⟩
abbrev S512x1024 : Shape := ⟨2, ![512, 1024]⟩
abbrev S1x128x4x256 : Shape := ⟨4, ![1, 128, 4, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩

class Facts : Prop where
  bcast_S_S128x4x1024 : S_.BroadcastsInDim S128x4x1024 (![] : Fin 0 → Fin S128x4x1024.rank)
  bitsLt_bf16_f32 : FTy.bits .bf16 < FTy.bits .f32
  bcast_S_S512x1024 : S_.BroadcastsInDim S512x1024 (![] : Fin 0 → Fin S512x1024.rank)
  bcast_S_S1x128x4x256 : S_.BroadcastsInDim S1x128x4x256 (![] : Fin 0 → Fin S1x128x4x256.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1x256x1024 : S_.BroadcastsInDim S1x256x1024 (![] : Fin 0 → Fin S1x256x1024.rank)
  bcast_S_S1024 : S_.BroadcastsInDim S1024 (![] : Fin 0 → Fin S1024.rank)

variable [Facts]

def fn_part2 {F : FTy → Type} [FloatOps F] (main_v2 : IVec S128x4x1024 1) (main_v6 : IVec S512x1024 1) (main_v9 : IVec S1x128x4x256 1) (main_v12 : IVec S1x1024x1024 1) (main_v15 : IVec S1x1024 1) (main_v18 : IVec S1x1024x2816 1) (main_v21 : IVec S1x1024x2816 1) (main_v24 : IVec S1x2816x1024 1) (main_v27 : IVec S1x1024 1) (main_v30 : IVec S1x1024x1024 1) (main_v33 : IVec S1x256x1024 1) (main_v34 : FVec F S1024 .f32) (main_v35 : FVec F S1024 .f32) : IVec S128x4x1024 1 × IVec S512x1024 1 × IVec S1x128x4x256 1 × IVec S1x1024x1024 1 × IVec S1x1024 1 × IVec S1x1024x2816 1 × IVec S1x1024x2816 1 × IVec S1x2816x1024 1 × IVec S1x1024 1 × IVec S1x1024x1024 1 × IVec S1x256x1024 1 × IVec S1024 1 :=
  let main_v36 : IVec S1024 1 := cmpf .olt main_v34 main_v35
  (main_v2, main_v6, main_v9, main_v12, main_v15, main_v18, main_v21, main_v24, main_v27, main_v30, main_v33, main_v36)

def fn_part1 {F : FTy → Type} [FloatOps F] (main_arg6 : FVec F S1x1024x2816 .f32) (main_arg7 : FVec F S1x2816x1024 .f32) (main_arg8 : FVec F S1x1024 .f32) (main_arg9 : FVec F S1x1024x1024 .f32) (main_arg10 : FVec F S1x256x1024 .f32) (main_arg11 : FVec F S1024 .f32) (main_v2 : IVec S128x4x1024 1) (main_v6 : IVec S512x1024 1) (main_v9 : IVec S1x128x4x256 1) (main_v12 : IVec S1x1024x1024 1) (main_v15 : IVec S1x1024 1) (main_v16 : FVec F S1x1024x2816 .f32) (main_v17 : FVec F S1x1024x2816 .f32) : IVec S128x4x1024 1 × IVec S512x1024 1 × IVec S1x128x4x256 1 × IVec S1x1024x1024 1 × IVec S1x1024 1 × IVec S1x1024x2816 1 × IVec S1x1024x2816 1 × IVec S1x2816x1024 1 × IVec S1x1024 1 × IVec S1x1024x1024 1 × IVec S1x256x1024 1 × IVec S1024 1 :=
  let main_v18 : IVec S1x1024x2816 1 := cmpf .olt main_v16 main_v17
  let main_v19 : FVec F S1x1024x2816 .f32 := Host.absf main_arg6
  let main_cst_5 : FVec F S_ .f32 := constant S_ .f32 0x7F800000#32
  let main_v20 : FVec F S1x1024x2816 .f32 := broadcastInDim S1x1024x2816 ![] bcast_S_S1x1024x2816 main_cst_5
  let main_v21 : IVec S1x1024x2816 1 := cmpf .olt main_v19 main_v20
  let main_v22 : FVec F S1x2816x1024 .f32 := Host.absf main_arg7
  let main_cst_6 : FVec F S_ .f32 := constant S_ .f32 0x7F800000#32
  let main_v23 : FVec F S1x2816x1024 .f32 := broadcastInDim S1x2816x1024 ![] bcast_S_S1x2816x1024 main_cst_6
  let main_v24 : IVec S1x2816x1024 1 := cmpf .olt main_v22 main_v23
  let main_v25 : FVec F S1x1024 .f32 := Host.absf main_arg8
  let main_cst_7 : FVec F S_ .f32 := constant S_ .f32 0x7F800000#32
  let main_v26 : FVec F S1x1024 .f32 := broadcastInDim S1x1024 ![] bcast_S_S1x1024 main_cst_7
  let main_v27 : IVec S1x1024 1 := cmpf .olt main_v25 main_v26
  let main_v28 : FVec F S1x1024x1024 .f32 := Host.absf main_arg9
  let main_cst_8 : FVec F S_ .f32 := constant S_ .f32 0x7F800000#32
  let main_v29 : FVec F S1x1024x1024 .f32 := broadcastInDim S1x1024x1024 ![] bcast_S_S1x1024x1024 main_cst_8
  let main_v30 : IVec S1x1024x1024 1 := cmpf .olt main_v28 main_v29
  let main_v31 : FVec F S1x256x1024 .f32 := Host.absf main_arg10
  let main_cst_9 : FVec F S_ .f32 := constant S_ .f32 0x7F800000#32
  let main_v32 : FVec F S1x256x1024 .f32 := broadcastInDim S1x256x1024 ![] bcast_S_S1x256x1024 main_cst_9
  let main_v33 : IVec S1x256x1024 1 := cmpf .olt main_v31 main_v32
  let main_v34 : FVec F S1024 .f32 := Host.absf main_arg11
  let main_cst_10 : FVec F S_ .f32 := constant S_ .f32 0x7F800000#32
  let main_v35 : FVec F S1024 .f32 := broadcastInDim S1024 ![] bcast_S_S1024 main_cst_10
  fn_part2 (F := F) main_v2 main_v6 main_v9 main_v12 main_v15 main_v18 main_v21 main_v24 main_v27 main_v30 main_v33 main_v34 main_v35

def fn {F : FTy → Type} [FloatOps F] (main_arg0 : FVec F S128x4x1024 .f32) (main_arg1 : FVec F S512x1024 .bf16) (main_arg2 : FVec F S1x128x4x256 .f32) (main_arg3 : FVec F S1x1024x1024 .f32) (main_arg4 : FVec F S1x1024 .f32) (main_arg5 : FVec F S1x1024x2816 .f32) (main_arg6 : FVec F S1x1024x2816 .f32) (main_arg7 : FVec F S1x2816x1024 .f32) (main_arg8 : FVec F S1x1024 .f32) (main_arg9 : FVec F S1x1024x1024 .f32) (main_arg10 : FVec F S1x256x1024 .f32) (main_arg11 : FVec F S1024 .f32) : IVec S128x4x1024 1 × IVec S512x1024 1 × IVec S1x128x4x256 1 × IVec S1x1024x1024 1 × IVec S1x1024 1 × IVec S1x1024x2816 1 × IVec S1x1024x2816 1 × IVec S1x2816x1024 1 × IVec S1x1024 1 × IVec S1x1024x1024 1 × IVec S1x256x1024 1 × IVec S1024 1 :=
  let main_v0 : FVec F S128x4x1024 .f32 := Host.absf main_arg0
  let main_cst : FVec F S_ .f32 := constant S_ .f32 0x7F800000#32
  let main_v1 : FVec F S128x4x1024 .f32 := broadcastInDim S128x4x1024 ![] bcast_S_S128x4x1024 main_cst
  let main_v2 : IVec S128x4x1024 1 := cmpf .olt main_v0 main_v1
  let main_v3 : FVec F S512x1024 .f32 := (extf .f32 · bitsLt_bf16_f32) main_arg1
  let main_v4 : FVec F S512x1024 .f32 := Host.absf main_v3
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_v7 : FVec F S1x128x4x256 .f32 := Host.absf main_arg2
  let main_cst_1 : FVec F S_ .f32 := constant S_ .f32 0x7F800000#32
  let main_v8 : FVec F S1x128x4x256 .f32 := broadcastInDim S1x128x4x256 ![] bcast_S_S1x128x4x256 main_cst_1
  let main_v9 : IVec S1x128x4x256 1 := cmpf .olt main_v7 main_v8
  let main_v10 : FVec F S1x1024x1024 .f32 := Host.absf main_arg3
  let main_cst_2 : FVec F S_ .f32 := constant S_ .f32 0x7F800000#32
  let main_v11 : FVec F S1x1024x1024 .f32 := broadcastInDim S1x1024x1024 ![] bcast_S_S1x1024x1024 main_cst_2
  let main_v12 : IVec S1x1024x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x1024x2816 .f32 := Host.absf main_arg5
  let main_cst_4 : FVec F S_ .f32 := constant S_ .f32 0x7F800000#32
  let main_v17 : FVec F S1x1024x2816 .f32 := broadcastInDim S1x1024x2816 ![] bcast_S_S1x1024x2816 main_cst_4
  fn_part1 (F := F) main_arg6 main_arg7 main_arg8 main_arg9 main_arg10 main_arg11 main_v2 main_v6 main_v9 main_v12 main_v15 main_v16 main_v17
-- ==== Pre_finite_tail.lean ====
abbrev S8x2048x1024 : Shape := ⟨3, ![8, 2048, 1024]⟩
abbrev S1x8x2048x256 : Shape := ⟨4, ![1, 8, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  bitsLt_bf16_f32 : FTy.bits .bf16 < FTy.bits .f32
  bcast_S_S1x8x2048x256 : S_.BroadcastsInDim S1x8x2048x256 (![] : Fin 0 → Fin S1x8x2048x256.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1x256x1024 : S_.BroadcastsInDim S1x256x1024 (![] : Fin 0 → Fin S1x256x1024.rank)
  bcast_S_S1024 : S_.BroadcastsInDim S1024 (![] : Fin 0 → Fin S1024.rank)

variable [Facts]

def fn_part2 {F : FTy → Type} [FloatOps F] (main_v2 : IVec S8x2048x1024 1) (main_v6 : IVec S8x2048x1024 1) (main_v9 : IVec S1x8x2048x256 1) (main_v12 : IVec S1x1024x1024 1) (main_v15 : IVec S1x1024 1) (main_v18 : IVec S1x1024x2816 1) (main_v21 : IVec S1x1024x2816 1) (main_v24 : IVec S1x2816x1024 1) (main_v27 : IVec S1x1024 1) (main_v30 : IVec S1x1024x1024 1) (main_v33 : IVec S1x256x1024 1) (main_v34 : FVec F S1024 .f32) (main_v35 : FVec F S1024 .f32) : IVec S8x2048x1024 1 × IVec S8x2048x1024 1 × IVec S1x8x2048x256 1 × IVec S1x1024x1024 1 × IVec S1x1024 1 × IVec S1x1024x2816 1 × IVec S1x1024x2816 1 × IVec S1x2816x1024 1 × IVec S1x1024 1 × IVec S1x1024x1024 1 × IVec S1x256x1024 1 × IVec S1024 1 :=
  let main_v36 : IVec S1024 1 := cmpf .olt main_v34 main_v35
  (main_v2, main_v6, main_v9, main_v12, main_v15, main_v18, main_v21, main_v24, main_v27, main_v30, main_v33, main_v36)

def fn_part1 {F : FTy → Type} [FloatOps F] (main_arg6 : FVec F S1x1024x2816 .f32) (main_arg7 : FVec F S1x2816x1024 .f32) (main_arg8 : FVec F S1x1024 .f32) (main_arg9 : FVec F S1x1024x1024 .f32) (main_arg10 : FVec F S1x256x1024 .f32) (main_arg11 : FVec F S1024 .f32) (main_v2 : IVec S8x2048x1024 1) (main_v6 : IVec S8x2048x1024 1) (main_v9 : IVec S1x8x2048x256 1) (main_v12 : IVec S1x1024x1024 1) (main_v15 : IVec S1x1024 1) (main_v16 : FVec F S1x1024x2816 .f32) (main_v17 : FVec F S1x1024x2816 .f32) : IVec S8x2048x1024 1 × IVec S8x2048x1024 1 × IVec S1x8x2048x256 1 × IVec S1x1024x1024 1 × IVec S1x1024 1 × IVec S1x1024x2816 1 × IVec S1x1024x2816 1 × IVec S1x2816x1024 1 × IVec S1x1024 1 × IVec S1x1024x1024 1 × IVec S1x256x1024 1 × IVec S1024 1 :=
  let main_v18 : IVec S1x1024x2816 1 := cmpf .olt main_v16 main_v17
  let main_v19 : FVec F S1x1024x2816 .f32 := Host.absf main_arg6
  let main_cst_5 : FVec F S_ .f32 := constant S_ .f32 0x7F800000#32
  let main_v20 : FVec F S1x1024x2816 .f32 := broadcastInDim S1x1024x2816 ![] bcast_S_S1x1024x2816 main_cst_5
  let main_v21 : IVec S1x1024x2816 1 := cmpf .olt main_v19 main_v20
  let main_v22 : FVec F S1x2816x1024 .f32 := Host.absf main_arg7
  let main_cst_6 : FVec F S_ .f32 := constant S_ .f32 0x7F800000#32
  let main_v23 : FVec F S1x2816x1024 .f32 := broadcastInDim S1x2816x1024 ![] bcast_S_S1x2816x1024 main_cst_6
  let main_v24 : IVec S1x2816x1024 1 := cmpf .olt main_v22 main_v23
  let main_v25 : FVec F S1x1024 .f32 := Host.absf main_arg8
  let main_cst_7 : FVec F S_ .f32 := constant S_ .f32 0x7F800000#32
  let main_v26 : FVec F S1x1024 .f32 := broadcastInDim S1x1024 ![] bcast_S_S1x1024 main_cst_7
  let main_v27 : IVec S1x1024 1 := cmpf .olt main_v25 main_v26
  let main_v28 : FVec F S1x1024x1024 .f32 := Host.absf main_arg9
  let main_cst_8 : FVec F S_ .f32 := constant S_ .f32 0x7F800000#32
  let main_v29 : FVec F S1x1024x1024 .f32 := broadcastInDim S1x1024x1024 ![] bcast_S_S1x1024x1024 main_cst_8
  let main_v30 : IVec S1x1024x1024 1 := cmpf .olt main_v28 main_v29
  let main_v31 : FVec F S1x256x1024 .f32 := Host.absf main_arg10
  let main_cst_9 : FVec F S_ .f32 := constant S_ .f32 0x7F800000#32
  let main_v32 : FVec F S1x256x1024 .f32 := broadcastInDim S1x256x1024 ![] bcast_S_S1x256x1024 main_cst_9
  let main_v33 : IVec S1x256x1024 1 := cmpf .olt main_v31 main_v32
  let main_v34 : FVec F S1024 .f32 := Host.absf main_arg11
  let main_cst_10 : FVec F S_ .f32 := constant S_ .f32 0x7F800000#32
  let main_v35 : FVec F S1024 .f32 := broadcastInDim S1024 ![] bcast_S_S1024 main_cst_10
  fn_part2 (F := F) main_v2 main_v6 main_v9 main_v12 main_v15 main_v18 main_v21 main_v24 main_v27 main_v30 main_v33 main_v34 main_v35

def fn {F : FTy → Type} [FloatOps F] (main_arg0 : FVec F S8x2048x1024 .f32) (main_arg1 : FVec F S8x2048x1024 .bf16) (main_arg2 : FVec F S1x8x2048x256 .f32) (main_arg3 : FVec F S1x1024x1024 .f32) (main_arg4 : FVec F S1x1024 .f32) (main_arg5 : FVec F S1x1024x2816 .f32) (main_arg6 : FVec F S1x1024x2816 .f32) (main_arg7 : FVec F S1x2816x1024 .f32) (main_arg8 : FVec F S1x1024 .f32) (main_arg9 : FVec F S1x1024x1024 .f32) (main_arg10 : FVec F S1x256x1024 .f32) (main_arg11 : FVec F S1024 .f32) : IVec S8x2048x1024 1 × IVec S8x2048x1024 1 × IVec S1x8x2048x256 1 × IVec S1x1024x1024 1 × IVec S1x1024 1 × IVec S1x1024x2816 1 × IVec S1x1024x2816 1 × IVec S1x2816x1024 1 × IVec S1x1024 1 × IVec S1x1024x1024 1 × IVec S1x256x1024 1 × IVec S1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x2048x1024 .f32 := (extf .f32 · bitsLt_bf16_f32) main_arg1
  let main_v4 : FVec F S8x2048x1024 .f32 := Host.absf main_v3
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_v7 : FVec F S1x8x2048x256 .f32 := Host.absf main_arg2
  let main_cst_1 : FVec F S_ .f32 := constant S_ .f32 0x7F800000#32
  let main_v8 : FVec F S1x8x2048x256 .f32 := broadcastInDim S1x8x2048x256 ![] bcast_S_S1x8x2048x256 main_cst_1
  let main_v9 : IVec S1x8x2048x256 1 := cmpf .olt main_v7 main_v8
  let main_v10 : FVec F S1x1024x1024 .f32 := Host.absf main_arg3
  let main_cst_2 : FVec F S_ .f32 := constant S_ .f32 0x7F800000#32
  let main_v11 : FVec F S1x1024x1024 .f32 := broadcastInDim S1x1024x1024 ![] bcast_S_S1x1024x1024 main_cst_2
  let main_v12 : IVec S1x1024x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x1024x2816 .f32 := Host.absf main_arg5
  let main_cst_4 : FVec F S_ .f32 := constant S_ .f32 0x7F800000#32
  let main_v17 : FVec F S1x1024x2816 .f32 := broadcastInDim S1x1024x2816 ![] bcast_S_S1x1024x2816 main_cst_4
  fn_part1 (F := F) main_arg6 main_arg7 main_arg8 main_arg9 main_arg10 main_arg11 main_v2 main_v6 main_v9 main_v12 main_v15 main_v16 main_v17
-- ==== Sample.lean ====
abbrev S128x4x1024 : Shape := ⟨3, ![128, 4, 1024]⟩
abbrev S1x128x4x128x128 : Shape := ⟨5, ![1, 128, 4, 128, 128]⟩
abbrev S1x128x30x512 : Shape := ⟨4, ![1, 128, 30, 512]⟩
abbrev S1x1024 : Shape := ⟨2, ![1, 1024]⟩
abbrev S1x1024x3072 : Shape := ⟨3, ![1, 1024, 3072]⟩
abbrev S2x512 : Shape := ⟨2, ![2, 512]⟩
abbrev S1x128 : Shape := ⟨2, ![1, 128]⟩
abbrev S1x31x512 : Shape := ⟨3, ![1, 31, 512]⟩
abbrev S1x512 : Shape := ⟨2, ![1, 512]⟩
abbrev S1024x3072 : Shape := ⟨2, ![1024, 3072]⟩
abbrev S31x512 : Shape := ⟨2, ![31, 512]⟩
abbrev S512x1024 : Shape := ⟨2, ![512, 1024]⟩
abbrev S128x4x128x128 : Shape := ⟨4, ![128, 4, 128, 128]⟩
abbrev S128x30x512 : Shape := ⟨3, ![128, 30, 512]⟩
abbrev S30x128x512 : Shape := ⟨3, ![30, 128, 512]⟩
abbrev S128x1024 : Shape := ⟨2, ![128, 1024]⟩
abbrev S32x4x128x128 : Shape := ⟨4, ![32, 4, 128, 128]⟩
abbrev S30x32x512 : Shape := ⟨3, ![30, 32, 512]⟩
abbrev S4x128x128 : Shape := ⟨3, ![4, 128, 128]⟩
abbrev S128 : Shape := ⟨1, ![128]⟩
abbrev S128x1 : Shape := ⟨2, ![128, 1]⟩
abbrev S512 : Shape := ⟨1, ![512]⟩
abbrev S1024x512 : Shape := ⟨2, ![1024, 512]⟩
abbrev S128x512 : Shape := ⟨2, ![128, 512]⟩
abbrev S256x128 : Shape := ⟨2, ![256, 128]⟩
abbrev S256x512 : Shape := ⟨2, ![256, 512]⟩
abbrev S128x128 : Shape := ⟨2, ![128, 128]⟩
abbrev S1x128x128 : Shape := ⟨3, ![1, 128, 128]⟩
abbrev S1x32x128 : Shape := ⟨3, ![1, 32, 128]⟩
abbrev S32x128 : Shape := ⟨2, ![32, 128]⟩
abbrev S16x16 : Shape := ⟨2, ![16, 16]⟩
abbrev S16x128 : Shape := ⟨2, ![16, 128]⟩
abbrev S1x1x128x128 : Shape := ⟨4, ![1, 1, 128, 128]⟩
abbrev S16x512 : Shape := ⟨2, ![16, 512]⟩
abbrev S32x512 : Shape := ⟨2, ![32, 512]⟩
abbrev S1x32x512 : Shape := ⟨3, ![1, 32, 512]⟩

abbrev nBuf : Space → Nat
  | .hbm => 21
  | .vmem => 23
  | .smem => 0
  | _ => 0

abbrev bufTy : (tb : Table) → Fin (tcTables nBuf tb) → BufTy
  | .hbm, ⟨0, _⟩ => ⟨S128x4x1024, .f32⟩
  | .hbm, ⟨1, _⟩ => ⟨S1x128x4x128x128, .f32⟩
  | .hbm, ⟨2, _⟩ => ⟨S1x128x30x512, .f32⟩
  | .hbm, ⟨3, _⟩ => ⟨S1x1024, .f32⟩
  | .hbm, ⟨4, _⟩ => ⟨S1x1024x3072, .f32⟩
  | .hbm, ⟨5, _⟩ => ⟨S2x512, .f32⟩
  | .hbm, ⟨6, _⟩ => ⟨S1x128, .f32⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024x3072, .f32⟩
  | .hbm, ⟨12, _⟩ => ⟨S1024x3072, .bf16⟩
  | .hbm, ⟨13, _⟩ => ⟨S31x512, .f32⟩
  | .hbm, ⟨14, _⟩ => ⟨S512x1024, .f32⟩
  | .hbm, ⟨15, _⟩ => ⟨S128x4x128x128, .f32⟩
  | .hbm, ⟨16, _⟩ => ⟨S128x30x512, .f32⟩
  | .hbm, ⟨17, _⟩ => ⟨S30x128x512, .f32⟩
  | .hbm, ⟨18, _⟩ => ⟨S512x1024, .bf16⟩
  | .hbm, ⟨19, _⟩ => ⟨S128x4x128x128, .f32⟩
  | .hbm, ⟨20, _⟩ => ⟨S30x128x512, .f32⟩
  | .local _ .vmem, ⟨0, _⟩ => ⟨S128x1024, .f32⟩
  | .local _ .vmem, ⟨1, _⟩ => ⟨S128x1024, .f32⟩
  | .local _ .vmem, ⟨2, _⟩ => ⟨S32x4x128x128, .f32⟩
  | .local _ .vmem, ⟨3, _⟩ => ⟨S32x4x128x128, .f32⟩
  | .local _ .vmem, ⟨4, _⟩ => ⟨S30x32x512, .f32⟩
  | .local _ .vmem, ⟨5, _⟩ => ⟨S30x32x512, .f32⟩
  | .local _ .vmem, ⟨6, _⟩ => ⟨S1024x3072, .bf16⟩
  | .local _ .vmem, ⟨7, _⟩ => ⟨S1x1024, .f32⟩
  | .local _ .vmem, ⟨8, _⟩ => ⟨S2x512, .f32⟩
  | .local _ .vmem, ⟨9, _⟩ => ⟨S1x128, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S128x1024, .bf16⟩
  | .local _ .vmem, ⟨15, _⟩ => ⟨S128x1024, .bf16⟩
  | .local _ .vmem, ⟨16, _⟩ => ⟨S32x4x128x128, .f32⟩
  | .local _ .vmem, ⟨17, _⟩ => ⟨S32x4x128x128, .f32⟩
  | .local _ .vmem, ⟨18, _⟩ => ⟨S30x32x512, .f32⟩
  | .local _ .vmem, ⟨19, _⟩ => ⟨S30x32x512, .f32⟩
  | .local _ .vmem, ⟨20, _⟩ => ⟨S4x128x128, .f32⟩
  | .local _ .vmem, ⟨21, _⟩ => ⟨S4x128x128, .f32⟩
  | .local _ .vmem, ⟨22, _⟩ => ⟨S4x128x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S30x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S30x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SampleRefIdeal.lean ====
abbrev S128x4x1024 : Shape := ⟨3, ![128, 4, 1024]⟩
abbrev S1x128x4x128x128 : Shape := ⟨5, ![1, 128, 4, 128, 128]⟩
abbrev S1x128x30x512 : Shape := ⟨4, ![1, 128, 30, 512]⟩
abbrev S1x1024 : Shape := ⟨2, ![1, 1024]⟩
abbrev S1x1024x3072 : Shape := ⟨3, ![1, 1024, 3072]⟩
abbrev S2x512 : Shape := ⟨2, ![2, 512]⟩
abbrev S1x128 : Shape := ⟨2, ![1, 128]⟩
abbrev S1x31x512 : Shape := ⟨3, ![1, 31, 512]⟩
abbrev S1x512 : Shape := ⟨2, ![1, 512]⟩
abbrev S128x4x128x128 : Shape := ⟨4, ![128, 4, 128, 128]⟩
abbrev S128x30x512 : Shape := ⟨3, ![128, 30, 512]⟩
abbrev S_ : Shape := ⟨0, ![]⟩
abbrev S512 : Shape := ⟨1, ![512]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S1024x3072 : Shape := ⟨2, ![1024, 3072]⟩
abbrev S128x4x3072 : Shape := ⟨3, ![128, 4, 3072]⟩
abbrev S128x4x512 : Shape := ⟨3, ![128, 4, 512]⟩
abbrev S1x1x512 : Shape := ⟨3, ![1, 1, 512]⟩
abbrev S128x4x4x128 : Shape := ⟨4, ![128, 4, 4, 128]⟩
abbrev S4x4 : Shape := ⟨2, ![4, 4]⟩
abbrev S128x4x1x128 : Shape := ⟨4, ![128, 4, 1, 128]⟩
abbrev S128x4x4x4 : Shape := ⟨4, ![128, 4, 4, 4]⟩
abbrev S128x4x128 : Shape := ⟨3, ![128, 4, 128]⟩
abbrev S128x4x128x1 : Shape := ⟨4, ![128, 4, 128, 1]⟩
abbrev S128 : Shape := ⟨1, ![128]⟩
abbrev S128x4x4 : Shape := ⟨3, ![128, 4, 4]⟩
abbrev S128x4x4x1 : Shape := ⟨4, ![128, 4, 4, 1]⟩
abbrev S1x1x1x128 : Shape := ⟨4, ![1, 1, 1, 128]⟩
abbrev S128x34x512 : Shape := ⟨3, ![128, 34, 512]⟩
abbrev S512x1024 : Shape := ⟨2, ![512, 1024]⟩
abbrev S30x128x512 : Shape := ⟨3, ![30, 128, 512]⟩

abbrev nBuf : Space → Nat
  | .hbm => 435
  | .vmem => 0
  | .smem => 0
  | _ => 0

abbrev hbmTy0_0 (i : Nat) : BufTy := match i % 128 with
  | 0 => ⟨S128x4x1024, .f32⟩
  | 1 => ⟨S1x128x4x128x128, .f32⟩
  | 2 => ⟨S1x128x30x512, .f32⟩
  | 3 => ⟨S1x1024, .f32⟩
  | 4 => ⟨S1x1024x3072, .f32⟩
  | 5 => ⟨S2x512, .f32⟩
  | 6 => ⟨S1x128, .f32⟩
  | 7 => ⟨S1x31x512, .f32⟩
  | 8 => ⟨S1x512, .f32⟩
  | 9 => ⟨S1x512, .f32⟩
  | 10 => ⟨S1x512, .f32⟩
  | 11 => ⟨S128x4x128x128, .f32⟩
  | 12 => ⟨S128x30x512, .f32⟩
  | 13 => ⟨S_, .f32⟩
  | 14 => ⟨S512, .f32⟩
  | 15 => ⟨S_, .f32⟩
  | 16 => ⟨S512, .f32⟩
  | 17 => ⟨S512, .f32⟩
  | 18 => ⟨S1x512, .f32⟩
  | 19 => ⟨S2x512, .f32⟩
  | 20 => ⟨S2x512, .f32⟩
  | 21 => ⟨S2x512, .f32⟩
  | 22 => ⟨S_, .f32⟩
  | 23 => ⟨S512, .f32⟩
  | 24 => ⟨S1x512, .f32⟩
  | 25 => ⟨S2x512, .f32⟩
  | 26 => ⟨S2x512, .f32⟩
  | 27 => ⟨S_, .f32⟩
  | 28 => ⟨S_, .f32⟩
  | 29 => ⟨S2x512, .f32⟩
  | 30 => ⟨S1x512, .f32⟩
  | 31 => ⟨S512, .f32⟩
  | 32 => ⟨S1024, .f32⟩
  | 33 => ⟨S128x4x1024, .f32⟩
  | 34 => ⟨S_, .f32⟩
  | 35 => ⟨S128x4, .f32⟩
  | 36 => ⟨S128x4x1, .f32⟩
  | 37 => ⟨S_, .f32⟩
  | 38 => ⟨S128x4x1, .f32⟩
  | 39 => ⟨S128x4x1, .f32⟩
  | 40 => ⟨S_, .f32⟩
  | 41 => ⟨S128x4x1, .f32⟩
  | 42 => ⟨S128x4x1, .f32⟩
  | 43 => ⟨S128x4x1, .f32⟩
  | 44 => ⟨S128x4x1024, .f32⟩
  | 45 => ⟨S128x4x1024, .f32⟩
  | 46 => ⟨S1x1x1024, .f32⟩
  | 47 => ⟨S128x4x1024, .f32⟩
  | 48 => ⟨S128x4x1024, .f32⟩
  | 49 => ⟨S1024x3072, .f32⟩
  | 50 => ⟨S128x4x3072, .f32⟩
  | 51 => ⟨S128x4x512, .f32⟩
  | 52 => ⟨S128x4x512, .f32⟩
  | 53 => ⟨S128x4x512, .f32⟩
  | 54 => ⟨S128x4x512, .f32⟩
  | 55 => ⟨S128x4x512, .f32⟩
  | 56 => ⟨S128x4x512, .f32⟩
  | 57 => ⟨S_, .f32⟩
  | 58 => ⟨S512, .f32⟩
  | 59 => ⟨S512, .f32⟩
  | 60 => ⟨S128x4x512, .f32⟩
  | 61 => ⟨S128x4x512, .f32⟩
  | 62 => ⟨S_, .f32⟩
  | 63 => ⟨S128x4x512, .f32⟩
  | 64 => ⟨S128x4x512, .f32⟩
  | 65 => ⟨S_, .f32⟩
  | 66 => ⟨S128x4x512, .f32⟩
  | 67 => ⟨S128x4x512, .f32⟩
  | 68 => ⟨S1x1x512, .f32⟩
  | 69 => ⟨S128x4x512, .f32⟩
  | 70 => ⟨S128x4x512, .f32⟩
  | 71 => ⟨S1x1x512, .f32⟩
  | 72 => ⟨S128x4x512, .f32⟩
  | 73 => ⟨S128x4x512, .f32⟩
  | 74 => ⟨S128x4x512, .f32⟩
  | 75 => ⟨S128x4x512, .f32⟩
  | 76 => ⟨S_, .f32⟩
  | 77 => ⟨S128x4x512, .f32⟩
  | 78 => ⟨S128x4x512, .f32⟩
  | 79 => ⟨S_, .f32⟩
  | 80 => ⟨S128x4x512, .f32⟩
  | 81 => ⟨S128x4x512, .f32⟩
  | 82 => ⟨S128x4x512, .f32⟩
  | 83 => ⟨S128x4x4x128, .f32⟩
  | 84 => ⟨S_, .f32⟩
  | 85 => ⟨S128x4x512, .f32⟩
  | 86 => ⟨S128x4x512, .f32⟩
  | 87 => ⟨S128x4x4x128, .f32⟩
  | 88 => ⟨S128x4x4x128, .f32⟩
  | 89 => ⟨S128x4x512, .f32⟩
  | 90 => ⟨S128x4x4x128, .f32⟩
  | 91 => ⟨S128x4x4x128, .f32⟩
  | 92 => ⟨S128x4x4x128, .f32⟩
  | 93 => ⟨S128x4x4x128, .f32⟩
  | 94 => ⟨S128x4x4x128, .f32⟩
  | 95 => ⟨S4x4, .i32⟩
  | 96 => ⟨S4x4, .i32⟩
  | 97 => ⟨S4x4, .i1⟩
  | 98 => ⟨S_, .f32⟩
  | 99 => ⟨S_, .f32⟩
  | 100 => ⟨S128x4x4x128, .f32⟩
  | 101 => ⟨S128x4x1x128, .f32⟩
  | 102 => ⟨S128x4x4x128, .f32⟩
  | 103 => ⟨S128x4x4x128, .f32⟩
  | 104 => ⟨S128x4x4x128, .f32⟩
  | 105 => ⟨S128x4x4x128, .f32⟩
  | 106 => ⟨S128x4x4x128, .f32⟩
  | 107 => ⟨S128x4x4x128, .f32⟩
  | 108 => ⟨S128x4x4x4, .f32⟩
  | 109 => ⟨S_, .f32⟩
  | 110 => ⟨S_, .f32⟩
  | 111 => ⟨S128x4x4x4, .i1⟩
  | 112 => ⟨S128x4x4x4, .f32⟩
  | 113 => ⟨S128x4x4x4, .f32⟩
  | 114 => ⟨S128x4x4x128, .f32⟩
  | 115 => ⟨S128x4x128, .f32⟩
  | 116 => ⟨S128x4x128, .f32⟩
  | 117 => ⟨S128x4x128x1, .f32⟩
  | 118 => ⟨S128x4x128x128, .f32⟩
  | 119 => ⟨S128x4x128x128, .f32⟩
  | 120 => ⟨S128x4x4x128, .f32⟩
  | 121 => ⟨S128x4x4x128, .f32⟩
  | 122 => ⟨S128x4x4x128, .f32⟩
  | 123 => ⟨S128x4x4x128, .f32⟩
  | 124 => ⟨S128x4x128x128, .f32⟩
  | 125 => ⟨S128x4x128x128, .f32⟩
  | 126 => ⟨S128x4x4x128, .f32⟩
  | 127 => ⟨S128x4x4x128, .f32⟩
  | _ => ⟨S128x4x1024, .f32⟩

abbrev hbmTy0_1 (i : Nat) : BufTy := match i % 128 with
  | 0 => ⟨S128, .f32⟩
  | 1 => ⟨S128x4x4x128, .f32⟩
  | 2 => ⟨S_, .f32⟩
  | 3 => ⟨S128x4x4, .f32⟩
  | 4 => ⟨S128x4x4x1, .f32⟩
  | 5 => ⟨S_, .f32⟩
  | 6 => ⟨S128x4x4x1, .f32⟩
  | 7 => ⟨S128x4x4x1, .f32⟩
  | 8 => ⟨S_, .f32⟩
  | 9 => ⟨S128x4x4x1, .f32⟩
  | 10 => ⟨S128x4x4x1, .f32⟩
  | 11 => ⟨S128x4x4x1, .f32⟩
  | 12 => ⟨S128x4x4x128, .f32⟩
  | 13 => ⟨S128x4x4x128, .f32⟩
  | 14 => ⟨S1x1x1x128, .f32⟩
  | 15 => ⟨S128x4x4x128, .f32⟩
  | 16 => ⟨S128x4x4x128, .f32⟩
  | 17 => ⟨S128x4x4x128, .f32⟩
  | 18 => ⟨S128x4x4x128, .f32⟩
  | 19 => ⟨S128x4x4x128, .f32⟩
  | 20 => ⟨S_, .f32⟩
  | 21 => ⟨S128x4x4x128, .f32⟩
  | 22 => ⟨S128x4x4x128, .f32⟩
  | 23 => ⟨S_, .f32⟩
  | 24 => ⟨S128x4x4x128, .f32⟩
  | 25 => ⟨S128x4x4x128, .f32⟩
  | 26 => ⟨S128x4x4x128, .f32⟩
  | 27 => ⟨S128x4x4x128, .f32⟩
  | 28 => ⟨S128x4x512, .f32⟩
  | 29 => ⟨S128x4x512, .f32⟩
  | 30 => ⟨S128x4x512, .f32⟩
  | 31 => ⟨S_, .f32⟩
  | 32 => ⟨S128x4x512, .f32⟩
  | 33 => ⟨S128x4x512, .f32⟩
  | 34 => ⟨S_, .f32⟩
  | 35 => ⟨S128x4x512, .f32⟩
  | 36 => ⟨S128x4x512, .f32⟩
  | 37 => ⟨S128x4x512, .f32⟩
  | 38 => ⟨S128x34x512, .f32⟩
  | 39 => ⟨S128x4x512, .f32⟩
  | 40 => ⟨S1x1x512, .f32⟩
  | 41 => ⟨S512, .f32⟩
  | 42 => ⟨S1x1x512, .f32⟩
  | 43 => ⟨S128x4x512, .f32⟩
  | 44 => ⟨S128x4x512, .f32⟩
  | 45 => ⟨S_, .f32⟩
  | 46 => ⟨S128x4x512, .f32⟩
  | 47 => ⟨S128x4x512, .f32⟩
  | 48 => ⟨S128x4x512, .f32⟩
  | 49 => ⟨S1x1x512, .f32⟩
  | 50 => ⟨S512, .f32⟩
  | 51 => ⟨S1x1x512, .f32⟩
  | 52 => ⟨S128x4x512, .f32⟩
  | 53 => ⟨S128x4x512, .f32⟩
  | 54 => ⟨S128x4x512, .f32⟩
  | 55 => ⟨S128x4x512, .f32⟩
  | 56 => ⟨S1x1x512, .f32⟩
  | 57 => ⟨S512, .f32⟩
  | 58 => ⟨S1x1x512, .f32⟩
  | 59 => ⟨S128x4x512, .f32⟩
  | 60 => ⟨S128x4x512, .f32⟩
  | 61 => ⟨S128x4x512, .f32⟩
  | 62 => ⟨S128x4x512, .f32⟩
  | 63 => ⟨S1x1x512, .f32⟩
  | 64 => ⟨S512, .f32⟩
  | 65 => ⟨S1x1x512, .f32⟩
  | 66 => ⟨S128x4x512, .f32⟩
  | 67 => ⟨S128x4x512, .f32⟩
  | 68 => ⟨S128x4x512, .f32⟩
  | 69 => ⟨S128x4x512, .f32⟩
  | 70 => ⟨S1x1x512, .f32⟩
  | 71 => ⟨S512, .f32⟩
  | 72 => ⟨S1x1x512, .f32⟩
  | 73 => ⟨S128x4x512, .f32⟩
  | 74 => ⟨S128x4x512, .f32⟩
  | 75 => ⟨S128x4x512, .f32⟩
  | 76 => ⟨S128x4x512, .f32⟩
  | 77 => ⟨S1x1x512, .f32⟩
  | 78 => ⟨S512, .f32⟩
  | 79 => ⟨S1x1x512, .f32⟩
  | 80 => ⟨S128x4x512, .f32⟩
  | 81 => ⟨S128x4x512, .f32⟩
  | 82 => ⟨S128x4x512, .f32⟩
  | 83 => ⟨S128x4x512, .f32⟩
  | 84 => ⟨S1x1x512, .f32⟩
  | 85 => ⟨S512, .f32⟩
  | 86 => ⟨S1x1x512, .f32⟩
  | 87 => ⟨S128x4x512, .f32⟩
  | 88 => ⟨S128x4x512, .f32⟩
  | 89 => ⟨S128x4x512, .f32⟩
  | 90 => ⟨S128x4x512, .f32⟩
  | 91 => ⟨S1x1x512, .f32⟩
  | 92 => ⟨S512, .f32⟩
  | 93 => ⟨S1x1x512, .f32⟩
  | 94 => ⟨S128x4x512, .f32⟩
  | 95 => ⟨S128x4x512, .f32⟩
  | 96 => ⟨S128x4x512, .f32⟩
  | 97 => ⟨S128x4x512, .f32⟩
  | 98 => ⟨S1x1x512, .f32⟩
  | 99 => ⟨S512, .f32⟩
  | 100 => ⟨S1x1x512, .f32⟩
  | 101 => ⟨S128x4x512, .f32⟩
  | 102 => ⟨S128x4x512, .f32⟩
  | 103 => ⟨S128x4x512, .f32⟩
  | 104 => ⟨S128x4x512, .f32⟩
  | 105 => ⟨S1x1x512, .f32⟩
  | 106 => ⟨S512, .f32⟩
  | 107 => ⟨S1x1x512, .f32⟩
  | 108 => ⟨S128x4x512, .f32⟩
  | 109 => ⟨S128x4x512, .f32⟩
  | 110 => ⟨S128x4x512, .f32⟩
  | 111 => ⟨S128x4x512, .f32⟩
  | 112 => ⟨S1x1x512, .f32⟩
  | 113 => ⟨S512, .f32⟩
  | 114 => ⟨S1x1x512, .f32⟩
  | 115 => ⟨S128x4x512, .f32⟩
  | 116 => ⟨S128x4x512, .f32⟩
  | 117 => ⟨S128x4x512, .f32⟩
  | 118 => ⟨S128x4x512, .f32⟩
  | 119 => ⟨S1x1x512, .f32⟩
  | 120 => ⟨S512, .f32⟩
  | 121 => ⟨S1x1x512, .f32⟩
  | 122 => ⟨S128x4x512, .f32⟩
  | 123 => ⟨S128x4x512, .f32⟩
  | 124 => ⟨S128x4x512, .f32⟩
  | 125 => ⟨S128x4x512, .f32⟩
  | 126 => ⟨S1x1x512, .f32⟩
  | 127 => ⟨S512, .f32⟩
  | _ => ⟨S128x4x1024, .f32⟩

abbrev hbmTy0_2 (i : Nat) : BufTy := match i % 128 with
  | 0 => ⟨S1x1x512, .f32⟩
  | 1 => ⟨S128x4x512, .f32⟩
  | 2 => ⟨S128x4x512, .f32⟩
  | 3 => ⟨S128x4x512, .f32⟩
  | 4 => ⟨S128x4x512, .f32⟩
  | 5 => ⟨S1x1x512, .f32⟩
  | 6 => ⟨S512, .f32⟩
  | 7 => ⟨S1x1x512, .f32⟩
  | 8 => ⟨S128x4x512, .f32⟩
  | 9 => ⟨S128x4x512, .f32⟩
  | 10 => ⟨S128x4x512, .f32⟩
  | 11 => ⟨S128x4x512, .f32⟩
  | 12 => ⟨S1x1x512, .f32⟩
  | 13 => ⟨S512, .f32⟩
  | 14 => ⟨S1x1x512, .f32⟩
  | 15 => ⟨S128x4x512, .f32⟩
  | 16 => ⟨S128x4x512, .f32⟩
  | 17 => ⟨S128x4x512, .f32⟩
  | 18 => ⟨S128x4x512, .f32⟩
  | 19 => ⟨S1x1x512, .f32⟩
  | 20 => ⟨S512, .f32⟩
  | 21 => ⟨S1x1x512, .f32⟩
  | 22 => ⟨S128x4x512, .f32⟩
  | 23 => ⟨S128x4x512, .f32⟩
  | 24 => ⟨S128x4x512, .f32⟩
  | 25 => ⟨S128x4x512, .f32⟩
  | 26 => ⟨S1x1x512, .f32⟩
  | 27 => ⟨S512, .f32⟩
  | 28 => ⟨S1x1x512, .f32⟩
  | 29 => ⟨S128x4x512, .f32⟩
  | 30 => ⟨S128x4x512, .f32⟩
  | 31 => ⟨S128x4x512, .f32⟩
  | 32 => ⟨S128x4x512, .f32⟩
  | 33 => ⟨S1x1x512, .f32⟩
  | 34 => ⟨S512, .f32⟩
  | 35 => ⟨S1x1x512, .f32⟩
  | 36 => ⟨S128x4x512, .f32⟩
  | 37 => ⟨S128x4x512, .f32⟩
  | 38 => ⟨S128x4x512, .f32⟩
  | 39 => ⟨S128x4x512, .f32⟩
  | 40 => ⟨S1x1x512, .f32⟩
  | 41 => ⟨S512, .f32⟩
  | 42 => ⟨S1x1x512, .f32⟩
  | 43 => ⟨S128x4x512, .f32⟩
  | 44 => ⟨S128x4x512, .f32⟩
  | 45 => ⟨S128x4x512, .f32⟩
  | 46 => ⟨S128x4x512, .f32⟩
  | 47 => ⟨S1x1x512, .f32⟩
  | 48 => ⟨S512, .f32⟩
  | 49 => ⟨S1x1x512, .f32⟩
  | 50 => ⟨S128x4x512, .f32⟩
  | 51 => ⟨S128x4x512, .f32⟩
  | 52 => ⟨S128x4x512, .f32⟩
  | 53 => ⟨S128x4x512, .f32⟩
  | 54 => ⟨S1x1x512, .f32⟩
  | 55 => ⟨S512, .f32⟩
  | 56 => ⟨S1x1x512, .f32⟩
  | 57 => ⟨S128x4x512, .f32⟩
  | 58 => ⟨S128x4x512, .f32⟩
  | 59 => ⟨S128x4x512, .f32⟩
  | 60 => ⟨S128x4x512, .f32⟩
  | 61 => ⟨S1x1x512, .f32⟩
  | 62 => ⟨S512, .f32⟩
  | 63 => ⟨S1x1x512, .f32⟩
  | 64 => ⟨S128x4x512, .f32⟩
  | 65 => ⟨S128x4x512, .f32⟩
  | 66 => ⟨S128x4x512, .f32⟩
  | 67 => ⟨S128x4x512, .f32⟩
  | 68 => ⟨S1x1x512, .f32⟩
  | 69 => ⟨S512, .f32⟩
  | 70 => ⟨S1x1x512, .f32⟩
  | 71 => ⟨S128x4x512, .f32⟩
  | 72 => ⟨S128x4x512, .f32⟩
  | 73 => ⟨S128x4x512, .f32⟩
  | 74 => ⟨S128x4x512, .f32⟩
  | 75 => ⟨S1x1x512, .f32⟩
  | 76 => ⟨S512, .f32⟩
  | 77 => ⟨S1x1x512, .f32⟩
  | 78 => ⟨S128x4x512, .f32⟩
  | 79 => ⟨S128x4x512, .f32⟩
  | 80 => ⟨S128x4x512, .f32⟩
  | 81 => ⟨S128x4x512, .f32⟩
  | 82 => ⟨S1x1x512, .f32⟩
  | 83 => ⟨S512, .f32⟩
  | 84 => ⟨S1x1x512, .f32⟩
  | 85 => ⟨S128x4x512, .f32⟩
  | 86 => ⟨S128x4x512, .f32⟩
  | 87 => ⟨S128x4x512, .f32⟩
  | 88 => ⟨S128x4x512, .f32⟩
  | 89 => ⟨S1x1x512, .f32⟩
  | 90 => ⟨S512, .f32⟩
  | 91 => ⟨S1x1x512, .f32⟩
  | 92 => ⟨S128x4x512, .f32⟩
  | 93 => ⟨S128x4x512, .f32⟩
  | 94 => ⟨S128x4x512, .f32⟩
  | 95 => ⟨S128x4x512, .f32⟩
  | 96 => ⟨S1x1x512, .f32⟩
  | 97 => ⟨S512, .f32⟩
  | 98 => ⟨S1x1x512, .f32⟩
  | 99 => ⟨S128x4x512, .f32⟩
  | 100 => ⟨S128x4x512, .f32⟩
  | 101 => ⟨S128x4x512, .f32⟩
  | 102 => ⟨S128x4x512, .f32⟩
  | 103 => ⟨S1x1x512, .f32⟩
  | 104 => ⟨S512, .f32⟩
  | 105 => ⟨S1x1x512, .f32⟩
  | 106 => ⟨S128x4x512, .f32⟩
  | 107 => ⟨S128x4x512, .f32⟩
  | 108 => ⟨S128x4x512, .f32⟩
  | 109 => ⟨S128x4x512, .f32⟩
  | 110 => ⟨S1x1x512, .f32⟩
  | 111 => ⟨S512, .f32⟩
  | 112 => ⟨S1x1x512, .f32⟩
  | 113 => ⟨S128x4x512, .f32⟩
  | 114 => ⟨S128x4x512, .f32⟩
  | 115 => ⟨S128x4x512, .f32⟩
  | 116 => ⟨S128x4x512, .f32⟩
  | 117 => ⟨S1x1x512, .f32⟩
  | 118 => ⟨S512, .f32⟩
  | 119 => ⟨S1x1x512, .f32⟩
  | 120 => ⟨S128x4x512, .f32⟩
  | 121 => ⟨S128x4x512, .f32⟩
  | 122 => ⟨S128x4x512, .f32⟩
  | 123 => ⟨S128x4x512, .f32⟩
  | 124 => ⟨S1x1x512, .f32⟩
  | 125 => ⟨S512, .f32⟩
  | 126 => ⟨S1x1x512, .f32⟩
  | 127 => ⟨S128x4x512, .f32⟩
  | _ => ⟨S128x4x1024, .f32⟩

abbrev hbmTy0_3 (i : Nat) : BufTy := match i % 128 with
  | 0 => ⟨S128x4x512, .f32⟩
  | 1 => ⟨S128x4x512, .f32⟩
  | 2 => ⟨S512, .f32⟩
  | 3 => ⟨S1x1x512, .f32⟩
  | 4 => ⟨S128x4x512, .f32⟩
  | 5 => ⟨S128x4x512, .f32⟩
  | 6 => ⟨S_, .f32⟩
  | 7 => ⟨S128x4, .f32⟩
  | 8 => ⟨S128x4x1, .f32⟩
  | 9 => ⟨S_, .f32⟩
  | 10 => ⟨S128x4x1, .f32⟩
  | 11 => ⟨S128x4x1, .f32⟩
  | 12 => ⟨S128x4x512, .f32⟩
  | 13 => ⟨S128x4x512, .f32⟩
  | 14 => ⟨S128x4x512, .f32⟩
  | 15 => ⟨S_, .f32⟩
  | 16 => ⟨S128x4, .f32⟩
  | 17 => ⟨S128x4x1, .f32⟩
  | 18 => ⟨S_, .f32⟩
  | 19 => ⟨S128x4x1, .f32⟩
  | 20 => ⟨S128x4x1, .f32⟩
  | 21 => ⟨S128x4x512, .f32⟩
  | 22 => ⟨S128x4x512, .f32⟩
  | 23 => ⟨S_, .f32⟩
  | 24 => ⟨S128x4x1, .f32⟩
  | 25 => ⟨S128x4x1, .f32⟩
  | 26 => ⟨S128x4x1, .f32⟩
  | 27 => ⟨S128x4x512, .f32⟩
  | 28 => ⟨S128x4x512, .f32⟩
  | 29 => ⟨S512, .f32⟩
  | 30 => ⟨S1x1x512, .f32⟩
  | 31 => ⟨S128x4x512, .f32⟩
  | 32 => ⟨S128x4x512, .f32⟩
  | 33 => ⟨S512, .f32⟩
  | 34 => ⟨S1x1x512, .f32⟩
  | 35 => ⟨S128x4x512, .f32⟩
  | 36 => ⟨S128x4x512, .f32⟩
  | 37 => ⟨S128x4x512, .f32⟩
  | 38 => ⟨S128x4x512, .f32⟩
  | 39 => ⟨S_, .f32⟩
  | 40 => ⟨S128x4x512, .f32⟩
  | 41 => ⟨S128x4x512, .f32⟩
  | 42 => ⟨S_, .f32⟩
  | 43 => ⟨S128x4x512, .f32⟩
  | 44 => ⟨S128x4x512, .f32⟩
  | 45 => ⟨S128x4x512, .f32⟩
  | 46 => ⟨S128x4x1024, .f32⟩
  | 47 => ⟨S128x30x512, .f32⟩
  | 48 => ⟨S512x1024, .f32⟩
  | 49 => ⟨S512x1024, .bf16⟩
  | 50 => ⟨S30x128x512, .f32⟩
  | _ => ⟨S128x4x1024, .f32⟩

abbrev hbmTy (i : Nat) : BufTy := match i / 128 with
  | 0 => hbmTy0_0 i
  | 1 => hbmTy0_1 i
  | 2 => hbmTy0_2 i
  | 3 => hbmTy0_3 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_call0_cst : Ref sig .tc := ⟨.hbm, 27, rfl⟩
abbrev main_call0_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_call0_cst : Ref sig .tc := ⟨.hbm, 98, rfl⟩
abbrev main_call2_call0_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_9 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_10 : Ref sig .tc := ⟨.hbm, 130, rfl⟩
abbrev main_v93 : Ref sig .tc := ⟨.hbm, 131, rfl⟩
abbrev main_v94 : Ref sig .tc := ⟨.hbm, 132, rfl⟩
abbrev main_cst_11 : Ref sig .tc := ⟨.hbm, 133, rfl⟩
abbrev main_v95 : Ref sig .tc := ⟨.hbm, 134, rfl⟩
abbrev main_v96 : Ref sig .tc := ⟨.hbm, 135, rfl⟩
abbrev main_cst_12 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_13 : Ref sig .tc := ⟨.hbm, 159, rfl⟩
abbrev main_v111 : Ref sig .tc := ⟨.hbm, 160, rfl⟩
abbrev main_v112 : Ref sig .tc := ⟨.hbm, 161, rfl⟩
abbrev main_cst_14 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_15 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_cst_16 : Ref sig .tc := ⟨.hbm, 390, rfl⟩
abbrev main_v339 : Ref sig .tc := ⟨.hbm, 391, rfl⟩
abbrev main_v340 : Ref sig .tc := ⟨.hbm, 392, rfl⟩
abbrev main_cst_17 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_cst_18 : Ref sig .tc := ⟨.hbm, 399, rfl⟩
abbrev main_v346 : Ref sig .tc := ⟨.hbm, 400, rfl⟩
abbrev main_v347 : Ref sig .tc := ⟨.hbm, 401, rfl⟩
abbrev main_cst_19 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_cst_20 : Ref sig .tc := ⟨.hbm, 407, rfl⟩
abbrev main_v352 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_call5_v0 : Ref sig .tc := ⟨.hbm, 421, rfl⟩
abbrev main_call5_v1 : Ref sig .tc := ⟨.hbm, 422, rfl⟩
abbrev main_call5_cst : Ref sig .tc := ⟨.hbm, 423, rfl⟩
abbrev main_call5_v2 : Ref sig .tc := ⟨.hbm, 424, rfl⟩
abbrev main_call5_v3 : Ref sig .tc := ⟨.hbm, 425, rfl⟩
abbrev main_call5_cst_0 : Ref sig .tc := ⟨.hbm, 426, rfl⟩
abbrev main_call5_v4 : Ref sig .tc := ⟨.hbm, 427, rfl⟩
abbrev main_call5_v5 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩

abbrev nD : Nat := 1
abbrev τ : Topo := Topo.v7x

variable {F : FTy → Type} [FloatOps F]
-- ==== Tail.lean ====
abbrev S8x2048x1024 : Shape := ⟨3, ![8, 2048, 1024]⟩
abbrev S1x8x2048x256 : Shape := ⟨4, ![1, 8, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S16384x256 : Shape := ⟨2, ![16384, 256]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 29
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1x8x2048x256, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1x1024x1024, .f32⟩
  | .hbm, ⟨10, _⟩ => ⟨S1x256x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S2816x1024, .f32⟩
  | .hbm, ⟨19, _⟩ => ⟨S2816x1024, .bf16⟩
  | .hbm, ⟨20, _⟩ => ⟨S1024x1024, .f32⟩
  | .hbm, ⟨21, _⟩ => ⟨S1024x1024, .bf16⟩
  | .hbm, ⟨22, _⟩ => ⟨S256x1024, .f32⟩
  | .hbm, ⟨23, _⟩ => ⟨S256x1024, .bf16⟩
  | .hbm, ⟨24, _⟩ => ⟨S1x1024, .f32⟩
  | .hbm, ⟨25, _⟩ => ⟨S16384x1024, .f32⟩
  | .hbm, ⟨26, _⟩ => ⟨S16384x1024, .bf16⟩
  | .hbm, ⟨27, _⟩ => ⟨S16384x256, .f32⟩
  | .hbm, ⟨28, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S8x2048x1024 : Shape := ⟨3, ![8, 2048, 1024]⟩
abbrev S1x8x2048x256 : Shape := ⟨4, ![1, 8, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩
abbrev S16384x256 : Shape := ⟨2, ![16384, 256]⟩
abbrev S256x1024 : Shape := ⟨2, ![256, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1x8x2048x256, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1x1024x1024, .f32⟩
  | .hbm, ⟨10, _⟩ => ⟨S1x256x1024, .f32⟩
  | .hbm, ⟨11, _⟩ => ⟨S1024, .f32⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1024x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S1024x2816, .f32⟩
  | .hbm, ⟨47, _⟩ => ⟨S16384x2816, .f32⟩
  | .hbm, ⟨48, _⟩ => ⟨S16384x2816, .f32⟩
  | .hbm, ⟨49, _⟩ => ⟨S2816x1024, .f32⟩
  | .hbm, ⟨50, _⟩ => ⟨S16384x1024, .f32⟩
  | .hbm, ⟨51, _⟩ => ⟨S16384x1024, .f32⟩
  | .hbm, ⟨52, _⟩ => ⟨S1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S1024x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S16384x256, .f32⟩
  | .hbm, ⟨80, _⟩ => ⟨S256x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S1x1024, .f32⟩
  | .hbm, ⟨98, _⟩ => ⟨S16384x1024, .f32⟩
  | .hbm, ⟨99, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== SampleTail.lean ====
abbrev S128x4x1024 : Shape := ⟨3, ![128, 4, 1024]⟩
abbrev S512x1024 : Shape := ⟨2, ![512, 1024]⟩
abbrev S1x128x4x256 : Shape := ⟨4, ![1, 128, 4, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 28
  | .vmem => 13
  | .smem => 0
  | _ => 0

abbrev bufTy : (tb : Table) → Fin (tcTables nBuf tb) → BufTy
  | .hbm, ⟨0, _⟩ => ⟨S128x4x1024, .f32⟩
  | .hbm, ⟨1, _⟩ => ⟨S512x1024, .bf16⟩
  | .hbm, ⟨2, _⟩ => ⟨S1x128x4x256, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1x1024x1024, .f32⟩
  | .hbm, ⟨10, _⟩ => ⟨S1x256x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S2816x1024, .f32⟩
  | .hbm, ⟨19, _⟩ => ⟨S2816x1024, .bf16⟩
  | .hbm, ⟨20, _⟩ => ⟨S1024x1024, .f32⟩
  | .hbm, ⟨21, _⟩ => ⟨S1024x1024, .bf16⟩
  | .hbm, ⟨22, _⟩ => ⟨S256x1024, .f32⟩
  | .hbm, ⟨23, _⟩ => ⟨S256x1024, .bf16⟩
  | .hbm, ⟨24, _⟩ => ⟨S1x1024, .f32⟩
  | .hbm, ⟨25, _⟩ => ⟨S512x1024, .f32⟩
  | .hbm, ⟨26, _⟩ => ⟨S512x256, .f32⟩
  | .hbm, ⟨27, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S512x256, .f32⟩
  | .local _ .vmem, ⟨3, _⟩ => ⟨S1024x1024, .bf16⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SampleTailRefIdeal.lean ====
abbrev S128x4x1024 : Shape := ⟨3, ![128, 4, 1024]⟩
abbrev S512x1024 : Shape := ⟨2, ![512, 1024]⟩
abbrev S1x128x4x256 : Shape := ⟨4, ![1, 128, 4, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩
abbrev S512x256 : Shape := ⟨2, ![512, 256]⟩
abbrev S256x1024 : Shape := ⟨2, ![256, 1024]⟩

abbrev nBuf : Space → Nat
  | .hbm => 99
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x1024, .bf16⟩
  | .hbm, ⟨2, _⟩ => ⟨S1x128x4x256, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1x1024x1024, .f32⟩
  | .hbm, ⟨10, _⟩ => ⟨S1x256x1024, .f32⟩
  | .hbm, ⟨11, _⟩ => ⟨S1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S1024, .f32⟩
  | .hbm, ⟨18, _⟩ => ⟨S512x1024, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S_, .f32⟩
  | .hbm, ⟨23, _⟩ => ⟨S512x1, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x1024, .f32⟩
  | .hbm, ⟨30, _⟩ => ⟨S512x1024, .f32⟩
  | .hbm, ⟨31, _⟩ => ⟨S1x1024, .f32⟩
  | .hbm, ⟨32, _⟩ => ⟨S512x1024, .f32⟩
  | .hbm, ⟨33, _⟩ => ⟨S512x1024, .f32⟩
  | .hbm, ⟨34, _⟩ => ⟨S1024x2816, .f32⟩
  | .hbm, ⟨35, _⟩ => ⟨S512x2816, .f32⟩
  | .hbm, ⟨36, _⟩ => ⟨S512x2816, .f32⟩
  | .hbm, ⟨37, _⟩ => ⟨S512x2816, .f32⟩
  | .hbm, ⟨38, _⟩ => ⟨S_, .f32⟩
  | .hbm, ⟨39, _⟩ => ⟨S512x2816, .f32⟩
  | .hbm, ⟨40, _⟩ => ⟨S512x2816, .f32⟩
  | .hbm, ⟨41, _⟩ => ⟨S_, .f32⟩
  | .hbm, ⟨42, _⟩ => ⟨S512x2816, .f32⟩
  | .hbm, ⟨43, _⟩ => ⟨S512x2816, .f32⟩
  | .hbm, ⟨44, _⟩ => ⟨S512x2816, .f32⟩
  | .hbm, ⟨45, _⟩ => ⟨S1024x2816, .f32⟩
  | .hbm, ⟨46, _⟩ => ⟨S512x2816, .f32⟩
  | .hbm, ⟨47, _⟩ => ⟨S512x2816, .f32⟩
  | .hbm, ⟨48, _⟩ => ⟨S2816x1024, .f32⟩
  | .hbm, ⟨49, _⟩ => ⟨S512x1024, .f32⟩
  | .hbm, ⟨50, _⟩ => ⟨S512x1024, .f32⟩
  | .hbm, ⟨51, _⟩ => ⟨S1024, .f32⟩
  | .hbm, ⟨52, _⟩ => ⟨S512x1024, .f32⟩
  | .hbm, ⟨53, _⟩ => ⟨S_, .f32⟩
  | .hbm, ⟨54, _⟩ => ⟨S512, .f32⟩
  | .hbm, ⟨55, _⟩ => ⟨S512x1, .f32⟩
  | .hbm, ⟨56, _⟩ => ⟨S_, .f32⟩
  | .hbm, ⟨57, _⟩ => ⟨S512x1, .f32⟩
  | .hbm, ⟨58, _⟩ => ⟨S512x1, .f32⟩
  | .hbm, ⟨59, _⟩ => ⟨S_, .f32⟩
  | .hbm, ⟨60, _⟩ => ⟨S512x1, .f32⟩
  | .hbm, ⟨61, _⟩ => ⟨S512x1, .f32⟩
  | .hbm, ⟨62, _⟩ => ⟨S512x1, .f32⟩
  | .hbm, ⟨63, _⟩ => ⟨S512x1024, .f32⟩
  | .hbm, ⟨64, _⟩ => ⟨S512x1024, .f32⟩
  | .hbm, ⟨65, _⟩ => ⟨S1x1024, .f32⟩
  | .hbm, ⟨66, _⟩ => ⟨S512x1024, .f32⟩
  | .hbm, ⟨67, _⟩ => ⟨S512x1024, .f32⟩
  | .hbm, ⟨68, _⟩ => ⟨S1024x1024, .f32⟩
  | .hbm, ⟨69, _⟩ => ⟨S512x1024, .f32⟩
  | .hbm, ⟨70, _⟩ => ⟨S512x1024, .f32⟩
  | .hbm, ⟨71, _⟩ => ⟨S512x1024, .f32⟩
  | .hbm, ⟨72, _⟩ => ⟨S_, .f32⟩
  | .hbm, ⟨73, _⟩ => ⟨S512x1024, .f32⟩
  | .hbm, ⟨74, _⟩ => ⟨S512x1024, .f32⟩
  | .hbm, ⟨75, _⟩ => ⟨S_, .f32⟩
  | .hbm, ⟨76, _⟩ => ⟨S512x1024, .f32⟩
  | .hbm, ⟨77, _⟩ => ⟨S512x1024, .f32⟩
  | .hbm, ⟨78, _⟩ => ⟨S512x256, .f32⟩
  | .hbm, ⟨79, _⟩ => ⟨S256x1024, .f32⟩
  | .hbm, ⟨80, _⟩ => ⟨S512x1024, .f32⟩
  | .hbm, ⟨81, _⟩ => ⟨S512x1024, .f32⟩
  | .hbm, ⟨82, _⟩ => ⟨S512x1024, .f32⟩
  | .hbm, ⟨83, _⟩ => ⟨S512x1024, .f32⟩
  | .hbm, ⟨84, _⟩ => ⟨S_, .f32⟩
  | .hbm, ⟨85, _⟩ => ⟨S512, .f32⟩
  | .hbm, ⟨86, _⟩ => ⟨S512x1, .f32⟩
  | .hbm, ⟨87, _⟩ => ⟨S_, .f32⟩
  | .hbm, ⟨88, _⟩ => ⟨S512x1, .f32⟩
  | .hbm, ⟨89, _⟩ => ⟨S512x1, .f32⟩
  | .hbm, ⟨90, _⟩ => ⟨S_, .f32⟩
  | .hbm, ⟨91, _⟩ => ⟨S512x1, .f32⟩
  | .hbm, ⟨92, _⟩ => ⟨S512x1, .f32⟩
  | .hbm, ⟨93, _⟩ => ⟨S512x1, .f32⟩
  | .hbm, ⟨94, _⟩ => ⟨S512x1024, .f32⟩
  | .hbm, ⟨95, _⟩ => ⟨S512x1024, .f32⟩
  | .hbm, ⟨96, _⟩ => ⟨S1x1024, .f32⟩
  | .hbm, ⟨97, _⟩ => ⟨S512x1024, .f32⟩
  | .hbm, ⟨98, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Proof.Finite.lean ====
/- Finite extended reals, and the three identities by which the kernel writes its gates: a logistic by a hyperbolic
   tangent, `x · logistic x` by a hyperbolic tangent, and a rescaled logistic. Also the rows that the layer works on:
   products of a row with a matrix, and the root-mean-square norm of a row. Nothing here speaks of a program. -/
module

public import Idealize.ShloMosaic.Lib.Pointwise
public import Mathlib.Analysis.SpecialFunctions.Trigonometric.DerivHyp
public import Mathlib.Algebra.BigOperators.Fin

@[expose] public section

noncomputable section

namespace Mixer

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, by simp⟩

theorem IsReal.sub {x y : EReal} (hx : IsReal x) (hy : IsReal y) : IsReal (x - y) := by
  obtain ⟨a, rfl⟩ := hx; obtain ⟨b, rfl⟩ := hy; exact ⟨a - b, by simp⟩

theorem IsReal.neg {x : EReal} (hx : IsReal x) : IsReal (-x) := by
  obtain ⟨a, rfl⟩ := hx; exact ⟨-a, by simp⟩

theorem IsReal.mul {x y : EReal} (hx : IsReal x) (hy : IsReal y) : IsReal (x * y) := by
  obtain ⟨a, rfl⟩ := hx; obtain ⟨b, rfl⟩ := hy; exact ⟨a * b, by simp⟩

theorem IsReal.sum {ι : Type*} {s : Finset ι} {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.tanh {x : EReal} (hx : IsReal x) : IsReal (Ideal.tanh x) := by
  obtain ⟨a, rfl⟩ := hx; exact ⟨_, Ideal.tanh_coe a⟩

theorem IsReal.exp {x : EReal} (hx : IsReal x) : IsReal (Ideal.exp x) := by
  obtain ⟨a, rfl⟩ := hx; exact ⟨_, Ideal.exp_coe a⟩

theorem IsReal.logistic {x : EReal} (hx : IsReal x) : IsReal (Ideal.logistic x) := by
  obtain ⟨a, rfl⟩ := hx; exact ⟨_, Ideal.logistic_coe a⟩

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact (isReal_coe a).mul (isReal_coe _)

theorem IsReal.rsqrt {x : EReal} (hx : IsReal x) (h0 : 0 < x) : IsReal (Ideal.rsqrt x) := by
  obtain ⟨a, rfl⟩ := hx
  have ha : 0 < a := by exact_mod_cast h0
  rw [Ideal.rsqrt_coe, if_neg (not_lt.mpr ha.le), if_neg ha.ne']
  exact ⟨_, rfl⟩

/-- One half, as the programs write it. -/
theorem half_f32 : Ideal.ofBits .f32 0x3F000000#32 = ((1 / 2 : ℝ) : EReal) := by
  simp [Ideal.ofBits, Ideal.ieee]
  rw [← EReal.coe_mul]
  norm_num

/-- 1024, the length of a row of the model, as the programs write it. -/
theorem width_f32 : Ideal.ofBits .f32 0x44800000#32 = ((1024 : ℝ) : EReal) := by
  simp [Ideal.ofBits, Ideal.ieee]
  rw [← EReal.coe_mul]
  norm_num

/-- The word of the norms' epsilon is a positive real. -/
theorem eps_f32 : ∃ e : ℝ, 0 < e ∧ Ideal.ofBits .f32 0x358637BD#32 = (e : EReal) := by
  refine ⟨8796093 * (2 ^ 43)⁻¹, by norm_num, ?_⟩
  simp [Ideal.ofBits, Ideal.ieee, -EReal.coe_pow]

theorem tanh_half (a : ℝ) : 1 / 2 * Real.tanh (1 / 2 * a) + 1 / 2 = (1 + Real.exp (-a))⁻¹ := by
  rw [Real.tanh_eq_sinh_div_cosh, Real.sinh_eq, Real.cosh_eq]
  have h1 : Real.exp (-a) = Real.exp (-(1 / 2 * a)) * Real.exp (-(1 / 2 * a)) := by
    rw [← Real.exp_add]; ring_nf
  have h2 : Real.exp (1 / 2 * a) * Real.exp (-(1 / 2 * a)) = 1 := by
    rw [← Real.exp_add]; simp
  have p1 := Real.exp_pos (1 / 2 * a)
  have p2 := Real.exp_pos (-(1 / 2 * a))
  rw [h1]
  generalize Real.exp (1 / 2 * a) = u at *
  generalize Real.exp (-(1 / 2 * a)) = v at *
  field_simp
  nlinarith

/-- The logistic function by a hyperbolic tangent of half the argument, at the infinities too. -/
theorem sigmoid_tanh (x : EReal) :
    Ideal.ofBits .f32 0x3F000000#32 * Ideal.tanh (Ideal.ofBits .f32 0x3F000000#32 * x) + Ideal.ofBits .f32 0x3F000000#32
      = Ideal.logistic x := by
  rw [half_f32]
  induction x with
  | bot =>
    rw [EReal.coe_mul_bot_of_pos (by norm_num), Ideal.tanh_bot, Ideal.logistic_bot]
    show ((1 / 2 : ℝ) : EReal) * ((-1 : ℝ) : EReal) + ((1 / 2 : ℝ) : EReal) = ((0 : ℝ) : EReal)
    rw [← EReal.coe_mul, ← EReal.coe_add]; norm_num
  | top =>
    rw [EReal.coe_mul_top_of_pos (by norm_num), Ideal.tanh_top, Ideal.logistic_top]
    show ((1 / 2 : ℝ) : EReal) * ((1 : ℝ) : EReal) + ((1 / 2 : ℝ) : EReal) = ((1 : ℝ) : EReal)
    rw [← EReal.coe_mul, ← EReal.coe_add]; norm_num
  | coe a =>
    rw [← EReal.coe_mul, Ideal.tanh_coe, ← EReal.coe_mul, ← EReal.coe_add, tanh_half, Ideal.logistic_coe]

/-- `x · logistic x` by a hyperbolic tangent, for a real `x`. (At `⊥` the two differ: `⊥` against `0`.) -/
theorem silu_tanh {x : EReal} (hx : IsReal x) :
    (Ideal.ofBits .f32 0x3F000000#32 * x) * Ideal.tanh (Ideal.ofBits .f32 0x3F000000#32 * x)
        + Ideal.ofBits .f32 0x3F000000#32 * x = x * Ideal.logistic x := by
  obtain ⟨a, rfl⟩ := hx
  rw [half_f32, ← EReal.coe_mul, Ideal.tanh_coe, ← EReal.coe_mul, ← EReal.coe_add, Ideal.logistic_coe, ← tanh_half,
    ← EReal.coe_mul]
  congr 1
  ring

/-! ## Rows -/

/-- A row of extended reals. -/
abbrev Row (n : ℕ) := Fin n → EReal

/-- A row times a matrix. -/
def mulMat {m n : ℕ} (v : Row m) (w : Fin m → Row n) : Row n := fun j => ∑ k, v k * w k j

/-- The root-mean-square norm of a row of the model (1024 columns), with its gain. -/
def rms (v g : Row 1024) : Row 1024 := fun j =>
  v j * Ideal.rsqrt (Ideal.div (∑ k, v k * v k) (Ideal.ofBits .f32 0x44800000#32) + Ideal.ofBits .f32 0x358637BD#32) * g j

theorem IsReal.mulMat {m n : ℕ} {v : Row m} {w : Fin m → Row n} (hv : ∀ k, IsReal (v k)) (hw : ∀ k j, IsReal (w k j))
    (j : Fin n) : IsReal (mulMat v w j) := IsReal.sum fun k _ => (hv k).mul (hw k j)

/-- A sum of squares of reals is a real that is not negative. -/
theorem sumsq_real {ι : Type*} [Fintype ι] {v : ι → EReal} (hv : ∀ k, IsReal (v k)) :
    ∃ r : ℝ, 0 ≤ r ∧ ∑ k, v k * v k = (r : EReal) := by
  choose f hf using hv
  refine ⟨∑ k, f k * f k, Finset.sum_nonneg fun k _ => mul_self_nonneg (f k), ?_⟩
  have : (fun k => v k * v k) = fun k => ((f k * f k : ℝ) : EReal) := by
    funext k; rw [hf k, ← EReal.coe_mul]
  show (Finset.univ.sum fun k => v k * v k) = _
  rw [this]
  exact (map_sum (⟨⟨fun r : ℝ => (r : EReal), rfl⟩, EReal.coe_add⟩ : ℝ →+ EReal) _ _).symm

/-- The factor by which a norm scales a row of reals is a real. -/
theorem rms_scale_real {n : ℕ} {v : Row n} (hv : ∀ k, IsReal (v k)) {w e : EReal} {c : ℝ} (hc : 0 < c) (hw : w = (c : EReal))
    {d : ℝ} (hd : 0 < d) (he : e = (d : EReal)) : IsReal (Ideal.rsqrt (Ideal.div (∑ k, v k * v k) w + e)) := by
  obtain ⟨r, hr, h⟩ := sumsq_real hv
  rw [h, hw, he, Ideal.div_coe hc.ne', ← EReal.coe_mul, ← EReal.coe_add]
  refine IsReal.rsqrt (isReal_coe _) ?_
  have : 0 < r * (1 / c) + d := by positivity
  exact_mod_cast this

theorem IsReal.rms {v g : Row 1024} (hv : ∀ k, IsReal (v k)) (hg : ∀ k, IsReal (g k)) (j : Fin 1024) :
    IsReal (rms v g j) := by
  obtain ⟨e, he, h⟩ := eps_f32
  exact ((hv j).mul (rms_scale_real hv (by norm_num) width_f32 he h)).mul (hg j)

end Mixer
-- ==== Proof.Precondition.lean ====
/- What the preconditions say: an array whose absolute values are all below infinity has real entries. -/
module

public import proofs.«01_k».proof.Proof.Finite
public import Idealize.ShloMosaic.Lib.StableHlo
public import Idealize.ShloMosaic.PureOps.Ideal.Laws

@[expose] public section

noncomputable section

namespace Mixer

open Idealize.ShloMosaic

theorem top_f32 : Ideal.ofBits .f32 0x7F800000#32 = ⊤ := by
  simp [Ideal.ofBits, Ideal.ieee]

/-- A precondition's test of one array, read at an entry. -/
theorem finite_of_test {s s0 : Shape} (a : FVec Ideal s .f32) {d : Fin s0.rank → Fin s.rank} (h : s0.BroadcastsInDim s d)
    (e : cmpf (F := Ideal) .olt (Host.absf a) (broadcastInDim s d h (constant (F := Ideal) s0 .f32 0x7F800000#32)) = fun _ => 1#1) (i : s.Idx) :
    IsReal (a i) := by
  have h1 : Ideal.cmp .olt (max (a i) (-(a i)) : EReal) (Ideal.ofBits .f32 0x7F800000#32) = 1#1 := congrFun e i
  rw [top_f32] at h1
  have h2 : (max (a i) (-(a i)) : EReal) < ⊤ := by
    by_contra hc
    rw [Ideal.cmp] at h1
    simp [hc] at h1
  have h3 : (a i : EReal) ≠ ⊤ := fun hx => by rw [hx] at h2; simp at h2
  have h4 : (a i : EReal) ≠ ⊥ := fun hx => by rw [hx] at h2; simp at h2
  exact ⟨_, (EReal.coe_toReal h3 h4).symm⟩

end Mixer
-- ==== Proof.SampleSpec.lean ====
/- The mixers of the layer on one sequence of four tokens, written as the layer defines them: the forget gates, the
   recurrence's output and new state, the convolution with its norm, and the new history. And what of it is finite when the
   arguments are. -/
module

public import proofs.«01_k».proof.Proof.Finite

@[expose] public section

noncomputable section

namespace Mixer

open Idealize.ShloMosaic

/-- Column `k` of head `h`. -/
def hk (h : Fin 4) (k : Fin 128) : Fin 512 := ⟨128 * h.val + k.val, by have := h.isLt; have := k.isLt; omega⟩

/-- Column `c` of the `i`-th of the six projections. -/
def colOf (i : Fin 6) (c : Fin 512) : Fin 3072 := ⟨512 * i.val + c.val, by have := i.isLt; have := c.isLt; omega⟩

/-- `x · logistic x`. -/
def silu (x : EReal) : EReal := x * Ideal.logistic x

/-- What the mixers read for one sequence: its four tokens, its old state and history, and the layer's parameters. -/
structure Seq where
  /-- The tokens. -/
  x : Fin 4 → Row 1024
  /-- The old state of every head. -/
  st : Fin 4 → Fin 128 → Row 128
  /-- The last 30 inputs of the convolution. -/
  hist : Fin 30 → Row 512
  /-- The input projection. -/
  w : Fin 1024 → Row 3072
  /-- The gain of the first norm. -/
  g : Row 1024
  /-- The logits of the forget gates' lower bound. -/
  lbl : Fin 2 → Row 512
  /-- The gain of the heads' norm. -/
  onorm : Row 128
  /-- The taps of the convolution. -/
  tap : Fin 31 → Row 512
  /-- The convolution's bias. -/
  bias : Row 512
  /-- The gain of the convolution's norm. -/
  lng : Row 512
  /-- The bias of the convolution's norm. -/
  lnb : Row 512

/-- The first part of a softmax over two rows, by its maximum. -/
def lowerBound (l : Fin 2 → EReal) : EReal :=
  Ideal.div (Ideal.exp (l 0 - max (l 0) (l 1))) (Ideal.exp (l 0 - max (l 0) (l 1)) + Ideal.exp (l 1 - max (l 0) (l 1)))

/-- The forget gate from its lower bound and its logit. -/
def gate (lb x : EReal) : EReal := lb + (1 - lb) * Ideal.logistic x

namespace Seq

variable (S : Seq)

/-- The `i`-th projection of token `t`. -/
def proj (i : Fin 6) (t : Fin 4) (c : Fin 512) : EReal := mulMat (rms (S.x t) S.g) S.w (colOf i c)

/-- The forget gate. -/
def forget (t : Fin 4) (c : Fin 512) : EReal := gate (lowerBound fun i => S.lbl i c) (S.proj 1 t c)

/-- The logarithm of the product of the forget gates up to token `t`. -/
def cum (t : Fin 4) (c : Fin 512) : EReal := ∑ s : Fin 4, if s.val ≤ t.val then Ideal.log (S.forget s c) else 0

/-- The query, with the decay up to its token. -/
def qd (t : Fin 4) (c : Fin 512) : EReal := silu (S.proj 0 t c) * Ideal.exp (S.cum t c)

/-- The key, with the decay up to its token undone. -/
def ki (t : Fin 4) (c : Fin 512) : EReal := (1 - S.forget t c) * Ideal.exp (-S.cum t c)

/-- The key, with the decay after its token. -/
def kd (t : Fin 4) (c : Fin 512) : EReal := (1 - S.forget t c) * Ideal.exp (S.cum 3 c - S.cum t c)

/-- The new state. -/
def state (h : Fin 4) (a b : Fin 128) : EReal :=
  Ideal.exp (S.cum 3 (hk h a)) * S.st h a b + ∑ s : Fin 4, S.kd s (hk h a) * S.proj 2 s (hk h b)

/-- The recurrence's output: from the old state, and from the tokens up to this one. -/
def recur (h : Fin 4) (t : Fin 4) (b : Fin 128) : EReal :=
  (∑ k, S.qd t (hk h k) * S.st h k b)
    + ∑ s : Fin 4, (if s.val ≤ t.val then ∑ k, S.qd t (hk h k) * S.ki s (hk h k) else 0) * S.proj 2 s (hk h b)

/-- The recurrence's half of the mixers' output. -/
def mixA (t : Fin 4) (h : Fin 4) (b : Fin 128) : EReal :=
  S.recur h t b * Ideal.rsqrt (Ideal.div (∑ k, S.recur h t k * S.recur h t k) (Ideal.ofBits .f32 0x43000000#32) + Ideal.ofBits .f32 0x358637BD#32)
    * S.onorm b * silu (S.proj 3 t (hk h b))

/-- The convolution's input. -/
def u (t : Fin 4) (c : Fin 512) : EReal := S.proj 4 t c * Ideal.logistic (S.proj 5 t c)

/-- The history, then the convolution's input of the four tokens. -/
def full (i : Fin 34) (c : Fin 512) : EReal :=
  if h : i.val < 30 then S.hist ⟨i.val, h⟩ c else S.u ⟨i.val - 30, by have := i.isLt; omega⟩ c

/-- The convolution. -/
def conv (t : Fin 4) (c : Fin 512) : EReal :=
  (∑ j : Fin 31, S.full ⟨j.val + t.val, by have := j.isLt; have := t.isLt; omega⟩ c * S.tap j c) + S.bias c

/-- The new history. -/
def newHist (i : Fin 30) (c : Fin 512) : EReal := S.full ⟨i.val + 4, by have := i.isLt; omega⟩ c

end Seq

/-- The norm of 512 columns by their mean and variance, with gain and bias. -/
def layerNorm (z g b : Row 512) : Row 512 := fun c =>
  (z c - Ideal.div (∑ k, z k) (Ideal.ofBits .f32 0x44000000#32))
    * Ideal.rsqrt (Ideal.div (∑ k, (z k - Ideal.div (∑ k, z k) (Ideal.ofBits .f32 0x44000000#32)) * (z k - Ideal.div (∑ k, z k) (Ideal.ofBits .f32 0x44000000#32)))
        (Ideal.ofBits .f32 0x44000000#32) + Ideal.ofBits .f32 0x358637BD#32) * g c + b c

/-- The convolution's half of the mixers' output. -/
def Seq.mixB (S : Seq) (t : Fin 4) (c : Fin 512) : EReal := silu (layerNorm (S.conv t) S.lng S.lnb c)

/-- The mixers' output: the recurrence's columns, then the convolution's. -/
def Seq.mix (S : Seq) (t : Fin 4) (c : Fin 1024) : EReal :=
  if c.val < 512 then S.mixA t ⟨c.val / 128 % 4, by omega⟩ ⟨c.val % 128, by omega⟩ else S.mixB t ⟨c.val % 512, by omega⟩

theorem Seq.mix_lo (S : Seq) (t : Fin 4) (h : Fin 4) (b : Fin 128) (c : Fin 1024) (hc : c.val = (hk h b).val) : S.mix t c = S.mixA t h b := by
  have hh := h.isLt
  have hb := b.isLt
  simp only [hk] at hc
  have e1 : (⟨c.val / 128 % 4, by omega⟩ : Fin 4) = h := Fin.ext (by simp only []; omega)
  have e2 : (⟨c.val % 128, by omega⟩ : Fin 128) = b := Fin.ext (by simp only []; omega)
  unfold Seq.mix
  rw [if_pos (by omega), e1, e2]

theorem Seq.mix_hi (S : Seq) (t : Fin 4) (k : Fin 512) (c : Fin 1024) (hc : c.val = 512 + k.val) : S.mix t c = S.mixB t k := by
  have hk := k.isLt
  have e1 : (⟨c.val % 512, by omega⟩ : Fin 512) = k := Fin.ext (by simp only []; omega)
  unfold Seq.mix
  rw [if_neg (by omega), e1]

/-! ## Finiteness -/

theorem one_f32 : Ideal.ofBits .f32 0x3F800000#32 = 1 := by
  simp [Ideal.ofBits, Ideal.ieee]
  rw [← EReal.coe_mul, ← EReal.coe_one]
  norm_num

theorem bot_f32 : Ideal.ofBits .f32 0xFF800000#32 = ⊥ := by
  simp [Ideal.ofBits, Ideal.ieee]

theorem width512_f32 : Ideal.ofBits .f32 0x44000000#32 = ((512 : ℝ) : EReal) := by
  simp [Ideal.ofBits, Ideal.ieee]
  rw [← EReal.coe_mul]
  norm_num

/-- Everything that the mixers read for the sequence is finite. -/
structure Seq.Finite (S : Seq) : Prop where
  x : ∀ t k, IsReal (S.x t k)
  st : ∀ h a b, IsReal (S.st h a b)
  hist : ∀ i c, IsReal (S.hist i c)
  w : ∀ k c, IsReal (S.w k c)
  g : ∀ k, IsReal (S.g k)
  lbl : ∀ i c, IsReal (S.lbl i c)
  onorm : ∀ k, IsReal (S.onorm k)
  tap : ∀ j c, IsReal (S.tap j c)
  bias : ∀ c, IsReal (S.bias c)
  lng : ∀ c, IsReal (S.lng c)
  lnb : ∀ c, IsReal (S.lnb c)

/-- The lower bound lies strictly between 0 and 1. -/
theorem lowerBound_real {l : Fin 2 → EReal} (hl : ∀ i, IsReal (l i)) : ∃ r : ℝ, 0 < r ∧ r < 1 ∧ lowerBound l = (r : EReal) := by
  obtain ⟨a, ha⟩ := hl 0
  obtain ⟨b, hb⟩ := hl 1
  have e : max (l 0) (l 1) = ((max a b : ℝ) : EReal) := by rw [ha, hb]; exact (EReal.coe_strictMono.monotone.map_max).symm
  have p1 := Real.exp_pos (a - max a b)
  have p2 := Real.exp_pos (b - max a b)
  refine ⟨Real.exp (a - max a b) * (1 / (Real.exp (a - max a b) + Real.exp (b - max a b))), by positivity, ?_, ?_⟩
  · rw [mul_one_div, div_lt_one (by positivity)]; linarith
  · unfold lowerBound
    rw [e, ha, hb, ← EReal.coe_sub, ← EReal.coe_sub, Ideal.exp_coe, Ideal.exp_coe, ← EReal.coe_add,
      Ideal.div_coe (by positivity), ← EReal.coe_mul]

/-- The gate is positive and finite. -/
theorem gate_real {lb x : EReal} (hlb : ∃ r : ℝ, 0 < r ∧ r < 1 ∧ lb = (r : EReal)) (hx : IsReal x) :
    ∃ r : ℝ, 0 < r ∧ gate lb x = (r : EReal) := by
  obtain ⟨r, h0, h1, rfl⟩ := hlb
  obtain ⟨a, rfl⟩ := hx
  have p := Real.exp_pos (-a)
  refine ⟨r + (1 - r) * (1 + Real.exp (-a))⁻¹, ?_, ?_⟩
  · have : 0 < (1 - r) * (1 + Real.exp (-a))⁻¹ := mul_pos (by linarith) (by positivity)
    linarith
  · unfold gate
    rw [Ideal.logistic_coe, ← EReal.coe_one, ← EReal.coe_sub, ← EReal.coe_mul, ← EReal.coe_add]

/-- The gate by a hyperbolic tangent. -/
theorem gate_tanh {lb x : EReal} (hlb : IsReal lb) (hx : IsReal x) :
    (lb + Ideal.ofBits .f32 0x3F000000#32 * (Ideal.ofBits .f32 0x3F800000#32 - lb))
        + Ideal.ofBits .f32 0x3F000000#32 * (Ideal.ofBits .f32 0x3F800000#32 - lb) * Ideal.tanh (Ideal.ofBits .f32 0x3F000000#32 * x)
      = gate lb x := by
  unfold gate
  rw [← sigmoid_tanh, one_f32, half_f32]
  obtain ⟨r, rfl⟩ := hlb
  obtain ⟨a, rfl⟩ := hx
  rw [← EReal.coe_one, ← EReal.coe_mul, Ideal.tanh_coe, ← EReal.coe_sub]
  simp only [← EReal.coe_mul, ← EReal.coe_add]
  congr 1
  ring

theorem log_gate_real {x : EReal} (h : ∃ r : ℝ, 0 < r ∧ x = (r : EReal)) : IsReal (Ideal.log x) := by
  obtain ⟨r, h0, rfl⟩ := h
  exact ⟨Real.log r, by rw [Ideal.log_coe, if_neg (not_le.mpr h0)]⟩

/-- What comes after a token is the whole sum less what comes up to it. -/
theorem sum_after {L : Fin 4 → EReal} (hL : ∀ s, IsReal (L s)) (t : Fin 4) :
    (∑ s : Fin 4, if t.val < s.val then L s else 0)
      = (∑ s : Fin 4, if s.val ≤ (3 : Fin 4).val then L s else 0) - ∑ s : Fin 4, if s.val ≤ t.val then L s else 0 := by
  choose l hl using hL
  obtain rfl : L = fun s => (l s : EReal) := funext hl
  simp only [Fin.sum_univ_four]
  fin_cases t <;> simp
  · simp only [← EReal.coe_add, ← EReal.coe_sub]; congr 1; ring
  · simp only [← EReal.coe_add, ← EReal.coe_sub]; congr 1; ring
  · simp only [← EReal.coe_add, ← EReal.coe_sub]; congr 1; ring
  · simp only [← EReal.coe_add, ← EReal.coe_sub]; rw [← EReal.coe_zero]; congr 1; ring

namespace Seq.Finite

variable {S : Seq} (F : S.Finite)
include F

theorem proj (i : Fin 6) (t : Fin 4) (c : Fin 512) : IsReal (S.proj i t c) :=
  IsReal.mulMat (fun k => IsReal.rms (F.x t) F.g k) F.w _

theorem lb (c : Fin 512) : ∃ r : ℝ, 0 < r ∧ r < 1 ∧ lowerBound (fun i => S.lbl i c) = (r : EReal) := lowerBound_real fun i => F.lbl i c

theorem lbReal (c : Fin 512) : IsReal (lowerBound fun i => S.lbl i c) := let ⟨r, _, _, h⟩ := F.lb c; ⟨r, h⟩

theorem log (t : Fin 4) (c : Fin 512) : IsReal (Ideal.log (S.forget t c)) := log_gate_real (gate_real (F.lb c) (F.proj 1 t c))

theorem u (t : Fin 4) (c : Fin 512) : IsReal (S.u t c) := (F.proj 4 t c).mul (F.proj 5 t c).logistic

theorem full (i : Fin 34) (c : Fin 512) : IsReal (S.full i c) := by
  unfold Seq.full
  split_ifs
  · exact F.hist _ _
  · exact F.u _ _

theorem conv (t : Fin 4) (c : Fin 512) : IsReal (S.conv t c) :=
  (IsReal.sum fun j _ => (F.full _ c).mul (F.tap j c)).add (F.bias c)

theorem norm (t : Fin 4) (c : Fin 512) : IsReal (layerNorm (S.conv t) S.lng S.lnb c) := by
  obtain ⟨e, he, h⟩ := eps_f32
  have hm : IsReal (Ideal.div (∑ k, S.conv t k) (Ideal.ofBits .f32 0x44000000#32)) :=
    IsReal.div (IsReal.sum fun k _ => F.conv t k) ⟨512, width512_f32⟩ (by rw [width512_f32]; exact_mod_cast (by norm_num : (512 : ℝ) ≠ 0))
  have hz : ∀ k, IsReal (S.conv t k - Ideal.div (∑ k, S.conv t k) (Ideal.ofBits .f32 0x44000000#32)) := fun k => (F.conv t k).sub hm
  exact (((hz c).mul (rms_scale_real hz (by norm_num : (0 : ℝ) < 512) width512_f32 he h)).mul (F.lng c)).add (F.lnb c)

end Seq.Finite

end Mixer
-- ==== Proof.SampleWords.lean ====
/- The words that the sample mixers' kernel computes in one block, split from the stores: each store's value is one named word of the
   block's arguments, and each entry of a word is read here. -/
module

public import proofs.«01_k».proof.Proof.Gen.SampleIdeal.Value
public import proofs.«01_k».proof.Proof.SampleSpec
public import Idealize.ShloMosaic.Lib.Pointwise

@[expose] public section

noncomputable section

namespace Cert.SampleIdeal

open Cert.SampleIdeal.Gen Idealize.ShloMosaic Idealize.ShloMosaic.TcCoe Idealize.SL.Sem Mixer

variable (c : Dev nD) (arg1 : Memref sig .tc .vmem S128x1024 .f32) (harg1 : arg1.IsWhole)
  (arg2 : Memref sig .tc .vmem S32x4x128x128 .f32) (harg2 : arg2.IsWhole) (arg3 : Memref sig .tc .vmem S30x32x512 .f32) (harg3 : arg3.IsWhole)
  (arg4 : Memref sig .tc .vmem S1024x3072 .bf16) (harg4 : arg4.IsWhole)
  (arg5 : Memref sig .tc .vmem S1x1024 .f32) (harg5 : arg5.IsWhole) (arg6 : Memref sig .tc .vmem S2x512 .f32) (harg6 : arg6.IsWhole)
  (arg15 : Memref sig .tc .vmem S4x128x128 .f32)
  (x0 : Vec Ideal S128x1024 .f32) (x1 : Vec Ideal S32x4x128x128 .f32) (x2 : Vec Ideal S30x32x512 .f32) (x3 : Vec Ideal S1024x3072 .bf16) (x4 : Vec Ideal S1x1024 .f32) (x5 : Vec Ideal S2x512 .f32)

def colsQ : Vec Ideal S1024x512 .bf16 := View.ld x3 (Rect.unit ![0, 0] S1024x512.size inb_S1024x3072_S1024x512_0_0)
def colsF : Vec Ideal S1024x512 .bf16 := View.ld x3 (Rect.unit ![0, 512] S1024x512.size inb_S1024x3072_S1024x512_0_512)
def colsI : Vec Ideal S1024x512 .bf16 := View.ld x3 (Rect.unit ![0, 1024] S1024x512.size inb_S1024x3072_S1024x512_0_1024)

theorem zeroOffset2 : (![0, 0] : Fin 2 → ℕ) = fun _ => 0 := by
  funext a; fin_cases a <;> rfl

theorem word_norm : kernelRun0_A.sl.r c arg1 harg1 arg5 harg5 x0 x4 = k0_pay2 x0 x4 := by
  unfold kernelRun0_A.sl.r
  simp only [View.readAt_eq_ld, harg1.read_unread, harg5.read_unread]
  rw [View.ld_unit_zero (S := S128x1024) zeroOffset2, View.ld_unit_zero (S := S1x1024) zeroOffset2]

/-- The logarithms' running sums. -/
def bV : FVec Ideal S128x512 .f32 := k0_pay11 (k0_pay5 x5) (k0_pay6 x5) (k0_pay7 x0 x4 (colsF x3))

theorem word_b : kernelRun0_A.sl.r_6 c arg1 harg1 arg4 harg4 arg5 harg5 arg6 harg6 x0 x3 x4 x5 = bV x0 x3 x4 x5 := by
  unfold kernelRun0_A.sl.r_6 kernelRun0_A.sl.r_2 kernelRun0_A.sl.r_3 kernelRun0_A.sl.r_4
  simp only [View.readAt_eq_ld, harg1.read_unread, harg4.read_unread, harg5.read_unread, harg6.read_unread]
  rw [View.ld_unit_zero (S := S128x1024) zeroOffset2, View.ld_unit_zero (S := S1x1024) zeroOffset2, View.ld_unit_zero (S := S2x512) zeroOffset2]
  rfl

/-- Token `t` of sequence `n` of a block. -/
def tk (n : Fin 32) (t : Fin 4) : Fin 128 := ⟨4 * n.val + t.val, by have := n.isLt; have := t.isLt; omega⟩

/-- A 128 × 512 array, its columns stored by heads. -/
def headPlane (b : FVec Ideal S128x512 .f32) (y : S4x128x128.Idx) : Elt Ideal .f32 := b (ix2 (y 1) (hk (y 0) (y 2)))

theorem ld_last_row (L : List (View.Piece (Elt Ideal) S4x128x128 .f32)) (b : FVec Ideal S128x512 .f32) (h : Fin 4)
    (inb) (n : Fin 32) (k : Fin 128)
    (hL : ∀ p ∈ L, ∀ x, p.2 x = headPlane b (p.1.emb x))
    (hc : ∃ p ∈ L, (ix3 h (tk n 3) k : S4x128x128.Idx) ∈ p.1.set) :
    arg15.view.readCov L ({ off := ![h.val, 3, 0], size := ![1, 32, 128], stride := ![1, 4, 1], inb := inb } : LoadRect S4x128x128) (ix3 0 n k)
      = b (ix2 (tk n 3) (hk h k)) := by
  rw [View.readCov_eq_canon']
  have e : ({ off := ![h.val, 3, 0], size := ![1, 32, 128], stride := ![1, 4, 1], inb := inb } : LoadRect S4x128x128).idx (ix3 0 n k)
      = (ix3 h (tk n 3) k : S4x128x128.Idx) := by
    funext a
    fin_cases a <;> apply Fin.ext
    · show h.val + 1 * 0 = h.val; omega
    · show 3 + 4 * n.val = 4 * n.val + 3; omega
    · show 0 + 1 * k.val = k.val; omega
  show View.canon L (LoadRect.idx _ _) = _
  rw [e]
  exact View.canon_apply_of_pieces (Val := Elt Ideal) (e := .f32) (S := S4x128x128) (headPlane b) L hL _ hc

theorem head_piece (h : Fin 4) (inb) (b : FVec Ideal S128x512 .f32) (w : S1x128x128.Idx → Ideal .f32)
    (hw : ∀ r k, w (ix3 0 r k) = b (ix2 r (hk h k))) (x) :
    (⟨Rect.unit ![h.val, 0, 0] ![1, 128, 128] inb, w⟩ : View.Piece (Elt Ideal) S4x128x128 .f32).2 x
      = headPlane b ((Rect.unit ![h.val, 0, 0] ![1, 128, 128] inb).emb x) := by
  have hx : x = (ix3 0 (x 1) (x 2) : S1x128x128.Idx) := by
    have h0 : (x 0).val < 1 := (x 0).isLt
    funext a
    fin_cases a <;> apply Fin.ext
    · show (x 0).val = 0; omega
    · rfl
    · rfl
  have e : (Rect.unit ![h.val, 0, 0] ![1, 128, 128] inb).emb x = (ix3 h (x 1) (x 2) : S4x128x128.Idx) := by
    have h0 : (x 0).val < 1 := (x 0).isLt
    funext a
    fin_cases a <;> apply Fin.ext
    · show h.val + 1 * (x 0).val = h.val; omega
    · show 0 + 1 * (x 1).val = (x 1).val; omega
    · show 0 + 1 * (x 2).val = (x 2).val; omega
  rw [e]
  show w x = b (ix2 (x 1) (hk h (x 2)))
  rw [hx]
  exact hw _ _

theorem head_mem (h : Fin 4) (r k : Fin 128) (inb) :
    (ix3 h r k : S4x128x128.Idx) ∈ (Rect.unit ![h.val, 0, 0] ![1, 128, 128] inb : Rect S4x128x128).set := by
  rw [LoadRect.mem_set]
  intro a
  fin_cases a
  · exact ⟨0, Nat.one_pos, rfl⟩
  · exact ⟨r.val, r.isLt, by show r.val = 0 + 1 * r.val; omega⟩
  · exact ⟨k.val, k.isLt, by show k.val = 0 + 1 * k.val; omega⟩

theorem word_v108 (n : Fin 32) (k : Fin 128) : kernelRun0_A.sl.v108 c arg1 harg1 arg4 harg4 arg5 harg5 arg6 harg6 arg15 x0 x3 x4 x5 (ix3 0 n k)
    = bV x0 x3 x4 x5 (ix2 (tk n 3) (hk 0 k)) := by
  unfold kernelRun0_A.sl.v108 kernelRun0_A.sl.HS0_1
  rw [word_b]
  generalize bV x0 x3 x4 x5 = b
  refine ld_last_row arg15 _ _ 0 _ n k ?_ ⟨_, List.mem_cons_self, head_mem 0 _ _ inb_S4x128x128_S1x128x128_0_0_0⟩
  simp only [List.forall_mem_cons, List.not_mem_nil, false_imp_iff, implies_true, and_true]
  refine head_piece 0 _ _ _ fun r k => ?_
  pointwise [k0_pay19, k0_pay21, k0_pay23, k0_pay25, hk]
  all_goals exact congrArg b (funext fun a => Fin.ext (by fin_cases a <;> first | rfl | exact Nat.zero_add _))

theorem word_v114 (n : Fin 32) (k : Fin 128) : kernelRun0_A.sl.v114 c arg1 harg1 arg4 harg4 arg5 harg5 arg6 harg6 arg15 x0 x3 x4 x5 (ix3 0 n k)
    = bV x0 x3 x4 x5 (ix2 (tk n 3) (hk 1 k)) := by
  unfold kernelRun0_A.sl.v114 kernelRun0_A.sl.HS0_2 kernelRun0_A.sl.HS0_1
  rw [word_b]
  generalize bV x0 x3 x4 x5 = b
  refine ld_last_row arg15 _ _ 1 _ n k ?_ ⟨_, List.mem_cons_self, head_mem 1 _ _ inb_S4x128x128_S1x128x128_1_0_0⟩
  simp only [List.forall_mem_cons, List.not_mem_nil, false_imp_iff, implies_true, and_true]
  refine ⟨head_piece 1 _ _ _ fun r k => ?_, head_piece 0 _ _ _ fun r k => ?_⟩ <;>
    pointwise [k0_pay19, k0_pay21, k0_pay23, k0_pay25, hk]
  all_goals exact congrArg b (funext fun a => Fin.ext (by fin_cases a <;> first | rfl | exact Nat.zero_add _))

theorem word_v120 (n : Fin 32) (k : Fin 128) : kernelRun0_A.sl.v120 c arg1 harg1 arg4 harg4 arg5 harg5 arg6 harg6 arg15 x0 x3 x4 x5 (ix3 0 n k)
    = bV x0 x3 x4 x5 (ix2 (tk n 3) (hk 2 k)) := by
  unfold kernelRun0_A.sl.v120 kernelRun0_A.sl.HS0_3 kernelRun0_A.sl.HS0_2 kernelRun0_A.sl.HS0_1
  rw [word_b]
  generalize bV x0 x3 x4 x5 = b
  refine ld_last_row arg15 _ _ 2 _ n k ?_ ⟨_, List.mem_cons_self, head_mem 2 _ _ inb_S4x128x128_S1x128x128_2_0_0⟩
  simp only [List.forall_mem_cons, List.not_mem_nil, false_imp_iff, implies_true, and_true]
  refine ⟨head_piece 2 _ _ _ fun r k => ?_, head_piece 1 _ _ _ fun r k => ?_, head_piece 0 _ _ _ fun r k => ?_⟩ <;>
    pointwise [k0_pay19, k0_pay21, k0_pay23, k0_pay25, hk]
  all_goals exact congrArg b (funext fun a => Fin.ext (by fin_cases a <;> first | rfl | exact Nat.zero_add _))

theorem word_v126 (n : Fin 32) (k : Fin 128) : kernelRun0_A.sl.v126 c arg1 harg1 arg4 harg4 arg5 harg5 arg6 harg6 arg15 x0 x3 x4 x5 (ix3 0 n k)
    = bV x0 x3 x4 x5 (ix2 (tk n 3) (hk 3 k)) := by
  unfold kernelRun0_A.sl.v126 kernelRun0_A.sl.HS0_4 kernelRun0_A.sl.HS0_3 kernelRun0_A.sl.HS0_2 kernelRun0_A.sl.HS0_1
  rw [word_b]
  generalize bV x0 x3 x4 x5 = b
  refine ld_last_row arg15 _ _ 3 _ n k ?_ ⟨_, List.mem_cons_self, head_mem 3 _ _ inb_S4x128x128_S1x128x128_3_0_0⟩
  simp only [List.forall_mem_cons, List.not_mem_nil, false_imp_iff, implies_true, and_true]
  refine ⟨head_piece 3 _ _ _ fun r k => ?_, head_piece 2 _ _ _ fun r k => ?_, head_piece 1 _ _ _ fun r k => ?_, head_piece 0 _ _ _ fun r k => ?_⟩ <;>
    pointwise [k0_pay19, k0_pay21, k0_pay23, k0_pay25, hk]
  all_goals exact congrArg b (funext fun a => Fin.ext (by fin_cases a <;> first | rfl | exact Nat.zero_add _))

/-- The column in which the kernel puts the decay of head `h` of sequence `n`. -/
def dcol (h : Fin 4) (n : Fin 32) : Fin 128 := ⟨32 * h.val + n.val, by have := h.isLt; have := n.isLt; omega⟩

/-- The decay of every sequence and head, one column each: column `32·h + n`, row `k`. -/
theorem word_decay (h : Fin 4) (n : Fin 32) (k : Fin 128) :
    kernelRun0_A.sl.r_17 c arg1 harg1 arg4 harg4 arg5 harg5 arg6 harg6 arg15 x0 x3 x4 x5 (ix2 k (dcol h n))
      = Ideal.exp (bV x0 x3 x4 x5 (ix2 (tk n 3) (hk h k))) := by
  unfold kernelRun0_A.sl.r_17 kernelRun0_A.sl.r_14 kernelRun0_A.sl.r_15 kernelRun0_A.sl.r_16
  have e0 := word_v108 c arg1 harg1 arg4 harg4 arg5 harg5 arg6 harg6 arg15 x0 x3 x4 x5
  have e1 := word_v114 c arg1 harg1 arg4 harg4 arg5 harg5 arg6 harg6 arg15 x0 x3 x4 x5
  have e2 := word_v120 c arg1 harg1 arg4 harg4 arg5 harg5 arg6 harg6 arg15 x0 x3 x4 x5
  have e3 := word_v126 c arg1 harg1 arg4 harg4 arg5 harg5 arg6 harg6 arg15 x0 x3 x4 x5
  generalize kernelRun0_A.sl.v108 c arg1 harg1 arg4 harg4 arg5 harg5 arg6 harg6 arg15 x0 x3 x4 x5 = w0 at *
  generalize kernelRun0_A.sl.v114 c arg1 harg1 arg4 harg4 arg5 harg5 arg6 harg6 arg15 x0 x3 x4 x5 = w1 at *
  generalize kernelRun0_A.sl.v120 c arg1 harg1 arg4 harg4 arg5 harg5 arg6 harg6 arg15 x0 x3 x4 x5 = w2 at *
  generalize kernelRun0_A.sl.v126 c arg1 harg1 arg4 harg4 arg5 harg5 arg6 harg6 arg15 x0 x3 x4 x5 = w3 at *
  have hn := n.isLt
  fin_cases h <;> pointwise [k0_pay26, k0_pay20, k0_pay22, k0_pay24, e0, e1, e2, e3]
  all_goals
    split_ifs <;> first
      | (exfalso; simp only [dcol] at *; omega)
      | (refine congrArg (fun z => Ideal.exp (bV x0 x3 x4 x5 (ix2 (tk z 3) (hk _ k)))) (Fin.ext ?_); simp only [dcol]; omega)

end Cert.SampleIdeal
-- ==== Proof.SamplePieces.lean ====
/- The stores of the sample mixers' kernel into the new states of the recurrence: one of each sequence and head, all by one formula. -/
module

public import proofs.«01_k».proof.Proof.SampleWords

@[expose] public section

noncomputable section

namespace Cert.SampleIdeal

open Cert.SampleIdeal.Gen Idealize.ShloMosaic Idealize.ShloMosaic.TcCoe Idealize.SL.Sem Mixer

/-- The sequence that the `k`-th store is of; sixteen stores for each group of four sequences, head by head. -/
def seqOf (k : Fin 128) : ℕ := 4 * (k.val / 16) + k.val % 4

/-- The head that the `k`-th store is of. -/
def headOf (k : Fin 128) : ℕ := k.val / 4 % 4

theorem seqOf_lt (k : Fin 128) : seqOf k < 32 := by have := k.isLt; unfold seqOf; omega
theorem headOf_lt (k : Fin 128) : headOf k < 4 := by unfold headOf; omega

theorem decSlices (k : Fin 128) : S128x128.Slices ![0, 32 * headOf k + seqOf k] S128x1 :=
  ⟨rfl, fun a => by
    have h1 := seqOf_lt k
    have h2 := headOf_lt k
    match a with
    | ⟨0, _⟩ => exact Nat.le_refl 128
    | ⟨1, _⟩ => exact (by omega : 32 * headOf k + seqOf k + 1 ≤ 128)⟩

theorem rowSlices (k : Fin 128) : S128x512.Slices ![16 * (k.val / 16), 128 * headOf k] S16x128 :=
  ⟨rfl, fun a => by
    have h1 := k.isLt
    have h2 := headOf_lt k
    match a with
    | ⟨0, _⟩ => exact (by omega : 16 * (k.val / 16) + 16 ≤ 128)
    | ⟨1, _⟩ => exact (by omega : 128 * headOf k + 128 ≤ 512)⟩

theorem stateInb (k : Fin 128) (a : Fin 4) :
    (![seqOf k, headOf k, 0, 0] : Fin 4 → ℕ) a + S1x1x128x128.size a ≤ S32x4x128x128.size a := by
  have h1 := seqOf_lt k
  have h2 := headOf_lt k
  match a with
  | ⟨0, _⟩ => exact (by omega : seqOf k + 1 ≤ 32)
  | ⟨1, _⟩ => exact (by omega : headOf k + 1 ≤ 4)
  | ⟨2, _⟩ => exact Nat.le_refl 128
  | ⟨3, _⟩ => exact Nat.le_refl 128

/-- The state of the `k`-th store's sequence and head, as a box of the array of states. -/
def stateRect (k : Fin 128) : Rect S32x4x128x128 :=
  Rect.unit ![seqOf k, headOf k, 0, 0] S1x1x128x128.size (stateInb k)

/-- What the `k`-th store writes: the old state, decayed, and the products of the keys and values of its four tokens. -/
def newState (dec : FVec Ideal S128x128 .f32) (kd v : FVec Ideal S128x512 .bf16) (k : Fin 128) (st : Vec Ideal S1x1x128x128 .f32) :
    FVec Ideal S1x1x128x128 .f32 :=
  shapeCast S1x1x128x128
    (addf
      (mulf (broadcastTo S128x128 (shapeCast S128x1 (extractStridedSlice S128x1 ![0, 32 * headOf k + seqOf k] dec (decSlices k))
          shapeCasts_S128x1_S128x1) broadcasts_S128x1_S128x128)
        (shapeCast S128x128 st shapeCasts_S1x1x128x128_S128x128))
      (matmul dot_S16x128_S16x128_S128x128_0_0_1_1_n_n none
        (select (cmpi .eq k0_pay28 (broadcast S16x128 (BitVec.ofNat 32 (k.val % 4))))
          (extractStridedSlice S16x128 ![16 * (k.val / 16), 128 * headOf k] kd (rowSlices k))
          (broadcast S16x128 (Scalar.ofBits .bf16 0x0000#16)))
        (extractStridedSlice S16x128 ![16 * (k.val / 16), 128 * headOf k] v (rowSlices k))
        (constant S128x128 .f32 0x00000000#32)))
    shapeCasts_S128x128_S1x1x128x128

variable (c : Dev nD) (i : grid0.Coords) (arg1 : Memref sig .tc .vmem S128x1024 .f32) (harg1 : arg1.IsWhole) (arg2 : Memref sig .tc .vmem S32x4x128x128 .f32) (harg2 : arg2.IsWhole) (arg3 : Memref sig .tc .vmem S30x32x512 .f32) (harg3 : arg3.IsWhole) (arg4 : Memref sig .tc .vmem S1024x3072 .bf16) (harg4 : arg4.IsWhole) (arg5 : Memref sig .tc .vmem S1x1024 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S128x1024 .bf16) (harg12 : arg12.IsWhole) (arg13 : Memref sig .tc .vmem S32x4x128x128 .f32) (harg13 : arg13.IsWhole) (arg14 : Memref sig .tc .vmem S30x32x512 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
    (x0 : Vec Ideal S128x1024 .f32) (x1 : Vec Ideal S32x4x128x128 .f32) (x2 : Vec Ideal S30x32x512 .f32) (x3 : Vec Ideal S1024x3072 .bf16) (x4 : Vec Ideal S1x1024 .f32) (x5 : Vec Ideal S2x512 .f32) (x6 : Vec Ideal S1x128 .f32) (x7 : Vec Ideal S31x512 .f32) (x8 : Vec Ideal S1x512 .f32) (x9 : Vec Ideal S1x512 .f32) (x10 : Vec Ideal S1x512 .f32)

theorem statePieces :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.1
      = (List.finRange 128).reverse.map fun k => (⟨stateRect k, newState
          (kernelRun0_A.sl.r_17 c arg1 harg1 arg4 harg4 arg5 harg5 arg6 harg6 arg15 x0 x3 x4 x5)
          (kernelRun0_A.sl.r_12 c arg1 harg1 arg4 harg4 arg5 harg5 arg6 harg6 x0 x3 x4 x5)
          (kernelRun0_A.sl.r_13 c arg1 harg1 arg4 harg4 arg5 harg5 x0 x3 x4) k
          (View.readAt (Elt Ideal) arg2.view (stateRect k).toLoadRect (harg2.unread x1))⟩ : View.Piece (Elt Ideal) S32x4x128x128 .f32) := by
  sl_kernel_rfl

end Cert.SampleIdeal
-- ==== Proof.SampleMixed.lean ====
/- What the sample mixers' kernel stores besides the states: the attention output of every group and head, the convolution's
   input and its sums, each by one formula. -/
module

public import proofs.«01_k».proof.Proof.SamplePieces

@[expose] public section

noncomputable section

namespace Cert.SampleIdeal

open Cert.SampleIdeal.Gen Idealize.ShloMosaic Idealize.ShloMosaic.TcCoe Idealize.SL.Sem Mixer

/-! ## The recurrence's output -/

/-- The place in the order of the stores of sequence `n`, head `h`. -/
def storeOf (n : Fin 32) (h : Fin 4) : Fin 128 := ⟨16 * (n.val / 4) + 4 * h.val + n.val % 4, by have := n.isLt; have := h.isLt; omega⟩

theorem groupSlices (g : Fin 8) (h : Fin 4) : S128x512.Slices ![16 * g.val, 128 * h.val] S16x128 :=
  ⟨rfl, fun a => by
    have h1 := g.isLt
    have h2 := h.isLt
    match a with
    | ⟨0, _⟩ => exact (by omega : 16 * g.val + 16 ≤ 128)
    | ⟨1, _⟩ => exact (by omega : 128 * h.val + 128 ≤ 512)⟩

theorem headSlices (h : Fin 4) : S128x512.Slices ![0, 128 * h.val] S128x128 :=
  ⟨rfl, fun a => by
    have h2 := h.isLt
    match a with
    | ⟨0, _⟩ => exact Nat.le_refl 128
    | ⟨1, _⟩ => exact (by omega : 128 * h.val + 128 ≤ 512)⟩

/-- The rows of group `g` (16 rows, four sequences) in the columns of head `h`. -/
def sliceV (a : FVec Ideal S128x512 .bf16) (g : Fin 8) (h : Fin 4) : FVec Ideal S16x128 .bf16 :=
  extractStridedSlice S16x128 ![16 * g.val, 128 * h.val] a (groupSlices g h)

/-- What the group's tokens read of the old state of its `i`-th sequence. -/
def interV (qd : FVec Ideal S16x128 .bf16) (st : Vec Ideal S1x1x128x128 .f32) (i : Fin 4) : FVec Ideal S16x128 .f32 :=
  select (cmpi .eq k0_pay28 (broadcast S16x128 (BitVec.ofNat 32 i.val)))
    (matmul dot_S16x128_S128x128_S16x128_1_0_0_1_n_n none qd
      (truncf .bf16 (shapeCast S128x128 st shapeCasts_S1x1x128x128_S128x128) bitsLt_bf16_f32) (constant S16x128 .f32 0x00000000#32))
    (broadcast S16x128 (Scalar.ofBits .f32 0x00000000#32))

/-- What the group's tokens read of each other. -/
def intraV (qd ki v : FVec Ideal S16x128 .bf16) : FVec Ideal S16x128 .f32 :=
  matmul dot_S16x16_S16x128_S16x128_1_0_0_1_n_n none
    (truncf .bf16 (select k0_pay27
      (matmul dot_S16x128_S16x128_S16x16_1_1_0_0_n_n none qd ki (constant S16x16 .f32 0x00000000#32))
      (broadcast S16x16 (Scalar.ofBits .f32 0x00000000#32))) bitsLt_bf16_f32)
    v (constant S16x128 .f32 0x00000000#32)

/-- The recurrence's output for the rows of group `g` and head `h`; `st n h` are the old states. -/
def groupHeadV (qd ki v : FVec Ideal S128x512 .bf16) (st : Fin 32 → Fin 4 → Vec Ideal S1x1x128x128 .f32) (g : Fin 8) (h : Fin 4) :
    FVec Ideal S16x128 .f32 :=
  addf (addf (addf (addf (intraV (sliceV qd g h) (sliceV ki g h) (sliceV v g h))
    (interV (sliceV qd g h) (st ⟨4 * g.val, by omega⟩ h) 0)) (interV (sliceV qd g h) (st ⟨4 * g.val + 1, by omega⟩ h) 1))
    (interV (sliceV qd g h) (st ⟨4 * g.val + 2, by omega⟩ h) 2)) (interV (sliceV qd g h) (st ⟨4 * g.val + 3, by omega⟩ h) 3)

/-- The recurrence's output for the rows of group `g`. -/
def groupV (qd ki v : FVec Ideal S128x512 .bf16) (st : Fin 32 → Fin 4 → Vec Ideal S1x1x128x128 .f32) (g : Fin 8) : FVec Ideal S16x512 .f32 :=
  concatenate S16x512 1 [⟨S16x128, groupHeadV qd ki v st g 0⟩, ⟨S16x128, groupHeadV qd ki v st g 1⟩, ⟨S16x128, groupHeadV qd ki v st g 2⟩,
    ⟨S16x128, groupHeadV qd ki v st g 3⟩] concatenates_S16x128_S16x128_S16x128_S16x128_S16x512_d1

/-- The recurrence's output. -/
def recurV (qd ki v : FVec Ideal S128x512 .bf16) (st : Fin 32 → Fin 4 → Vec Ideal S1x1x128x128 .f32) : FVec Ideal S128x512 .f32 :=
  concatenate S128x512 0 [⟨S16x512, groupV qd ki v st 0⟩, ⟨S16x512, groupV qd ki v st 1⟩, ⟨S16x512, groupV qd ki v st 2⟩,
    ⟨S16x512, groupV qd ki v st 3⟩, ⟨S16x512, groupV qd ki v st 4⟩, ⟨S16x512, groupV qd ki v st 5⟩, ⟨S16x512, groupV qd ki v st 6⟩,
    ⟨S16x512, groupV qd ki v st 7⟩] concatenates_S16x512_S16x512_S16x512_S16x512_S16x512_S16x512_S16x512_S16x512_S128x512_d0

/-- The norm of one head. -/
def headNormV (o : FVec Ideal S128x512 .f32) (g : Vec Ideal S1x128 .f32) (h : Fin 4) : FVec Ideal S128x128 .f32 :=
  mulf (mulf (extractStridedSlice S128x128 ![0, 128 * h.val] o (headSlices h))
      (broadcastTo S128x128 (rsqrt (addf (divf (shapeCast S128x1 (multiReduction .add [1] S128
        (mulf (extractStridedSlice S128x128 ![0, 128 * h.val] o (headSlices h)) (extractStridedSlice S128x128 ![0, 128 * h.val] o (headSlices h)))
        0x00000000#32 reduces_S128x128_S128 (.inl rfl) rfl) shapeCasts_S128_S128x1) (broadcast S128x1 (Scalar.ofBits .f32 0x43000000#32)))
        (broadcast S128x1 (Scalar.ofBits .f32 0x358637BD#32)))) broadcasts_S128x1_S128x128))
    (broadcastTo S128x128 g broadcasts_S1x128_S128x128)

/-- `x · logistic x` as the kernel writes it. -/
def siluV (x : FVec Ideal S128x512 .f32) : FVec Ideal S128x512 .f32 :=
  addf (mulf (mulf (broadcast S128x512 (Scalar.ofBits .f32 0x3F000000#32)) x) (tanh (mulf (broadcast S128x512 (Scalar.ofBits .f32 0x3F000000#32)) x)))
    (mulf (broadcast S128x512 (Scalar.ofBits .f32 0x3F000000#32)) x)

/-- The first half of the mixers' output: the heads' norms, gated. -/
def mixedA (o og : FVec Ideal S128x512 .f32) (g : Vec Ideal S1x128 .f32) : FVec Ideal S128x512 .bf16 :=
  truncf .bf16 (mulf (concatenate S128x512 1 [⟨S128x128, headNormV o g 0⟩, ⟨S128x128, headNormV o g 1⟩, ⟨S128x128, headNormV o g 2⟩,
    ⟨S128x128, headNormV o g 3⟩] concatenates_S128x128_S128x128_S128x128_S128x128_S128x512_d1) (siluV og)) bitsLt_bf16_f32

/-! ## The convolution -/

theorem rowsInb (j s : Fin 4) (a : Fin 3) : (![1, 32, 128] : Fin 3 → ℕ) a = 0
    ∨ (![j.val, s.val, 0] : Fin 3 → ℕ) a + (![1, 4, 1] : Fin 3 → ℕ) a * ((![1, 32, 128] : Fin 3 → ℕ) a - 1) < S4x128x128.size a := by
  have h1 := j.isLt
  have h2 := s.isLt
  refine Or.inr ?_
  match a with
  | ⟨0, _⟩ => exact (by omega : j.val + 1 * (1 - 1) < 4)
  | ⟨1, _⟩ => exact (by omega : s.val + 4 * (32 - 1) < 128)
  | ⟨2, _⟩ => exact (by omega : 0 + 1 * (128 - 1) < 128)

/-- Token `s` of every sequence, in the `j`-th quarter of the columns. -/
def rowsRect (j s : Fin 4) : Rect S4x128x128 where
  off := ![j.val, s.val, 0]
  size := ![1, 32, 128]
  stride := ![1, 4, 1]
  inb := rowsInb j s
  stride_pos a := by
    match a with
    | ⟨0, _⟩ => exact Nat.one_pos
    | ⟨1, _⟩ => exact Nat.succ_pos 3
    | ⟨2, _⟩ => exact Nat.one_pos

theorem planeInb (j : Fin 4) (a : Fin 3) : (![j.val, 0, 0] : Fin 3 → ℕ) a + S1x128x128.size a ≤ S4x128x128.size a := by
  have h1 := j.isLt
  match a with
  | ⟨0, _⟩ => exact (by omega : j.val + 1 ≤ 4)
  | ⟨1, _⟩ => exact Nat.le_refl 128
  | ⟨2, _⟩ => exact Nat.le_refl 128

/-- All tokens, in the `j`-th quarter of the columns. -/
def planeRect (j : Fin 4) : Rect S4x128x128 := Rect.unit ![j.val, 0, 0] S1x128x128.size (planeInb j)

/-- The stores of a 128 × 512 array by quarters of its columns. -/
def planePieces (b : FVec Ideal S128x512 .f32) : List (View.Piece (Elt Ideal) S4x128x128 .f32) :=
  (List.finRange 4).reverse.map fun j => ⟨planeRect j, shapeCast S1x128x128 (extractStridedSlice S128x128 ![0, 128 * j.val] b (headSlices j))
    shapeCasts_S128x128_S1x128x128⟩

/-- Token `s` of every sequence, put together from the quarters of its columns as they are read back. -/
def stepV (w : Fin 4 → Vec Ideal S1x32x128 .f32) : FVec Ideal S32x512 .f32 :=
  concatenate S32x512 1 [⟨S32x128, shapeCast S32x128 (w 0) shapeCasts_S1x32x128_S32x128⟩, ⟨S32x128, shapeCast S32x128 (w 1) shapeCasts_S1x32x128_S32x128⟩,
    ⟨S32x128, shapeCast S32x128 (w 2) shapeCasts_S1x32x128_S32x128⟩, ⟨S32x128, shapeCast S32x128 (w 3) shapeCasts_S1x32x128_S32x128⟩]
    concatenates_S32x128_S32x128_S32x128_S32x128_S32x512_d1

/-- One tap for all sequences. -/
def tapV (w : Vec Ideal S1x512 .f32) : FVec Ideal S32x512 .f32 :=
  broadcastTo S32x512 (shapeCast S1x512 (shapeCast S1x512 w shapeCasts_S1x512_S1x512) shapeCasts_S1x512_S1x512) broadcasts_S1x512_S32x512

/-- The convolution at token `t` of every sequence: `hist` the rows before the sequence, `u` its own, `tap` the taps. -/
def convV (t : Fin 4) (bias : Vec Ideal S1x512 .f32) (tap : Fin 31 → Vec Ideal S1x512 .f32) (hist : Fin 30 → Vec Ideal S1x32x512 .f32)
    (u : Fin 4 → FVec Ideal S32x512 .f32) : FVec Ideal S32x512 .f32 :=
  (List.finRange (t.val + 1)).foldl (fun acc s => addf acc (mulf (tapV (tap ⟨30 - t.val + s.val, by have := t.isLt; have := s.isLt; omega⟩))
      (u ⟨s.val, by have := t.isLt; have := s.isLt; omega⟩)))
    ((List.finRange (30 - t.val)).foldl (fun acc i => addf acc (mulf (tapV (tap ⟨i.val, by have := i.isLt; omega⟩))
      (shapeCast S32x512 (hist ⟨i.val + t.val, by have := i.isLt; omega⟩) shapeCasts_S1x32x512_S32x512)))
      (broadcastTo S32x512 (shapeCast S1x512 bias shapeCasts_S1x512_S1x512) broadcasts_S1x512_S32x512))

theorem quarterSlices (j : Fin 4) : S32x512.Slices ![0, 128 * j.val] S32x128 :=
  ⟨rfl, fun a => by
    have h2 := j.isLt
    match a with
    | ⟨0, _⟩ => exact Nat.le_refl 32
    | ⟨1, _⟩ => exact (by omega : 128 * j.val + 128 ≤ 512)⟩

/-- The stores of the convolution's sums, token by token and quarter by quarter of the columns. -/
def convPieces (z : Fin 4 → FVec Ideal S32x512 .f32) : List (View.Piece (Elt Ideal) S4x128x128 .f32) :=
  (List.finRange 16).reverse.map fun k =>
    ⟨rowsRect ⟨k.val % 4, by omega⟩ ⟨k.val / 4, by omega⟩, shapeCast S1x32x128 (extractStridedSlice S32x128 ![0, 128 * (k.val % 4)]
      (z ⟨k.val / 4, by omega⟩) (quarterSlices ⟨k.val % 4, by omega⟩)) shapeCasts_S32x128_S1x32x128⟩

theorem histInb (i : Fin 30) (a : Fin 3) : (![i.val, 0, 0] : Fin 3 → ℕ) a + S1x32x512.size a ≤ S30x32x512.size a := by
  have h1 := i.isLt
  match a with
  | ⟨0, _⟩ => exact (by omega : i.val + 1 ≤ 30)
  | ⟨1, _⟩ => exact Nat.le_refl 32
  | ⟨2, _⟩ => exact Nat.le_refl 512

/-- Row `i` of the history, of every sequence of the block. -/
def histRect (i : Fin 30) : Rect S30x32x512 := Rect.unit ![i.val, 0, 0] S1x32x512.size (histInb i)

theorem tapInb (i : Fin 31) (a : Fin 2) : (![i.val, 0] : Fin 2 → ℕ) a + S1x512.size a ≤ S31x512.size a := by
  have h1 := i.isLt
  match a with
  | ⟨0, _⟩ => exact (by omega : i.val + 1 ≤ 31)
  | ⟨1, _⟩ => exact Nat.le_refl 512

/-- Tap `i`. -/
def tapRect (i : Fin 31) : Rect S31x512 := Rect.unit ![i.val, 0] S1x512.size (tapInb i)

theorem colInb (k : Fin 6) (a : Fin 2) : (![0, 512 * k.val] : Fin 2 → ℕ) a + S1024x512.size a ≤ S1024x3072.size a := by
  have h1 := k.isLt
  match a with
  | ⟨0, _⟩ => exact Nat.le_refl 1024
  | ⟨1, _⟩ => exact (by omega : 512 * k.val + 512 ≤ 3072)

/-- The `k`-th group of 512 columns of the input projection. -/
def colRect (k : Fin 6) : Rect S1024x3072 := Rect.unit ![0, 512 * k.val] S1024x512.size (colInb k)

/-- The stores of the new history: 26 rows of the old one, then the sequence's own four. -/
def histPieces (hist : Fin 30 → Vec Ideal S1x32x512 .f32) (u : Fin 4 → FVec Ideal S32x512 .f32) : List (View.Piece (Elt Ideal) S30x32x512 .f32) :=
  (List.finRange 30).reverse.map fun i => ⟨histRect i,
    if h : i.val < 26 then shapeCast S1x32x512 (shapeCast S32x512 (hist ⟨i.val + 4, by omega⟩) shapeCasts_S1x32x512_S32x512) shapeCasts_S32x512_S1x32x512
    else shapeCast S1x32x512 (u ⟨i.val - 26, by omega⟩) shapeCasts_S32x512_S1x32x512⟩

variable (c : Dev nD) (i : grid0.Coords) (arg1 : Memref sig .tc .vmem S128x1024 .f32) (harg1 : arg1.IsWhole) (arg2 : Memref sig .tc .vmem S32x4x128x128 .f32) (harg2 : arg2.IsWhole) (arg3 : Memref sig .tc .vmem S30x32x512 .f32) (harg3 : arg3.IsWhole) (arg4 : Memref sig .tc .vmem S1024x3072 .bf16) (harg4 : arg4.IsWhole) (arg5 : Memref sig .tc .vmem S1x1024 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S128x1024 .bf16) (harg12 : arg12.IsWhole) (arg13 : Memref sig .tc .vmem S32x4x128x128 .f32) (harg13 : arg13.IsWhole) (arg14 : Memref sig .tc .vmem S30x32x512 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
    (x0 : Vec Ideal S128x1024 .f32) (x1 : Vec Ideal S32x4x128x128 .f32) (x2 : Vec Ideal S30x32x512 .f32) (x3 : Vec Ideal S1024x3072 .bf16) (x4 : Vec Ideal S1x1024 .f32) (x5 : Vec Ideal S2x512 .f32) (x6 : Vec Ideal S1x128 .f32) (x7 : Vec Ideal S31x512 .f32) (x8 : Vec Ideal S1x512 .f32) (x9 : Vec Ideal S1x512 .f32) (x10 : Vec Ideal S1x512 .f32)

theorem mixedPieces_u : kernelRun0_A.sl.HS1_4 c arg1 harg1 arg4 harg4 arg5 harg5 x0 x3 x4
    = planePieces (k0_pay684 (kernelRun0_A.sl.r c arg1 harg1 arg5 harg5 x0 x4)
        (View.readAt (Elt Ideal) arg4.view (colRect 4).toLoadRect (harg4.unread x3)) (View.readAt (Elt Ideal) arg4.view (colRect 5).toLoadRect (harg4.unread x3))) := by
  sl_kernel_rfl

/-- The convolution's input at token `s` of every sequence, as the kernel reads it back. -/
def uWord (s : Fin 4) : FVec Ideal S32x512 .f32 :=
  stepV fun j => arg16.view.readCov (kernelRun0_A.sl.HS1_4 c arg1 harg1 arg4 harg4 arg5 harg5 x0 x3 x4) (rowsRect j s).toLoadRect

/-- The convolution's sums at token `t` of every sequence. -/
def convWord (t : Fin 4) : FVec Ideal S32x512 .f32 :=
  convV t (View.readAt (Elt Ideal) arg9.view (Rect.unit ![0, 0] S1x512.size inb_S1x512_S1x512_0_0).toLoadRect (harg9.unread x8))
    (fun i => View.readAt (Elt Ideal) arg8.view (tapRect i).toLoadRect (harg8.unread x7))
    (fun i => View.readAt (Elt Ideal) arg3.view (histRect i).toLoadRect (harg3.unread x2))
    (uWord c arg1 harg1 arg4 harg4 arg5 harg5 arg16 x0 x3 x4)

theorem mixedPieces_z : kernelRun0_A.sl.HS2_16 c arg1 harg1 arg3 harg3 arg4 harg4 arg5 harg5 arg8 harg8 arg9 harg9 arg16 x0 x2 x3 x4 x7 x8
    = convPieces (convWord c arg1 harg1 arg3 harg3 arg4 harg4 arg5 harg5 arg8 harg8 arg9 harg9 arg16 x0 x2 x3 x4 x7 x8) := by
  sl_kernel_rfl

theorem histPieces_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.2.1
    = histPieces (fun i => View.readAt (Elt Ideal) arg3.view (histRect i).toLoadRect (harg3.unread x2))
        (uWord c arg1 harg1 arg4 harg4 arg5 harg5 arg16 x0 x3 x4) := by
  sl_kernel_rfl

theorem mixedPieces : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1
    = [⟨Rect.unit ![0, 512] S128x512.size inb_S128x1024_S128x512_0_512, truncf .bf16 (k0_pay802 (k0_pay801
          (arg17.view.readCov (kernelRun0_A.sl.HS2_16 c arg1 harg1 arg3 harg3 arg4 harg4 arg5 harg5 arg8 harg8 arg9 harg9 arg16 x0 x2 x3 x4 x7 x8) (planeRect 0).toLoadRect)
          (arg17.view.readCov (kernelRun0_A.sl.HS2_16 c arg1 harg1 arg3 harg3 arg4 harg4 arg5 harg5 arg8 harg8 arg9 harg9 arg16 x0 x2 x3 x4 x7 x8) (planeRect 1).toLoadRect)
          (arg17.view.readCov (kernelRun0_A.sl.HS2_16 c arg1 harg1 arg3 harg3 arg4 harg4 arg5 harg5 arg8 harg8 arg9 harg9 arg16 x0 x2 x3 x4 x7 x8) (planeRect 2).toLoadRect)
          (arg17.view.readCov (kernelRun0_A.sl.HS2_16 c arg1 harg1 arg3 harg3 arg4 harg4 arg5 harg5 arg8 harg8 arg9 harg9 arg16 x0 x2 x3 x4 x7 x8) (planeRect 3).toLoadRect)
          (View.readAt (Elt Ideal) arg10.view (Rect.unit ![0, 0] S1x512.size inb_S1x512_S1x512_0_0).toLoadRect (harg10.unread x9))
          (View.readAt (Elt Ideal) arg11.view (Rect.unit ![0, 0] S1x512.size inb_S1x512_S1x512_0_0).toLoadRect (harg11.unread x10)))) bitsLt_bf16_f32⟩,
       ⟨Rect.unit ![0, 0] S128x512.size inb_S128x1024_S128x512_0_0, mixedA
          (recurV (kernelRun0_A.sl.r_10 c arg1 harg1 arg4 harg4 arg5 harg5 arg6 harg6 x0 x3 x4 x5)
            (kernelRun0_A.sl.r_11 c arg1 harg1 arg4 harg4 arg5 harg5 arg6 harg6 x0 x3 x4 x5)
            (kernelRun0_A.sl.r_13 c arg1 harg1 arg4 harg4 arg5 harg5 x0 x3 x4)
            (fun n h => View.readAt (Elt Ideal) arg2.view (stateRect (storeOf n h)).toLoadRect (harg2.unread x1)))
          (k0_pay680 (kernelRun0_A.sl.r c arg1 harg1 arg5 harg5 x0 x4) (View.readAt (Elt Ideal) arg4.view (colRect 3).toLoadRect (harg4.unread x3)))
          (View.readAt (Elt Ideal) arg7.view (Rect.unit ![0, 0] S1x128.size inb_S1x128_S1x128_0_0).toLoadRect (harg7.unread x6))⟩] := by
  sl_kernel_rfl

end Cert.SampleIdeal
-- ==== Proof.SampleMasks.lean ====
/- The masks of the sample mixers' kernel: which tokens belong to one sequence, and which come before which. Sums over the rows of
   a block under such a mask are sums over the four tokens of a sequence. -/
module

public import proofs.«01_k».proof.Proof.Finite

@[expose] public section

noncomputable section

namespace Mixer

open Idealize.ShloMosaic

theorem tok_mask : ∀ (i : Fin 4) (x : Fin 16), IntOp.cmpi .eq (IntOp.shrui .vector (BitVec.ofNat 32 x.val) 2#32) (BitVec.ofNat 32 i.val)
    = if x.val / 4 = i.val then 1#1 else 0#1 := by decide +kernel

/-- Whether column `x` counts in row `r` of the product that forms the sums: the first 128 rows sum up to a token, the
    others from after it, within its sequence. -/
def sumMask (r : Fin 256) (x : Fin 128) : BitVec 1 :=
  IntOp.andi
    (IntOp.cmpi .eq
      (IntOp.shrui .vector
        (Scalar.select (IntOp.cmpi .slt (BitVec.ofNat 32 r.val) 128#32) (BitVec.ofNat 32 r.val)
          (IntOp.subi (BitVec.ofNat 32 r.val) 128#32))
        2#32)
      (IntOp.shrui .vector (BitVec.ofNat 32 x.val) 2#32))
    (IntOp.ori
      (IntOp.andi (IntOp.cmpi .slt (BitVec.ofNat 32 r.val) 128#32)
        (IntOp.cmpi .sle (BitVec.ofNat 32 x.val)
          (Scalar.select (IntOp.cmpi .slt (BitVec.ofNat 32 r.val) 128#32) (BitVec.ofNat 32 r.val)
            (IntOp.subi (BitVec.ofNat 32 r.val) 128#32))))
      (IntOp.andi (IntOp.xori (IntOp.cmpi .slt (BitVec.ofNat 32 r.val) 128#32) 1#1)
        (IntOp.cmpi .sgt (BitVec.ofNat 32 x.val)
          (Scalar.select (IntOp.cmpi .slt (BitVec.ofNat 32 r.val) 128#32) (BitVec.ofNat 32 r.val)
            (IntOp.subi (BitVec.ofNat 32 r.val) 128#32)))))

theorem sumMask_upto : ∀ (r x : Fin 128), sumMask ⟨r.val, by omega⟩ x
    = if x.val / 4 = r.val / 4 ∧ x.val % 4 ≤ r.val % 4 then 1#1 else 0#1 := by decide +kernel

theorem sumMask_after : ∀ (r x : Fin 128), sumMask ⟨128 + r.val, by omega⟩ x
    = if x.val / 4 = r.val / 4 ∧ r.val % 4 < x.val % 4 then 1#1 else 0#1 := by decide +kernel

theorem causal_mask : ∀ (r x : Fin 16), IntOp.andi (IntOp.cmpi .eq (IntOp.shrui .vector (BitVec.ofNat 32 r.val) 2#32) (IntOp.shrui .vector (BitVec.ofNat 32 x.val) 2#32))
      (IntOp.cmpi .sle (BitVec.ofNat 32 x.val) (BitVec.ofNat 32 r.val))
    = if x.val / 4 = r.val / 4 ∧ x.val % 4 ≤ r.val % 4 then 1#1 else 0#1 := by decide +kernel

/-- A sum over the rows of one of `m` sequences of four tokens is a sum over its tokens. -/
theorem sum_own {m : ℕ} (n : Fin m) (p : ℕ → Prop) [DecidablePred p] (f : Fin (m * 4) → EReal) :
    ∑ x : Fin (m * 4), (if x.val / 4 = n.val ∧ p (x.val % 4) then f x else 0)
      = ∑ s : Fin 4, if p s.val then f ⟨4 * n.val + s.val, by have := n.isLt; have := s.isLt; omega⟩ else 0 := by
  rw [← Equiv.sum_comp finProdFinEquiv, Fintype.sum_prod_type, Finset.sum_eq_single n]
  · refine Finset.sum_congr rfl fun s _ => ?_
    have hs := s.isLt
    have e : (finProdFinEquiv (n, s) : Fin (m * 4)) = ⟨4 * n.val + s.val, by have := n.isLt; omega⟩ :=
      Fin.ext (by show s.val + 4 * n.val = 4 * n.val + s.val; omega)
    rw [e]
    have h1 : (4 * n.val + s.val) / 4 = n.val := by omega
    have h2 : (4 * n.val + s.val) % 4 = s.val := by omega
    simp only [h1, h2, true_and]
  · intro j _ hj
    refine Finset.sum_eq_zero fun s _ => ?_
    have hs := s.isLt
    rw [if_neg]
    rintro ⟨h, -⟩
    apply hj
    apply Fin.ext
    have : (finProdFinEquiv (j, s) : Fin (m * 4)).val = s.val + 4 * j.val := rfl
    omega
  · intro h; exact absurd (Finset.mem_univ n) h

theorem select_mask (p : Prop) [Decidable p] (a b : EReal) : Scalar.select (if p then 1#1 else 0#1) a b = if p then a else b := by
  by_cases h : p
  · rw [if_pos h, if_pos h]; rfl
  · rw [if_neg h, if_neg h]; rfl

end Mixer
-- ==== Proof.SampleState.lean ====
/- What a store into the new states writes, entry by entry. -/
module

public import proofs.«01_k».proof.Proof.SampleMixed
public import proofs.«01_k».proof.Proof.SampleMasks

@[expose] public section

noncomputable section

namespace Cert.SampleIdeal

open Cert.SampleIdeal.Gen Idealize.ShloMosaic Idealize.ShloMosaic.TcCoe Idealize.SL.Sem Mixer

theorem seqOf_storeOf (n : Fin 32) (h : Fin 4) : seqOf (storeOf n h) = n.val := by
  have := h.isLt; simp only [seqOf, storeOf]; omega
theorem headOf_storeOf (n : Fin 32) (h : Fin 4) : headOf (storeOf n h) = h.val := by
  have := h.isLt; simp only [headOf, storeOf]; omega

theorem newState_apply (dec : FVec Ideal S128x128 .f32) (kd v : FVec Ideal S128x512 .bf16) (n : Fin 32) (h : Fin 4) (st : Vec Ideal S1x1x128x128 .f32) (a b : Fin 128) :
    newState dec kd v (storeOf n h) st (ix4 0 0 a b)
      = dec (ix2 a (dcol h n)) * st (ix4 0 0 a b) + ∑ s : Fin 4, kd (ix2 (tk n s) (hk h a)) * v (ix2 (tk n s) (hk h b)) := by
  pointwise [newState, k0_pay28]
  have hn := n.isLt
  have hh := h.isLt
  have e1 := seqOf_storeOf n h
  have e2 := headOf_storeOf n h
  have e3 : (storeOf n h).val % 4 = n.val % 4 := by simp only [storeOf]; omega
  have e4 : (storeOf n h).val / 16 = n.val / 4 := by simp only [storeOf]; omega
  have m := tok_mask ⟨n.val % 4, by omega⟩
  simp only [] at m
  congr 1
  · congr 2
    exact congrArg (ix2 a) (Fin.ext (by simp only [dcol]; omega))
  · refine (Finset.sum_congr rfl fun x _ => ?_).trans ((sum_own (m := 4) ⟨n.val % 4, by omega⟩ (fun _ => True) (fun x => kd (ix2 ⟨16 * (n.val / 4) + x.val, by have := x.isLt; omega⟩ (hk h a)) * v (ix2 ⟨16 * (n.val / 4) + x.val, by have := x.isLt; omega⟩ (hk h b)))).trans ?_)
    · simp only [e3, m, select_mask, and_true]
      refine if_congr Iff.rfl ?_ rfl
      congr 2 <;> congr 1 <;> apply Fin.ext <;> simp only [hk] <;> omega
    · refine Finset.sum_congr rfl fun s _ => ?_
      rw [if_pos trivial]
      congr 2 <;> congr 1 <;> apply Fin.ext <;> simp only [tk] <;> omega

end Cert.SampleIdeal
-- ==== Proof.SampleGates.lean ====
/- The gates of the recurrence in one block of the sample mixers' kernel: 128 rows, four tokens for each of 32 sequences. The
   kernel's words for the gated queries, keys and values are those of the layer. -/
module

public import proofs.«01_k».proof.Proof.SampleState

@[expose] public section

noncomputable section

namespace Cert.SampleIdeal

open Cert.SampleIdeal.Gen Idealize.ShloMosaic Idealize.ShloMosaic.TcCoe Idealize.SL.Sem Mixer

theorem pay2_apply (x : Vec Ideal S128x1024 .f32) (g : Vec Ideal S1x1024 .f32) (r : Fin 128) (k : Fin 1024) :
    k0_pay2 x g (ix2 r k) = rms (fun k => x (ix2 r k)) (fun k => g (ix2 0 k)) k := by
  pointwise [k0_pay2, rms]

theorem pay4_apply (x : Vec Ideal S128x1024 .f32) (g : Vec Ideal S1x1024 .f32) (w : Vec Ideal S1024x512 .bf16) (r : Fin 128) (c : Fin 512) :
    k0_pay4 x g w (ix2 r c) = mulMat (rms (fun k => x (ix2 r k)) (fun k => g (ix2 0 k))) (fun k c => w (ix2 k c)) c := by
  pointwise [k0_pay4, pay2_apply, mulMat]

theorem pay7_apply (x : Vec Ideal S128x1024 .f32) (g : Vec Ideal S1x1024 .f32) (w : Vec Ideal S1024x512 .bf16) (r : Fin 128) (c : Fin 512) :
    k0_pay7 x g w (ix2 r c) = Ideal.ofBits .f32 0x3F000000#32 * mulMat (rms (fun k => x (ix2 r k)) (fun k => g (ix2 0 k))) (fun k c => w (ix2 k c)) c := by
  pointwise [k0_pay7, pay2_apply, mulMat]

theorem pay18_apply (h : Vec Ideal S128x1024 .bf16) (w : Vec Ideal S1024x512 .bf16) (r : Fin 128) (c : Fin 512) :
    k0_pay18 (F := Ideal) h w (ix2 r c) = mulMat (fun k => h (ix2 r k)) (fun k c => w (ix2 k c)) c := by
  pointwise [k0_pay18, mulMat]

theorem pay680_apply (h : Vec Ideal S128x1024 .bf16) (w : Vec Ideal S1024x512 .bf16) (r : Fin 128) (c : Fin 512) :
    k0_pay680 (F := Ideal) h w (ix2 r c) = mulMat (fun k => h (ix2 r k)) (fun k c => w (ix2 k c)) c := by
  pointwise [k0_pay680, mulMat]

theorem pay684_apply (h : Vec Ideal S128x1024 .bf16) (w w' : Vec Ideal S1024x512 .bf16) (r : Fin 128) (c : Fin 512) :
    k0_pay684 (F := Ideal) h w w' (ix2 r c) = mulMat (fun k => h (ix2 r k)) (fun k c => w (ix2 k c)) c
      * Ideal.logistic (mulMat (fun k => h (ix2 r k)) (fun k c => w' (ix2 k c)) c) := by
  rw [← sigmoid_tanh]
  pointwise [k0_pay684, mulMat]

theorem pay3_apply (l : Vec Ideal S2x512 .f32) (c : Fin 512) : k0_pay3 l (ix2 0 c) = lowerBound (fun i => l (ix2 i c)) := by
  have e : Finset.fold max (Ideal.ofBits .f32 0xFF800000#32) (fun x : Fin 2 => l (ix2 x c)) Finset.univ = max (l (ix2 0 c)) (l (ix2 1 c)) := by
    rw [bot_f32, show (Finset.univ : Finset (Fin 2)) = {0, 1} from rfl, Finset.fold_insert (by decide), Finset.fold_singleton, max_bot_right]
  pointwise [k0_pay3]
  rw [e, Fin.sum_univ_two]
  rfl

theorem pay5_apply (l : Vec Ideal S2x512 .f32) (c : Fin 512) : k0_pay5 l (ix2 0 c)
    = Ideal.ofBits .f32 0x3F000000#32 * (Ideal.ofBits .f32 0x3F800000#32 - lowerBound (fun i => l (ix2 i c))) := by
  pointwise [k0_pay5, pay3_apply]

theorem pay6_apply (l : Vec Ideal S2x512 .f32) (c : Fin 512) : k0_pay6 l (ix2 0 c) = lowerBound (fun i => l (ix2 i c))
    + Ideal.ofBits .f32 0x3F000000#32 * (Ideal.ofBits .f32 0x3F800000#32 - lowerBound (fun i => l (ix2 i c))) := by
  pointwise [k0_pay6, pay5_apply, pay3_apply]

theorem pay8_apply (s l : FVec Ideal S1x512 .f32) (f : FVec Ideal S128x512 .f32) (r : Fin 128) (c : Fin 512) :
    k0_pay8 s l f (ix2 r c) = l (ix2 0 c) + s (ix2 0 c) * Ideal.tanh (f (ix2 r c)) := by
  pointwise [k0_pay8]

/-- A number that is finite less itself is zero, so the second and third terms of the split sum are. -/
theorem sub_self_real {x : EReal} (h : IsReal x) : x - x = 0 := by
  obtain ⟨r, rfl⟩ := h
  rw [← EReal.coe_sub, sub_self, EReal.coe_zero]

theorem select_zero (m : BitVec 1) : Scalar.select m (0 : EReal) 0 = 0 := by
  unfold Scalar.select; split <;> rfl

theorem pay10_apply (s l : FVec Ideal S1x512 .f32) (f : FVec Ideal S128x512 .f32) (r : Fin 256) (c : Fin 512)
    (hr : ∀ x : Fin 128, IsReal (Ideal.log (k0_pay8 s l f (ix2 x c)))) :
    k0_pay10 s l f (ix2 r c) = ∑ x : Fin 128, Scalar.select (sumMask r x) (Ideal.log (k0_pay8 s l f (ix2 x c))) 0 := by
  have hz : ∀ x : Fin 128, Ideal.log (k0_pay8 s l f (ix2 x c)) - Ideal.log (k0_pay8 s l f (ix2 x c)) = 0 := fun x => sub_self_real (hr x)
  pointwise [k0_pay10]
  simp only [hz, sub_zero]
  simp only [mul_ite, ite_mul, sumMask, select_zero, Finset.sum_const_zero, add_zero, mul_zero]

/-! ## The block's sequences -/

/-- Sequence `n` of a block. -/
def blockSeq (x0 : Vec Ideal S128x1024 .f32) (x1 : Vec Ideal S32x4x128x128 .f32) (x2 : Vec Ideal S30x32x512 .f32) (x3 : Vec Ideal S1024x3072 .bf16) (x4 : Vec Ideal S1x1024 .f32) (x5 : Vec Ideal S2x512 .f32) (x6 : Vec Ideal S1x128 .f32) (x7 : Vec Ideal S31x512 .f32) (x8 : Vec Ideal S1x512 .f32) (x9 : Vec Ideal S1x512 .f32) (x10 : Vec Ideal S1x512 .f32)
    (n : Fin 32) : Seq where
  x t k := x0 (ix2 (tk n t) k)
  st h a b := x1 (ix4 n h a b)
  hist i c := x2 (ix3 i n c)
  w k c := x3 (ix2 k c)
  g k := x4 (ix2 0 k)
  lbl i c := x5 (ix2 i c)
  onorm k := x6 (ix2 0 k)
  tap j c := x7 (ix2 j c)
  bias c := x8 (ix2 0 c)
  lng c := x9 (ix2 0 c)
  lnb c := x10 (ix2 0 c)

/-- A group of 512 columns of the input projection. -/
theorem cols_apply (x3 : Vec Ideal S1024x3072 .bf16) (i : Fin 6) (k : Fin 1024) (c : Fin 512) :
    View.ld x3 (colRect i) (ix2 k c) = x3 (ix2 k (colOf i c)) := by
  refine congrArg x3 (funext fun a => ?_)
  fin_cases a <;> apply Fin.ext
  · show 0 + 1 * k.val = k.val; omega
  · show 512 * i.val + 1 * c.val = 512 * i.val + c.val; omega

theorem colsQ_eq (x3 : Vec Ideal S1024x3072 .bf16) : colsQ x3 = View.ld x3 (colRect 0) := rfl
theorem colsF_eq (x3 : Vec Ideal S1024x3072 .bf16) : colsF x3 = View.ld x3 (colRect 1) := rfl
theorem colsI_eq (x3 : Vec Ideal S1024x3072 .bf16) : colsI x3 = View.ld x3 (colRect 2) := rfl

variable (x0 : Vec Ideal S128x1024 .f32) (x1 : Vec Ideal S32x4x128x128 .f32) (x2 : Vec Ideal S30x32x512 .f32) (x3 : Vec Ideal S1024x3072 .bf16) (x4 : Vec Ideal S1x1024 .f32) (x5 : Vec Ideal S2x512 .f32) (x6 : Vec Ideal S1x128 .f32) (x7 : Vec Ideal S31x512 .f32) (x8 : Vec Ideal S1x512 .f32) (x9 : Vec Ideal S1x512 .f32) (x10 : Vec Ideal S1x512 .f32)

/-- The `i`-th projection of a token, from the block's rows. -/
theorem proj_block (i : Fin 6) (n : Fin 32) (t : Fin 4) (c : Fin 512) :
    mulMat (rms (fun k => x0 (ix2 (tk n t) k)) (fun k => x4 (ix2 0 k))) (fun k c => View.ld x3 (colRect i) (ix2 k c)) c
      = (blockSeq x0 x1 x2 x3 x4 x5 x6 x7 x8 x9 x10 n).proj i t c := by
  unfold Seq.proj mulMat
  exact Finset.sum_congr rfl fun k _ => congrArg (HMul.hMul (rms (fun k => x0 (ix2 (tk n t) k)) (fun k => x4 (ix2 0 k)) k)) (cols_apply x3 i k c)

/-- The same from the rows already normed. -/
theorem proj_normed (i : Fin 6) (n : Fin 32) (t : Fin 4) (c : Fin 512) :
    mulMat (fun k => k0_pay2 x0 x4 (ix2 (tk n t) k)) (fun k c => View.ld x3 (colRect i) (ix2 k c)) c
      = (blockSeq x0 x1 x2 x3 x4 x5 x6 x7 x8 x9 x10 n).proj i t c := by
  rw [← proj_block]
  congr 1
  exact funext fun k => pay2_apply _ _ _ _

/-- The kernel's forget gates. -/
def forgetV : FVec Ideal S128x512 .f32 := k0_pay8 (k0_pay5 x5) (k0_pay6 x5) (k0_pay7 x0 x4 (colsF x3))

section finite

variable (hF : ∀ n, (blockSeq x0 x1 x2 x3 x4 x5 x6 x7 x8 x9 x10 n).Finite)
include hF

theorem forgetV_apply (n : Fin 32) (t : Fin 4) (c : Fin 512) :
    forgetV x0 x3 x4 x5 (ix2 (tk n t) c) = (blockSeq x0 x1 x2 x3 x4 x5 x6 x7 x8 x9 x10 n).forget t c := by
  unfold forgetV
  rw [pay8_apply, pay5_apply, pay6_apply, pay7_apply, colsF_eq, proj_block x0 x1 x2 x3 x4 x5 x6 x7 x8 x9 x10 1 n t c]
  exact gate_tanh ((hF n).lbReal c) ((hF n).proj 1 t c)

theorem log_forget_real (x : Fin 128) (c : Fin 512) : IsReal (Ideal.log (forgetV x0 x3 x4 x5 (ix2 x c))) := by
  have hx := x.isLt
  have e : x = tk ⟨x.val / 4, by omega⟩ ⟨x.val % 4, by omega⟩ := Fin.ext (by simp only [tk]; omega)
  rw [e, forgetV_apply x0 x1 x2 x3 x4 x5 x6 x7 x8 x9 x10 hF]
  exact (hF _).log _ _

/-- The sum over the block's rows that the kernel forms with a mask, by tokens of a sequence. -/
theorem masked_sum (n : Fin 32) (c : Fin 512) (p : ℕ → Prop) [DecidablePred p] :
    ∑ x : Fin 128, (if x.val / 4 = n.val ∧ p (x.val % 4) then Ideal.log (forgetV x0 x3 x4 x5 (ix2 x c)) else 0)
      = ∑ s : Fin 4, if p s.val then Ideal.log ((blockSeq x0 x1 x2 x3 x4 x5 x6 x7 x8 x9 x10 n).forget s c) else 0 := by
  refine (sum_own (m := 32) n p (fun x => Ideal.log (forgetV x0 x3 x4 x5 (ix2 x c)))).trans (Finset.sum_congr rfl fun s _ => ?_)
  exact if_congr Iff.rfl (congrArg Ideal.log (forgetV_apply x0 x1 x2 x3 x4 x5 x6 x7 x8 x9 x10 hF n s c)) rfl

/-- The sums up to a token. -/
theorem bV_apply (n : Fin 32) (t : Fin 4) (c : Fin 512) : bV x0 x3 x4 x5 (ix2 (tk n t) c) = (blockSeq x0 x1 x2 x3 x4 x5 x6 x7 x8 x9 x10 n).cum t c := by
  have hn := n.isLt
  have ht := t.isLt
  have e : bV x0 x3 x4 x5 (ix2 (tk n t) c) = k0_pay10 (k0_pay5 x5) (k0_pay6 x5) (k0_pay7 x0 x4 (colsF x3)) (ix2 ⟨(tk n t).val, by omega⟩ c) := by
    unfold bV
    generalize k0_pay5 x5 = a
    generalize k0_pay6 x5 = b
    generalize k0_pay7 x0 x4 (colsF x3) = f
    unfold k0_pay11
    generalize k0_pay10 a b f = w
    pointwise []
    all_goals exact congrArg w (funext fun a => Fin.ext (by fin_cases a <;> first | rfl | exact Nat.zero_add _))
  rw [e, pay10_apply _ _ _ _ _ (fun x => log_forget_real x0 x1 x2 x3 x4 x5 x6 x7 x8 x9 x10 hF x c)]
  simp only [sumMask_upto, select_mask]
  have e1 : (tk n t).val / 4 = n.val := by simp only [tk]; omega
  have e2 : (tk n t).val % 4 = t.val := by simp only [tk]; omega
  rw [e1, e2]
  exact masked_sum x0 x1 x2 x3 x4 x5 x6 x7 x8 x9 x10 hF n c (fun s => s ≤ t.val)

/-- The sums after a token. -/
theorem after_apply (n : Fin 32) (t : Fin 4) (c : Fin 512) :
    k0_pay12 (k0_pay5 x5) (k0_pay6 x5) (k0_pay7 x0 x4 (colsF x3)) (ix2 (tk n t) c) = (blockSeq x0 x1 x2 x3 x4 x5 x6 x7 x8 x9 x10 n).cum 3 c - (blockSeq x0 x1 x2 x3 x4 x5 x6 x7 x8 x9 x10 n).cum t c := by
  have hn := n.isLt
  have ht := t.isLt
  have e : k0_pay12 (k0_pay5 x5) (k0_pay6 x5) (k0_pay7 x0 x4 (colsF x3)) (ix2 (tk n t) c)
      = k0_pay10 (k0_pay5 x5) (k0_pay6 x5) (k0_pay7 x0 x4 (colsF x3)) (ix2 ⟨128 + (tk n t).val, by omega⟩ c) := by
    generalize k0_pay5 x5 = a
    generalize k0_pay6 x5 = b
    generalize k0_pay7 x0 x4 (colsF x3) = f
    unfold k0_pay12
    generalize k0_pay10 a b f = w
    pointwise []
    all_goals exact congrArg w (funext fun a => Fin.ext (by fin_cases a <;> first | rfl | exact Nat.zero_add _))
  rw [e, pay10_apply _ _ _ _ _ (fun x => log_forget_real x0 x1 x2 x3 x4 x5 x6 x7 x8 x9 x10 hF x c)]
  simp only [sumMask_after, select_mask]
  have e1 : (tk n t).val / 4 = n.val := by simp only [tk]; omega
  have e2 : (tk n t).val % 4 = t.val := by simp only [tk]; omega
  rw [e1, e2]
  refine (masked_sum x0 x1 x2 x3 x4 x5 x6 x7 x8 x9 x10 hF n c (fun s => t.val < s)).trans ?_
  exact sum_after (fun s => (hF n).log s c) t

/-- The queries, as the kernel forms them. -/
def qdV : FVec Ideal S128x512 .bf16 :=
  k0_pay15 (k0_pay13 (k0_pay5 x5) (k0_pay6 x5) (k0_pay7 x0 x4 (colsF x3))) (k0_pay14 (k0_pay4 x0 x4 (colsQ x3)))
/-- The keys, with the decay undone. -/
def kiV : FVec Ideal S128x512 .bf16 :=
  k0_pay16 (k0_pay9 (k0_pay5 x5) (k0_pay6 x5) (k0_pay7 x0 x4 (colsF x3))) (bV x0 x3 x4 x5)
/-- The keys, with the decay after them. -/
def kdV : FVec Ideal S128x512 .bf16 :=
  k0_pay17 (k0_pay9 (k0_pay5 x5) (k0_pay6 x5) (k0_pay7 x0 x4 (colsF x3))) (k0_pay12 (k0_pay5 x5) (k0_pay6 x5) (k0_pay7 x0 x4 (colsF x3)))
/-- The values. -/
def vV : FVec Ideal S128x512 .bf16 := k0_pay18 (k0_pay2 x0 x4) (colsI x3)

theorem pay9_apply (n : Fin 32) (t : Fin 4) (c : Fin 512) :
    k0_pay9 (k0_pay5 x5) (k0_pay6 x5) (k0_pay7 x0 x4 (colsF x3)) (ix2 (tk n t) c) = 1 - (blockSeq x0 x1 x2 x3 x4 x5 x6 x7 x8 x9 x10 n).forget t c := by
  rw [← forgetV_apply x0 x1 x2 x3 x4 x5 x6 x7 x8 x9 x10 hF]
  unfold forgetV k0_pay9
  generalize k0_pay8 (k0_pay5 x5) (k0_pay6 x5) (k0_pay7 x0 x4 (colsF x3)) = w
  pointwise [one_f32]

theorem qdV_apply (n : Fin 32) (t : Fin 4) (c : Fin 512) : qdV x0 x3 x4 x5 (ix2 (tk n t) c) = (blockSeq x0 x1 x2 x3 x4 x5 x6 x7 x8 x9 x10 n).qd t c := by
  have e1 := bV_apply x0 x1 x2 x3 x4 x5 x6 x7 x8 x9 x10 hF n t c
  have e2 := pay4_apply x0 x4 (colsQ x3) (tk n t) c
  rw [colsQ_eq, proj_block x0 x1 x2 x3 x4 x5 x6 x7 x8 x9 x10 0 n t c] at e2
  unfold qdV k0_pay13 Seq.qd silu
  rw [← e1, ← silu_tanh ((hF n).proj 0 t c), ← e2, colsQ_eq]
  unfold bV
  generalize k0_pay11 (k0_pay5 x5) (k0_pay6 x5) (k0_pay7 x0 x4 (colsF x3)) = w
  generalize k0_pay4 x0 x4 (View.ld x3 (colRect 0)) = z
  pointwise [k0_pay15, k0_pay14]

theorem kiV_apply (n : Fin 32) (t : Fin 4) (c : Fin 512) : kiV x0 x3 x4 x5 (ix2 (tk n t) c) = (blockSeq x0 x1 x2 x3 x4 x5 x6 x7 x8 x9 x10 n).ki t c := by
  unfold kiV Seq.ki
  rw [← bV_apply x0 x1 x2 x3 x4 x5 x6 x7 x8 x9 x10 hF n t c, ← pay9_apply x0 x1 x2 x3 x4 x5 x6 x7 x8 x9 x10 hF n t c, ← zero_sub]
  generalize bV x0 x3 x4 x5 = w
  generalize k0_pay9 (k0_pay5 x5) (k0_pay6 x5) (k0_pay7 x0 x4 (colsF x3)) = z
  pointwise [k0_pay16]

theorem kdV_apply (n : Fin 32) (t : Fin 4) (c : Fin 512) : kdV x0 x3 x4 x5 (ix2 (tk n t) c) = (blockSeq x0 x1 x2 x3 x4 x5 x6 x7 x8 x9 x10 n).kd t c := by
  unfold kdV Seq.kd
  rw [← after_apply x0 x1 x2 x3 x4 x5 x6 x7 x8 x9 x10 hF n t c, ← pay9_apply x0 x1 x2 x3 x4 x5 x6 x7 x8 x9 x10 hF n t c]
  generalize k0_pay12 (k0_pay5 x5) (k0_pay6 x5) (k0_pay7 x0 x4 (colsF x3)) = w
  generalize k0_pay9 (k0_pay5 x5) (k0_pay6 x5) (k0_pay7 x0 x4 (colsF x3)) = z
  pointwise [k0_pay17]

end finite

theorem vV_apply (n : Fin 32) (t : Fin 4) (c : Fin 512) : vV x0 x3 x4 (ix2 (tk n t) c) = (blockSeq x0 x1 x2 x3 x4 x5 x6 x7 x8 x9 x10 n).proj 2 t c := by
  unfold vV
  rw [pay18_apply, colsI_eq, proj_normed x0 x1 x2 x3 x4 x5 x6 x7 x8 x9 x10 2 n t c]

/-! ## The kernel's words -/

section words

variable (c : Dev nD) (arg1 : Memref sig .tc .vmem S128x1024 .f32) (harg1 : arg1.IsWhole)
  (arg4 : Memref sig .tc .vmem S1024x3072 .bf16) (harg4 : arg4.IsWhole)
  (arg5 : Memref sig .tc .vmem S1x1024 .f32) (harg5 : arg5.IsWhole) (arg6 : Memref sig .tc .vmem S2x512 .f32) (harg6 : arg6.IsWhole)

theorem word_slope : kernelRun0_A.sl.r_2 c arg6 harg6 x5 = k0_pay5 x5 := by
  unfold kernelRun0_A.sl.r_2
  simp only [View.readAt_eq_ld, harg6.read_unread]
  rw [View.ld_unit_zero (S := S2x512) zeroOffset2]

theorem word_level : kernelRun0_A.sl.r_3 c arg6 harg6 x5 = k0_pay6 x5 := by
  unfold kernelRun0_A.sl.r_3
  simp only [View.readAt_eq_ld, harg6.read_unread]
  rw [View.ld_unit_zero (S := S2x512) zeroOffset2]

theorem word_logit : kernelRun0_A.sl.r_4 c arg1 harg1 arg4 harg4 arg5 harg5 x0 x3 x4 = k0_pay7 x0 x4 (colsF x3) := by
  unfold kernelRun0_A.sl.r_4
  simp only [View.readAt_eq_ld, harg1.read_unread, harg4.read_unread, harg5.read_unread]
  rw [View.ld_unit_zero (S := S128x1024) zeroOffset2, View.ld_unit_zero (S := S1x1024) zeroOffset2]
  rfl

theorem word_query : kernelRun0_A.sl.r_9 c arg1 harg1 arg4 harg4 arg5 harg5 x0 x3 x4 = k0_pay14 (k0_pay4 x0 x4 (colsQ x3)) := by
  unfold kernelRun0_A.sl.r_9
  try unfold kernelRun0_A.sl.r_1
  simp only [View.readAt_eq_ld, harg1.read_unread, harg4.read_unread, harg5.read_unread]
  rw [View.ld_unit_zero (S := S128x1024) zeroOffset2, View.ld_unit_zero (S := S1x1024) zeroOffset2]
  rfl

theorem word_qd : kernelRun0_A.sl.r_10 c arg1 harg1 arg4 harg4 arg5 harg5 arg6 harg6 x0 x3 x4 x5 = qdV x0 x3 x4 x5 := by
  unfold kernelRun0_A.sl.r_10 kernelRun0_A.sl.r_8
  rw [word_query, word_slope, word_level, word_logit]
  rfl

theorem word_ki : kernelRun0_A.sl.r_11 c arg1 harg1 arg4 harg4 arg5 harg5 arg6 harg6 x0 x3 x4 x5 = kiV x0 x3 x4 x5 := by
  unfold kernelRun0_A.sl.r_11
  rw [word_b]
  unfold kernelRun0_A.sl.r_5
  rw [word_slope, word_level, word_logit]
  rfl

theorem word_kd : kernelRun0_A.sl.r_12 c arg1 harg1 arg4 harg4 arg5 harg5 arg6 harg6 x0 x3 x4 x5 = kdV x0 x3 x4 x5 := by
  unfold kernelRun0_A.sl.r_12 kernelRun0_A.sl.r_7 kernelRun0_A.sl.r_5
  rw [word_slope, word_level, word_logit]
  rfl

theorem word_v : kernelRun0_A.sl.r_13 c arg1 harg1 arg4 harg4 arg5 harg5 x0 x3 x4 = vV x0 x3 x4 := by
  unfold kernelRun0_A.sl.r_13 vV colsI
  rw [word_norm]
  simp only [View.readAt_eq_ld, harg4.read_unread]

end words

end Cert.SampleIdeal
-- ==== Proof.SampleRecur.lean ====
/- The recurrence's output in one block of the sample mixers' kernel: four sequences at a time, what a token reads of its
   sequence's old state and of the tokens up to it. -/
module

public import proofs.«01_k».proof.Proof.SampleGates

@[expose] public section

noncomputable section

namespace Cert.SampleIdeal

open Cert.SampleIdeal.Gen Idealize.ShloMosaic Idealize.ShloMosaic.TcCoe Idealize.SL.Sem Mixer

/-- Token `t` of the `i`-th of four sequences. -/
def gk (i t : Fin 4) : Fin 16 := ⟨4 * i.val + t.val, by have := i.isLt; have := t.isLt; omega⟩

theorem gk_div (i t : Fin 4) : (gk i t).val / 4 = i.val := by have := t.isLt; simp only [gk]; omega
theorem gk_mod (i t : Fin 4) : (gk i t).val % 4 = t.val := by have := t.isLt; simp only [gk]; omega

theorem interV_apply (qd : FVec Ideal S16x128 .bf16) (st : Vec Ideal S1x1x128x128 .f32) (i : Fin 4) (r : Fin 16) (b : Fin 128) :
    interV qd st i (ix2 r b) = if r.val / 4 = i.val then ∑ k : Fin 128, qd (ix2 r k) * st (ix4 0 0 k b) else 0 := by
  pointwise [interV, k0_pay28]
  rw [tok_mask, select_mask]

theorem intraV_apply (qd ki v : FVec Ideal S16x128 .bf16) (i t : Fin 4) (b : Fin 128) :
    intraV qd ki v (ix2 (gk i t) b)
      = ∑ s : Fin 4, (if s.val ≤ t.val then ∑ k : Fin 128, qd (ix2 (gk i t) k) * ki (ix2 (gk i s) k) else 0) * v (ix2 (gk i s) b) := by
  pointwise [intraV, k0_pay27]
  simp only [causal_mask, select_mask, gk_div, gk_mod, ite_mul, zero_mul]
  exact sum_own (m := 4) i (fun s => s ≤ t.val) (fun x => (∑ k : Fin 128, qd (ix2 (gk i t) k) * ki (ix2 x k)) * v (ix2 x b))

theorem sliceV_apply (a : FVec Ideal S128x512 .bf16) (g : Fin 8) (h : Fin 4) (i t : Fin 4) (k : Fin 128) :
    sliceV a g h (ix2 (gk i t) k) = a (ix2 (tk ⟨4 * g.val + i.val, by have := g.isLt; have := i.isLt; omega⟩ t) (hk h k)) := by
  refine congrArg a (funext fun x => ?_)
  fin_cases x <;> apply Fin.ext
  · show 16 * g.val + (4 * i.val + t.val) = 4 * (4 * g.val + i.val) + t.val; omega
  · rfl

theorem groupHeadV_apply (qd ki v : FVec Ideal S128x512 .bf16) (st : Fin 32 → Fin 4 → Vec Ideal S1x1x128x128 .f32) (g : Fin 8) (h : Fin 4)
    (i t : Fin 4) (b : Fin 128) (n : Fin 32) (hn : n.val = 4 * g.val + i.val) :
    groupHeadV qd ki v st g h (ix2 (gk i t) b)
      = (∑ k : Fin 128, qd (ix2 (tk n t) (hk h k)) * st n h (ix4 0 0 k b))
        + ∑ s : Fin 4, (if s.val ≤ t.val then ∑ k : Fin 128, qd (ix2 (tk n t) (hk h k)) * ki (ix2 (tk n s) (hk h k)) else 0) * v (ix2 (tk n s) (hk h b)) := by
  have hl : 4 * g.val + i.val < 32 := by rw [← hn]; exact n.isLt
  obtain rfl : (⟨4 * g.val + i.val, hl⟩ : Fin 32) = n := Fin.ext hn.symm
  clear hn
  unfold groupHeadV
  show intraV _ _ _ _ + interV _ _ _ _ + interV _ _ _ _ + interV _ _ _ _ + interV _ _ _ _ = _
  simp only [interV_apply, intraV_apply, sliceV_apply, gk_div]
  rw [add_comm (∑ k : Fin 128, _)]
  fin_cases i <;> simp

/-- Four heads side by side, for 16 rows. -/
theorem heads16 (w : Fin 4 → FVec Ideal S16x128 .f32) (h : Fin 4) (r : Fin 16) (b : Fin 128) :
    concatenate S16x512 1 [⟨S16x128, w 0⟩, ⟨S16x128, w 1⟩, ⟨S16x128, w 2⟩, ⟨S16x128, w 3⟩] concatenates_S16x128_S16x128_S16x128_S16x128_S16x512_d1 (ix2 r (hk h b))
      = w h (ix2 r b) := by
  have hb := b.isLt
  fin_cases h <;> pointwise [hk]
  all_goals
    split_ifs <;> first
      | (exfalso; omega)
      | exact congrArg (fun z => w _ (ix2 r z)) (Fin.ext (by simp only []; omega))

/-- Four heads side by side, for 128 rows. -/
theorem heads128 (w : Fin 4 → FVec Ideal S128x128 .f32) (h : Fin 4) (r : Fin 128) (b : Fin 128) :
    concatenate S128x512 1 [⟨S128x128, w 0⟩, ⟨S128x128, w 1⟩, ⟨S128x128, w 2⟩, ⟨S128x128, w 3⟩] concatenates_S128x128_S128x128_S128x128_S128x128_S128x512_d1 (ix2 r (hk h b))
      = w h (ix2 r b) := by
  have hb := b.isLt
  fin_cases h <;> pointwise [hk]
  all_goals
    split_ifs <;> first
      | (exfalso; omega)
      | exact congrArg (fun z => w _ (ix2 r z)) (Fin.ext (by simp only []; omega))

/-- Four quarters of the columns side by side, for 32 rows. -/
theorem heads32 (w : Fin 4 → FVec Ideal S32x128 .f32) (h : Fin 4) (r : Fin 32) (b : Fin 128) :
    concatenate S32x512 1 [⟨S32x128, w 0⟩, ⟨S32x128, w 1⟩, ⟨S32x128, w 2⟩, ⟨S32x128, w 3⟩] concatenates_S32x128_S32x128_S32x128_S32x128_S32x512_d1 (ix2 r (hk h b))
      = w h (ix2 r b) := by
  have hb := b.isLt
  fin_cases h <;> pointwise [hk]
  all_goals
    split_ifs <;> first
      | (exfalso; omega)
      | exact congrArg (fun z => w _ (ix2 r z)) (Fin.ext (by simp only []; omega))

theorem groupV_apply (qd ki v : FVec Ideal S128x512 .bf16) (st : Fin 32 → Fin 4 → Vec Ideal S1x1x128x128 .f32) (g : Fin 8) (h : Fin 4)
    (r : Fin 16) (b : Fin 128) : groupV qd ki v st g (ix2 r (hk h b)) = groupHeadV qd ki v st g h (ix2 r b) :=
  heads16 (fun h => groupHeadV qd ki v st g h) h r b

set_option maxHeartbeats 1600000 in
/-- Eight groups of 16 rows, one below the other. -/
theorem groups_apply (w : Fin 8 → FVec Ideal S16x512 .f32) (g : Fin 8) (r : Fin 16) (k : Fin 512) :
    concatenate S128x512 0 [⟨S16x512, w 0⟩, ⟨S16x512, w 1⟩, ⟨S16x512, w 2⟩, ⟨S16x512, w 3⟩, ⟨S16x512, w 4⟩, ⟨S16x512, w 5⟩, ⟨S16x512, w 6⟩, ⟨S16x512, w 7⟩]
      concatenates_S16x512_S16x512_S16x512_S16x512_S16x512_S16x512_S16x512_S16x512_S128x512_d0
      (ix2 ⟨16 * g.val + r.val, by have := g.isLt; have := r.isLt; omega⟩ k) = w g (ix2 r k) := by
  have hr := r.isLt
  fin_cases g <;> pointwise []
  all_goals
    split_ifs <;> first
      | (exfalso; omega)
      | exact congrArg (fun z => w _ (ix2 z k)) (Fin.ext (by simp only []; omega))

theorem recurV_apply (qd ki v : FVec Ideal S128x512 .bf16) (st : Fin 32 → Fin 4 → Vec Ideal S1x1x128x128 .f32) (n : Fin 32) (h : Fin 4)
    (t : Fin 4) (b : Fin 128) :
    recurV qd ki v st (ix2 (tk n t) (hk h b))
      = (∑ k : Fin 128, qd (ix2 (tk n t) (hk h k)) * st n h (ix4 0 0 k b))
        + ∑ s : Fin 4, (if s.val ≤ t.val then ∑ k : Fin 128, qd (ix2 (tk n t) (hk h k)) * ki (ix2 (tk n s) (hk h k)) else 0) * v (ix2 (tk n s) (hk h b)) := by
  have hn := n.isLt
  have ht := t.isLt
  rw [← groupHeadV_apply qd ki v st ⟨n.val / 4, by omega⟩ h ⟨n.val % 4, by omega⟩ t b n (by simp only []; omega), ← groupV_apply,
    ← groups_apply (fun g => groupV qd ki v st g)]
  unfold recurV
  refine congrArg (fun r => concatenate S128x512 0 _ _ (ix2 r _)) (Fin.ext ?_)
  simp only [tk, gk]
  omega

theorem siluV_apply (x : FVec Ideal S128x512 .f32) (r : Fin 128) (c : Fin 512) (hx : IsReal (x (ix2 r c))) :
    siluV x (ix2 r c) = silu (x (ix2 r c)) := by
  unfold silu
  rw [← silu_tanh hx]
  pointwise [siluV]

theorem headNormV_apply (o : FVec Ideal S128x512 .f32) (g : Vec Ideal S1x128 .f32) (h : Fin 4) (r b : Fin 128) :
    headNormV o g h (ix2 r b) = o (ix2 r (hk h b))
      * Ideal.rsqrt (Ideal.div (∑ k : Fin 128, o (ix2 r (hk h k)) * o (ix2 r (hk h k))) (Ideal.ofBits .f32 0x43000000#32) + Ideal.ofBits .f32 0x358637BD#32)
      * g (ix2 0 b) := by
  pointwise [headNormV, hk]

theorem mixedA_apply (o og : FVec Ideal S128x512 .f32) (g : Vec Ideal S1x128 .f32) (r : Fin 128) (h : Fin 4) (b : Fin 128)
    (hr : IsReal (og (ix2 r (hk h b)))) :
    mixedA o og g (ix2 r (hk h b)) = headNormV o g h (ix2 r b) * silu (og (ix2 r (hk h b))) := by
  rw [← siluV_apply og r _ hr, ← heads128 (fun h => headNormV o g h) h r b]
  rfl

end Cert.SampleIdeal
-- ==== Proof.SampleConv.lean ====
/- The convolution in one block of the sample mixers' kernel: its inputs are stored by quarters of the columns and read back token
   by token, its sums are stored token by token and read back by quarters. -/
module

public import proofs.«01_k».proof.Proof.SampleRecur

@[expose] public section

noncomputable section

namespace Cert.SampleIdeal

open Cert.SampleIdeal.Gen Idealize.ShloMosaic Idealize.ShloMosaic.TcCoe Idealize.SL.Sem Mixer

/-- Every column is one of a quarter. -/
theorem hk_split (c : Fin 512) : ∃ j b, c = hk j b :=
  ⟨⟨c.val / 128, by have := c.isLt; omega⟩, ⟨c.val % 128, by omega⟩, Fin.ext (by simp only [hk]; omega)⟩

/-- Every row is a token of a sequence. -/
theorem tk_split (r : Fin 128) : ∃ n t, r = tk n t :=
  ⟨⟨r.val / 4, by have := r.isLt; omega⟩, ⟨r.val % 4, by omega⟩, Fin.ext (by simp only [tk]; omega)⟩

theorem rows_idx (j s : Fin 4) (n : Fin 32) (k : Fin 128) :
    (rowsRect j s).toLoadRect.idx (ix3 0 n k) = (ix3 j (tk n s) k : S4x128x128.Idx) := by
  funext a
  fin_cases a <;> apply Fin.ext
  · show j.val + 1 * 0 = j.val; omega
  · show s.val + 4 * n.val = 4 * n.val + s.val; omega
  · show 0 + 1 * k.val = k.val; omega

theorem plane_idx (j : Fin 4) (r k : Fin 128) :
    (planeRect j).toLoadRect.idx (ix3 0 r k) = (ix3 j r k : S4x128x128.Idx) := by
  funext a
  fin_cases a <;> apply Fin.ext
  · show j.val + 1 * 0 = j.val; omega
  · show 0 + 1 * r.val = r.val; omega
  · show 0 + 1 * k.val = k.val; omega

theorem ix3_eta {m n p : ℕ} (x : (Shape.mk 3 ![m, n, p]).Idx) : x = ix3 (x 0) (x 1) (x 2) := by
  funext a; fin_cases a <;> rfl

/-- What is read back of an array stored by quarters. -/
theorem read_planes (v : Memref sig .tc .vmem S4x128x128 .f32) (b : FVec Ideal S128x512 .f32) (j s : Fin 4) (n : Fin 32) (k : Fin 128) :
    v.view.readCov (planePieces b) (rowsRect j s).toLoadRect (ix3 0 n k) = b (ix2 (tk n s) (hk j k)) := by
  rw [View.readCov_eq_canon']
  show View.canon _ ((rowsRect j s).toLoadRect.idx (ix3 0 n k)) = _
  rw [rows_idx]
  refine View.canon_apply_of_pieces (Val := Elt Ideal) (e := .f32) (S := S4x128x128) (headPlane b) _ ?_ _ ?_
  · intro p hp
    obtain ⟨j, -, rfl⟩ := List.mem_map.mp hp
    refine head_piece j _ b _ fun r k => ?_
    pointwise [hk]
  · exact ⟨_, List.mem_map.mpr ⟨j, by simp, rfl⟩, head_mem j _ _ (planeInb j)⟩

/-- What is read back of the convolution's sums. -/
theorem read_sums (v : Memref sig .tc .vmem S4x128x128 .f32) (z : Fin 4 → FVec Ideal S32x512 .f32) (j t : Fin 4) (n : Fin 32) (k : Fin 128) :
    v.view.readCov (convPieces z) (planeRect j).toLoadRect (ix3 0 (tk n t) k) = z t (ix2 n (hk j k)) := by
  rw [View.readCov_eq_canon']
  show View.canon _ ((planeRect j).toLoadRect.idx (ix3 0 (tk n t) k)) = _
  rw [plane_idx]
  refine (View.canon_apply_of_pieces (Val := Elt Ideal) (e := .f32) (S := S4x128x128)
    (fun y : S4x128x128.Idx => z ⟨(y 1).val % 4, by omega⟩ (ix2 ⟨(y 1).val / 4, by have : (y 1).val < 128 := (y 1).isLt; omega⟩ (hk (y 0) (y 2)))) _ ?_ _ ?_).trans ?_
  · intro p hp
    obtain ⟨q, -, rfl⟩ := List.mem_map.mp hp
    intro x
    obtain ⟨x1, x2, rfl⟩ : ∃ (x1 : Fin 32) (x2 : Fin 128), x = (ix3 0 x1 x2 : S1x32x128.Idx) := ⟨x 1, x 2, by
      have h0 : (x 0).val < 1 := (x 0).isLt
      funext a
      fin_cases a <;> apply Fin.ext
      · show (x 0).val = 0; omega
      · rfl
      · rfl⟩
    show _ = (fun y : S4x128x128.Idx => z ⟨(y 1).val % 4, by omega⟩ (ix2 ⟨(y 1).val / 4, by have : (y 1).val < 128 := (y 1).isLt; omega⟩ (hk (y 0) (y 2))))
      ((rowsRect ⟨q.val % 4, by omega⟩ ⟨q.val / 4, by omega⟩).toLoadRect.idx (ix3 0 x1 x2))
    rw [rows_idx]
    have hq := q.isLt
    have e1 : (⟨(tk x1 ⟨q.val / 4, by omega⟩).val % 4, by omega⟩ : Fin 4) = ⟨q.val / 4, by omega⟩ := Fin.ext (by simp only [tk]; omega)
    have e2 : (⟨(tk x1 ⟨q.val / 4, by omega⟩).val / 4, by simp only [tk]; omega⟩ : Fin 32) = x1 := Fin.ext (by simp only [tk]; omega)
    refine Eq.trans (b := z ⟨q.val / 4, by omega⟩ (ix2 x1 (hk ⟨q.val % 4, by omega⟩ x2))) ?_ (congrArg₂ (fun t n => z t (ix2 n (hk ⟨q.val % 4, by omega⟩ x2))) e1 e2).symm
    show (shapeCast S1x32x128 (extractStridedSlice S32x128 ![0, 128 * (q.val % 4)]
      (z ⟨q.val / 4, by omega⟩) (quarterSlices ⟨q.val % 4, by omega⟩)) shapeCasts_S32x128_S1x32x128) (ix3 0 x1 x2) = _
    generalize z ⟨q.val / 4, by omega⟩ = y
    pointwise [hk]
  · have hj := j.isLt
    have ht := t.isLt
    refine ⟨_, List.mem_map.mpr ⟨⟨4 * t.val + j.val, by omega⟩, by simp, rfl⟩, ?_⟩
    have e1 : (⟨(4 * t.val + j.val) % 4, by omega⟩ : Fin 4) = j := Fin.ext (by simp only []; omega)
    have e2 : (⟨(4 * t.val + j.val) / 4, by omega⟩ : Fin 4) = t := Fin.ext (by simp only []; omega)
    show _ ∈ (rowsRect _ _).set
    rw [e1, e2, LoadRect.mem_set]
    intro a
    fin_cases a
    · exact ⟨0, Nat.one_pos, rfl⟩
    · exact ⟨n.val, n.isLt, by show 4 * n.val + t.val = t.val + 4 * n.val; omega⟩
    · exact ⟨k.val, k.isLt, by show k.val = 0 + 1 * k.val; omega⟩
  · have ht := t.isLt
    have h1 : (4 * n.val + t.val) % 4 = t.val := by omega
    have h2 : (4 * n.val + t.val) / 4 = n.val := by omega
    show z ⟨(4 * n.val + t.val) % 4, _⟩ (ix2 ⟨(4 * n.val + t.val) / 4, _⟩ (hk j k)) = _
    simp only [h1, h2]

theorem stepV_apply (w : Fin 4 → Vec Ideal S1x32x128 .f32) (n : Fin 32) (j : Fin 4) (b : Fin 128) :
    stepV w (ix2 n (hk j b)) = w j (ix3 0 n b) := by
  refine (heads32 (fun j => shapeCast S32x128 (w j) shapeCasts_S1x32x128_S32x128) j n b).trans ?_
  pointwise []

theorem tapV_apply (w : Vec Ideal S1x512 .f32) (n : Fin 32) (c : Fin 512) : tapV w (ix2 n c) = w (ix2 0 c) := by
  pointwise [tapV]

theorem hist_apply (w : Vec Ideal S1x32x512 .f32) (n : Fin 32) (c : Fin 512) :
    shapeCast S32x512 w shapeCasts_S1x32x512_S32x512 (ix2 n c) = w (ix3 0 n c) := by
  pointwise []

theorem bias_apply (w : Vec Ideal S1x512 .f32) (n : Fin 32) (c : Fin 512) :
    broadcastTo S32x512 (shapeCast S1x512 w shapeCasts_S1x512_S1x512) broadcasts_S1x512_S32x512 (ix2 n c) = w (ix2 0 c) := by
  pointwise []

theorem foldl_apply {α : Type} (L : List α) (f : α → FVec Ideal S32x512 .f32) (z : FVec Ideal S32x512 .f32) (i : S32x512.Idx) :
    (L.foldl (fun acc s => addf acc (f s)) z) i = z i + (L.map (fun s => f s i)).sum := by
  induction L generalizing z with
  | nil => simp
  | cons a L ih =>
    rw [List.foldl_cons, ih, List.map_cons, List.sum_cons, ← add_assoc]
    rfl

theorem sum_split {m : ℕ} (a b : ℕ) (h : a + b = m) (f : Fin m → EReal) :
    ∑ j : Fin m, f j = (∑ i : Fin a, f ⟨i.val, by omega⟩) + ∑ s : Fin b, f ⟨a + s.val, by omega⟩ := by
  subst h
  exact Fin.sum_univ_add f

/-- The convolution at a token is the bias and 31 products. -/
theorem convV_apply (t : Fin 4) (bias : Vec Ideal S1x512 .f32) (tap : Fin 31 → Vec Ideal S1x512 .f32) (hist : Fin 30 → Vec Ideal S1x32x512 .f32)
    (u : Fin 4 → FVec Ideal S32x512 .f32) (n : Fin 32) (c : Fin 512) (full : Fin 34 → EReal)
    (h1 : ∀ i : Fin 30, full ⟨i.val, by omega⟩ = hist i (ix3 0 n c)) (h2 : ∀ s : Fin 4, full ⟨30 + s.val, by omega⟩ = u s (ix2 n c)) :
    convV t bias tap hist u (ix2 n c) = (∑ j : Fin 31, full ⟨j.val + t.val, by omega⟩ * tap j (ix2 0 c)) + bias (ix2 0 c) := by
  have ht := t.isLt
  unfold convV
  rw [foldl_apply, foldl_apply, ← Fin.sum_univ_def, ← Fin.sum_univ_def, bias_apply, sum_split (m := 31) (30 - t.val) (t.val + 1) (by omega),
    add_comm _ (bias (ix2 0 c)), ← add_assoc]
  refine congrArg₂ (· + ·) (congrArg₂ (· + ·) rfl (Finset.sum_congr rfl fun i _ => ?_)) (Finset.sum_congr rfl fun s _ => ?_)
  · show tapV _ (ix2 n c) * shapeCast S32x512 _ _ (ix2 n c) = _
    have hi := i.isLt
    rw [tapV_apply, hist_apply, mul_comm, ← h1]
  · show tapV _ (ix2 n c) * _ = _
    have hs := s.isLt
    rw [tapV_apply, mul_comm, ← h2]
    congr 2
    exact Fin.ext (by simp only []; omega)

/-- The norm as the kernel writes it. -/
def normV (z : FVec Ideal S128x512 .f32) (g b : Vec Ideal S1x512 .f32) : FVec Ideal S128x512 .f32 :=
  let m := subf z (broadcastTo S128x512 (divf (shapeCast S128x1 (multiReduction .add [1] S128 z 0x00000000#32 reduces_S128x512_S128 (.inl rfl) rfl)
    shapeCasts_S128_S128x1) (broadcast S128x1 (Scalar.ofBits .f32 0x44000000#32))) broadcasts_S128x1_S128x512)
  addf (mulf (mulf m (broadcastTo S128x512 (rsqrt (addf (divf (shapeCast S128x1 (multiReduction .add [1] S128 (mulf m m) 0x00000000#32
      reduces_S128x512_S128 (.inl rfl) rfl) shapeCasts_S128_S128x1) (broadcast S128x1 (Scalar.ofBits .f32 0x44000000#32)))
      (broadcast S128x1 (Scalar.ofBits .f32 0x358637BD#32)))) broadcasts_S128x1_S128x512))
    (broadcastTo S128x512 g broadcasts_S1x512_S128x512)) (broadcastTo S128x512 b broadcasts_S1x512_S128x512)

/-- Four quarters of the columns, put together. -/
def quartersV (w : Fin 4 → Vec Ideal S1x128x128 .f32) : FVec Ideal S128x512 .f32 :=
  concatenate S128x512 1 [⟨S128x128, shapeCast S128x128 (w 0) shapeCasts_S1x128x128_S128x128⟩, ⟨S128x128, shapeCast S128x128 (w 1) shapeCasts_S1x128x128_S128x128⟩,
    ⟨S128x128, shapeCast S128x128 (w 2) shapeCasts_S1x128x128_S128x128⟩, ⟨S128x128, shapeCast S128x128 (w 3) shapeCasts_S1x128x128_S128x128⟩]
    concatenates_S128x128_S128x128_S128x128_S128x128_S128x512_d1

theorem quartersV_apply (w : Fin 4 → Vec Ideal S1x128x128 .f32) (r : Fin 128) (j : Fin 4) (b : Fin 128) :
    quartersV w (ix2 r (hk j b)) = w j (ix3 0 r b) := by
  refine (heads128 (fun j => shapeCast S128x128 (w j) shapeCasts_S1x128x128_S128x128) j r b).trans ?_
  pointwise []

theorem normV_apply (z : FVec Ideal S128x512 .f32) (g b : Vec Ideal S1x512 .f32) (r : Fin 128) (c : Fin 512) :
    normV z g b (ix2 r c) = layerNorm (fun c => z (ix2 r c)) (fun c => g (ix2 0 c)) (fun c => b (ix2 0 c)) c := by
  pointwise [normV, layerNorm]

theorem pay801_eq (w : Fin 4 → Vec Ideal S1x128x128 .f32) (g b : Vec Ideal S1x512 .f32) :
    k0_pay801 (w 0) (w 1) (w 2) (w 3) g b = normV (quartersV w) g b := rfl

theorem pay802_eq (z : FVec Ideal S128x512 .f32) : k0_pay802 z = siluV z := rfl

end Cert.SampleIdeal
-- ==== Proof.SampleBlock.lean ====
/- What one point of the grid of the sample mixers' kernel leaves in its three windows, as the layer's values of the 32 sequences of
   its block. -/
module

public import proofs.«01_k».proof.Proof.SampleConv

@[expose] public section

noncomputable section

namespace Cert.SampleIdeal

open Cert.SampleIdeal.Gen Idealize.ShloMosaic Idealize.ShloMosaic.TcCoe Idealize.SL.Sem Mixer

/-- The mixers' output of the block's sequences as an array of token rows. -/
def mixedAt (S : Fin 32 → Seq) : S128x1024.Idx → EReal := fun y =>
  (S ⟨(y 0).val / 4, by have : (y 0).val < 128 := (y 0).isLt; omega⟩).mix ⟨(y 0).val % 4, by omega⟩ (y 1)

theorem mixedAt_apply (S : Fin 32 → Seq) (n : Fin 32) (t : Fin 4) (k : Fin 1024) : mixedAt S (ix2 (tk n t) k) = (S n).mix t k := by
  have e1 : (⟨(tk n t).val / 4, by simp only [tk]; omega⟩ : Fin 32) = n := Fin.ext (by simp only [tk]; omega)
  have e2 : (⟨(tk n t).val % 4, by omega⟩ : Fin 4) = t := Fin.ext (by simp only [tk]; omega)
  exact congrArg₂ (fun n t => (S n).mix t k) e1 e2

variable (c : Dev nD) (i : grid0.Coords) (arg1 : Memref sig .tc .vmem S128x1024 .f32) (harg1 : arg1.IsWhole) (arg2 : Memref sig .tc .vmem S32x4x128x128 .f32) (harg2 : arg2.IsWhole) (arg3 : Memref sig .tc .vmem S30x32x512 .f32) (harg3 : arg3.IsWhole) (arg4 : Memref sig .tc .vmem S1024x3072 .bf16) (harg4 : arg4.IsWhole) (arg5 : Memref sig .tc .vmem S1x1024 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S31x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S128x1024 .bf16) (harg12 : arg12.IsWhole) (arg13 : Memref sig .tc .vmem S32x4x128x128 .f32) (harg13 : arg13.IsWhole) (arg14 : Memref sig .tc .vmem S30x32x512 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x128x128 .f32) (harg17 : arg17.IsWhole)
    (x0 : Vec Ideal S128x1024 .f32) (x1 : Vec Ideal S32x4x128x128 .f32) (x2 : Vec Ideal S30x32x512 .f32) (x3 : Vec Ideal S1024x3072 .bf16) (x4 : Vec Ideal S1x1024 .f32) (x5 : Vec Ideal S2x512 .f32) (x6 : Vec Ideal S1x128 .f32) (x7 : Vec Ideal S31x512 .f32) (x8 : Vec Ideal S1x512 .f32) (x9 : Vec Ideal S1x512 .f32) (x10 : Vec Ideal S1x512 .f32)

theorem store_split (k : Fin 128) : ∃ n h, k = storeOf n h :=
  ⟨⟨4 * (k.val / 16) + k.val % 4, by have := k.isLt; omega⟩, ⟨k.val / 4 % 4, by omega⟩, Fin.ext (by simp only [storeOf]; omega)⟩

theorem stored_rows (w : FVec Ideal S32x512 .f32) (n : Fin 32) (k : Fin 512) :
    shapeCast S1x32x512 w shapeCasts_S32x512_S1x32x512 (ix3 0 n k) = w (ix2 n k) := by
  pointwise []

theorem stored_hist (w : Vec Ideal S1x32x512 .f32) (n : Fin 32) (k : Fin 512) :
    shapeCast S1x32x512 (shapeCast S32x512 w shapeCasts_S1x32x512_S32x512) shapeCasts_S32x512_S1x32x512 (ix3 0 n k) = w (ix3 0 n k) := by
  pointwise []

/-- A projection of a token, with the columns as loaded. -/
theorem proj_word (i : Fin 6) (n : Fin 32) (t : Fin 4) (k : Fin 512) :
    mulMat (fun k => k0_pay2 x0 x4 (ix2 (tk n t) k))
      (fun (k : Fin 1024) (c : Fin 512) => View.readAt (Elt Ideal) arg4.view (colRect i).toLoadRect (harg4.unread x3) (ix2 k c)) k
      = (blockSeq x0 x1 x2 x3 x4 x5 x6 x7 x8 x9 x10 n).proj i t k := by
  rw [View.readAt_eq_ld, harg4.read_unread]
  exact proj_normed x0 x1 x2 x3 x4 x5 x6 x7 x8 x9 x10 i n t k

/-- The convolution's input, as the kernel reads it back. -/
theorem uWord_apply (s : Fin 4) (n : Fin 32) (k : Fin 512) :
    uWord c arg1 harg1 arg4 harg4 arg5 harg5 arg16 x0 x3 x4 s (ix2 n k) = (blockSeq x0 x1 x2 x3 x4 x5 x6 x7 x8 x9 x10 n).u s k := by
  obtain ⟨j, b, rfl⟩ := hk_split k
  unfold uWord
  refine (stepV_apply _ n j b).trans ?_
  show arg16.view.readCov (kernelRun0_A.sl.HS1_4 c arg1 harg1 arg4 harg4 arg5 harg5 x0 x3 x4) (rowsRect j s).toLoadRect (ix3 0 n b) = _
  rw [mixedPieces_u]
  refine (read_planes arg16 _ j s n b).trans ?_
  rw [word_norm]
  refine (pay684_apply _ _ _ _ _).trans ?_
  exact congrArg₂ (fun a b => a * Ideal.logistic b) (proj_word arg4 harg4 x0 x1 x2 x3 x4 x5 x6 x7 x8 x9 x10 4 n s (hk j b)) (proj_word arg4 harg4 x0 x1 x2 x3 x4 x5 x6 x7 x8 x9 x10 5 n s (hk j b))

theorem ld_hist (i : Fin 30) (n : Fin 32) (k : Fin 512) :
    View.readAt (Elt Ideal) arg3.view (histRect i).toLoadRect (harg3.unread x2) (ix3 0 n k) = x2 (ix3 i n k) := by
  rw [View.readAt_eq_ld, harg3.read_unread]
  refine congrArg x2 (funext fun a => ?_)
  fin_cases a <;> apply Fin.ext
  · show i.val + 1 * 0 = i.val; omega
  · show 0 + 1 * n.val = n.val; omega
  · show 0 + 1 * k.val = k.val; omega

theorem ld_tap (i : Fin 31) (k : Fin 512) :
    View.readAt (Elt Ideal) arg8.view (tapRect i).toLoadRect (harg8.unread x7) (ix2 0 k) = x7 (ix2 i k) := by
  rw [View.readAt_eq_ld, harg8.read_unread]
  refine congrArg x7 (funext fun a => ?_)
  fin_cases a <;> apply Fin.ext
  · show i.val + 1 * 0 = i.val; omega
  · show 0 + 1 * k.val = k.val; omega

theorem ld_state (n : Fin 32) (h : Fin 4) (a b : Fin 128) :
    View.readAt (Elt Ideal) arg2.view (stateRect (storeOf n h)).toLoadRect (harg2.unread x1) (ix4 0 0 a b) = x1 (ix4 n h a b) := by
  rw [View.readAt_eq_ld, harg2.read_unread]
  refine congrArg x1 (funext fun x => ?_)
  fin_cases x <;> apply Fin.ext
  · show seqOf (storeOf n h) + 1 * 0 = n.val; rw [seqOf_storeOf]; omega
  · show headOf (storeOf n h) + 1 * 0 = h.val; rw [headOf_storeOf]; omega
  · show 0 + 1 * a.val = a.val; omega
  · show 0 + 1 * b.val = b.val; omega

/-- The convolution's sums. -/
theorem convWord_apply (t : Fin 4) (n : Fin 32) (k : Fin 512) :
    convWord c arg1 harg1 arg3 harg3 arg4 harg4 arg5 harg5 arg8 harg8 arg9 harg9 arg16 x0 x2 x3 x4 x7 x8 t (ix2 n k) = (blockSeq x0 x1 x2 x3 x4 x5 x6 x7 x8 x9 x10 n).conv t k := by
  unfold convWord
  refine (convV_apply t _ _ _ _ n k (fun i => (blockSeq x0 x1 x2 x3 x4 x5 x6 x7 x8 x9 x10 n).full i k) (fun i => ?h) (fun s => ?u)).trans ?c
  case c =>
    unfold Seq.conv
    refine congrArg₂ (· + ·) (Finset.sum_congr rfl fun j _ => congrArg (HMul.hMul _) (ld_tap arg8 harg8 x7 j k)) ?_
    rw [View.readAt_eq_ld, harg9.read_unread, View.ld_unit_zero (S := S1x512) zeroOffset2]
    rfl
  case h =>
    refine Eq.trans ?_ (ld_hist arg3 harg3 x2 i n k).symm
    show (blockSeq x0 x1 x2 x3 x4 x5 x6 x7 x8 x9 x10 n).full ⟨i.val, _⟩ k = _
    unfold Seq.full
    rw [dif_pos (show (⟨i.val, by omega⟩ : Fin 34).val < 30 from i.isLt)]
    rfl
  case u =>
    rw [uWord_apply c arg1 harg1 arg4 harg4 arg5 harg5 arg16 x0 x1 x2 x3 x4 x5 x6 x7 x8 x9 x10]
    show (blockSeq x0 x1 x2 x3 x4 x5 x6 x7 x8 x9 x10 n).full ⟨30 + s.val, _⟩ k = _
    unfold Seq.full
    rw [dif_neg (show ¬ (⟨30 + s.val, by omega⟩ : Fin 34).val < 30 by simp only []; omega)]
    exact congrArg (fun s => (blockSeq x0 x1 x2 x3 x4 x5 x6 x7 x8 x9 x10 n).u s k) (Fin.ext (by simp only []; omega))

section finite

variable (hF : ∀ n, (blockSeq x0 x1 x2 x3 x4 x5 x6 x7 x8 x9 x10 n).Finite)
include hF

/-- The recurrence's output. -/
theorem recur_block (n : Fin 32) (h : Fin 4) (t : Fin 4) (b : Fin 128) :
    recurV (qdV x0 x3 x4 x5) (kiV x0 x3 x4 x5) (vV x0 x3 x4)
      (fun n h => View.readAt (Elt Ideal) arg2.view (stateRect (storeOf n h)).toLoadRect (harg2.unread x1)) (ix2 (tk n t) (hk h b))
      = (blockSeq x0 x1 x2 x3 x4 x5 x6 x7 x8 x9 x10 n).recur h t b := by
  refine (recurV_apply _ _ _ _ n h t b).trans ?_
  unfold Seq.recur
  refine congrArg₂ (· + ·) (Finset.sum_congr rfl fun k _ => congrArg₂ (· * ·) (qdV_apply x0 x1 x2 x3 x4 x5 x6 x7 x8 x9 x10 hF n t (hk h k)) (ld_state arg2 harg2 x1 n h k b)) ?_
  simp only [qdV_apply x0 x1 x2 x3 x4 x5 x6 x7 x8 x9 x10 hF, kiV_apply x0 x1 x2 x3 x4 x5 x6 x7 x8 x9 x10 hF, vV_apply x0 x1 x2 x3 x4 x5 x6 x7 x8 x9 x10]

/-- The recurrence's half of the mixers' output. -/
theorem mixA_block (n : Fin 32) (h : Fin 4) (t : Fin 4) (b : Fin 128) :
    mixedA (recurV (kernelRun0_A.sl.r_10 c arg1 harg1 arg4 harg4 arg5 harg5 arg6 harg6 x0 x3 x4 x5)
            (kernelRun0_A.sl.r_11 c arg1 harg1 arg4 harg4 arg5 harg5 arg6 harg6 x0 x3 x4 x5)
            (kernelRun0_A.sl.r_13 c arg1 harg1 arg4 harg4 arg5 harg5 x0 x3 x4)
            (fun n h => View.readAt (Elt Ideal) arg2.view (stateRect (storeOf n h)).toLoadRect (harg2.unread x1)))
          (k0_pay680 (kernelRun0_A.sl.r c arg1 harg1 arg5 harg5 x0 x4) (View.readAt (Elt Ideal) arg4.view (colRect 3).toLoadRect (harg4.unread x3)))
          (View.readAt (Elt Ideal) arg7.view (Rect.unit ![0, 0] S1x128.size inb_S1x128_S1x128_0_0).toLoadRect (harg7.unread x6)) (ix2 (tk n t) (hk h b))
      = (blockSeq x0 x1 x2 x3 x4 x5 x6 x7 x8 x9 x10 n).mixA t h b := by
  rw [word_qd, word_ki, word_v, word_norm]
  have e : k0_pay680 (F := Ideal) (k0_pay2 x0 x4) (View.readAt (Elt Ideal) arg4.view (colRect 3).toLoadRect (harg4.unread x3)) (ix2 (tk n t) (hk h b))
      = (blockSeq x0 x1 x2 x3 x4 x5 x6 x7 x8 x9 x10 n).proj 3 t (hk h b) :=
    (pay680_apply _ _ _ _).trans (proj_word arg4 harg4 x0 x1 x2 x3 x4 x5 x6 x7 x8 x9 x10 3 n t (hk h b))
  refine (mixedA_apply _ _ _ _ _ _ (by rw [e]; exact (hF n).proj 3 t _)).trans ?_
  rw [View.readAt_eq_ld arg7.view, harg7.read_unread, View.ld_unit_zero (S := S1x128) zeroOffset2]
  refine congrArg₂ (· * ·) ((headNormV_apply _ _ _ _ _).trans ?_) (congrArg silu e)
  have hr := recur_block arg2 harg2 x0 x1 x2 x3 x4 x5 x6 x7 x8 x9 x10 hF n h t
  simp only [hr]
  rfl

/-- The norm of the convolution's sums and its activation. -/
theorem mixB_of (w : Fin 4 → Vec Ideal S1x128x128 .f32) (n : Fin 32) (t : Fin 4) (k : Fin 512)
    (hw : ∀ k, quartersV w (ix2 (tk n t) k) = (blockSeq x0 x1 x2 x3 x4 x5 x6 x7 x8 x9 x10 n).conv t k) :
    k0_pay802 (k0_pay801 (w 0) (w 1) (w 2) (w 3) x9 x10) (ix2 (tk n t) k) = (blockSeq x0 x1 x2 x3 x4 x5 x6 x7 x8 x9 x10 n).mixB t k := by
  have e : normV (quartersV w) x9 x10 (ix2 (tk n t) k) = layerNorm ((blockSeq x0 x1 x2 x3 x4 x5 x6 x7 x8 x9 x10 n).conv t) (blockSeq x0 x1 x2 x3 x4 x5 x6 x7 x8 x9 x10 n).lng (blockSeq x0 x1 x2 x3 x4 x5 x6 x7 x8 x9 x10 n).lnb k := by
    rw [normV_apply]
    simp only [hw]
    rfl
  rw [pay802_eq, pay801_eq, siluV_apply _ _ _ (by rw [e]; exact (hF n).norm t k), e]
  rfl

/-- The convolution's half of the mixers' output. -/
theorem mixB_block (n : Fin 32) (t : Fin 4) (k : Fin 512) :
    k0_pay802 (k0_pay801
          (arg17.view.readCov (kernelRun0_A.sl.HS2_16 c arg1 harg1 arg3 harg3 arg4 harg4 arg5 harg5 arg8 harg8 arg9 harg9 arg16 x0 x2 x3 x4 x7 x8) (planeRect 0).toLoadRect)
          (arg17.view.readCov (kernelRun0_A.sl.HS2_16 c arg1 harg1 arg3 harg3 arg4 harg4 arg5 harg5 arg8 harg8 arg9 harg9 arg16 x0 x2 x3 x4 x7 x8) (planeRect 1).toLoadRect)
          (arg17.view.readCov (kernelRun0_A.sl.HS2_16 c arg1 harg1 arg3 harg3 arg4 harg4 arg5 harg5 arg8 harg8 arg9 harg9 arg16 x0 x2 x3 x4 x7 x8) (planeRect 2).toLoadRect)
          (arg17.view.readCov (kernelRun0_A.sl.HS2_16 c arg1 harg1 arg3 harg3 arg4 harg4 arg5 harg5 arg8 harg8 arg9 harg9 arg16 x0 x2 x3 x4 x7 x8) (planeRect 3).toLoadRect)
          (View.readAt (Elt Ideal) arg10.view (Rect.unit ![0, 0] S1x512.size inb_S1x512_S1x512_0_0).toLoadRect (harg10.unread x9))
          (View.readAt (Elt Ideal) arg11.view (Rect.unit ![0, 0] S1x512.size inb_S1x512_S1x512_0_0).toLoadRect (harg11.unread x10))) (ix2 (tk n t) k)
      = (blockSeq x0 x1 x2 x3 x4 x5 x6 x7 x8 x9 x10 n).mixB t k := by
  rw [mixedPieces_z, View.readAt_eq_ld arg10.view, harg10.read_unread, View.ld_unit_zero (S := S1x512) zeroOffset2,
    View.readAt_eq_ld arg11.view, harg11.read_unread, View.ld_unit_zero (S := S1x512) zeroOffset2]
  refine mixB_of x0 x1 x2 x3 x4 x5 x6 x7 x8 x9 x10 hF (fun j => arg17.view.readCov (convPieces (convWord c arg1 harg1 arg3 harg3 arg4 harg4 arg5 harg5 arg8 harg8 arg9 harg9 arg16 x0 x2 x3 x4 x7 x8)) (planeRect j).toLoadRect) n t k
    fun k => ?_
  obtain ⟨j, b, rfl⟩ := hk_split k
  exact (quartersV_apply _ _ j b).trans ((read_sums arg17 _ j t n b).trans
    (convWord_apply c arg1 harg1 arg3 harg3 arg4 harg4 arg5 harg5 arg8 harg8 arg9 harg9 arg16 x0 x1 x2 x3 x4 x5 x6 x7 x8 x9 x10 t n (hk j b)))

/-- The new states of the block's sequences. -/
theorem state_block (n : Fin 32) (h : Fin 4) (a b : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix4 n h a b) = (blockSeq x0 x1 x2 x3 x4 x5 x6 x7 x8 x9 x10 n).state h a b := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10), statePieces]
  refine View.canon_apply_of_pieces (Val := Elt Ideal) (e := .f32) (S := S32x4x128x128)
    (fun y : S32x4x128x128.Idx => (Seq.state (blockSeq x0 x1 x2 x3 x4 x5 x6 x7 x8 x9 x10 (y 0)) (y 1) (y 2) (y 3))) _ ?_ (ix4 n h a b) ?_
  · intro p hp
    obtain ⟨k, -, rfl⟩ := List.mem_map.mp hp
    obtain ⟨n, h, rfl⟩ := store_split k
    intro x
    obtain ⟨a, b, rfl⟩ : ∃ (a b : Fin 128), x = (ix4 0 0 a b : S1x1x128x128.Idx) := ⟨x 2, x 3, by
      have h0 : (x 0).val < 1 := (x 0).isLt
      have h1 : (x 1).val < 1 := (x 1).isLt
      funext a
      fin_cases a <;> apply Fin.ext
      · show (x 0).val = 0; omega
      · show (x 1).val = 0; omega
      · rfl
      · rfl⟩
    have e : (stateRect (storeOf n h)).emb (ix4 0 0 a b) = (ix4 n h a b : S32x4x128x128.Idx) := by
      funext x
      fin_cases x <;> apply Fin.ext
      · show seqOf (storeOf n h) + 1 * 0 = n.val; rw [seqOf_storeOf]; omega
      · show headOf (storeOf n h) + 1 * 0 = h.val; rw [headOf_storeOf]; omega
      · show 0 + 1 * a.val = a.val; omega
      · show 0 + 1 * b.val = b.val; omega
    refine Eq.trans ?_ (congrArg (fun y : S32x4x128x128.Idx => (Seq.state (blockSeq x0 x1 x2 x3 x4 x5 x6 x7 x8 x9 x10 (y 0)) (y 1) (y 2) (y 3))) e).symm
    refine (newState_apply _ _ _ n h _ a b).trans ?_
    show _ = (blockSeq x0 x1 x2 x3 x4 x5 x6 x7 x8 x9 x10 n).state h a b
    unfold Seq.state
    refine congrArg₂ (· + ·) (congrArg₂ (· * ·) ?_ (ld_state arg2 harg2 x1 n h a b)) (Finset.sum_congr rfl fun s _ => ?_)
    · rw [word_decay, bV_apply x0 x1 x2 x3 x4 x5 x6 x7 x8 x9 x10 hF n 3 (hk h a)]
    · rw [word_kd, word_v, kdV_apply x0 x1 x2 x3 x4 x5 x6 x7 x8 x9 x10 hF n s (hk h a), vV_apply x0 x1 x2 x3 x4 x5 x6 x7 x8 x9 x10 n s (hk h b)]
  · refine ⟨_, List.mem_map.mpr ⟨storeOf n h, by simp, rfl⟩, ?_⟩
    show _ ∈ (stateRect (storeOf n h)).set
    rw [LoadRect.mem_set]
    intro x
    fin_cases x
    · exact ⟨0, Nat.one_pos, by show n.val = seqOf (storeOf n h) + 1 * 0; rw [seqOf_storeOf]; omega⟩
    · exact ⟨0, Nat.one_pos, by show h.val = headOf (storeOf n h) + 1 * 0; rw [headOf_storeOf]; omega⟩
    · exact ⟨a.val, a.isLt, by show a.val = 0 + 1 * a.val; omega⟩
    · exact ⟨b.val, b.isLt, by show b.val = 0 + 1 * b.val; omega⟩

/-- The mixers' output for the block's tokens. -/
theorem mixed_block (n : Fin 32) (t : Fin 4) (k : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix2 (tk n t) k) = (blockSeq x0 x1 x2 x3 x4 x5 x6 x7 x8 x9 x10 n).mix t k := by
  have hsplit := fun n t k => mixedAt_apply (blockSeq x0 x1 x2 x3 x4 x5 x6 x7 x8 x9 x10) n t k
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10), mixedPieces]
  refine (View.canon_apply_of_pieces (Val := Elt Ideal) (e := .bf16) (S := S128x1024)
    (mixedAt (blockSeq x0 x1 x2 x3 x4 x5 x6 x7 x8 x9 x10)) _ ?_ (ix2 (tk n t) k) ?_).trans (hsplit n t k)
  · intro p hp
    rcases List.mem_cons.mp hp with rfl | hp
    · intro x
      obtain ⟨r, k, rfl⟩ : ∃ (r : Fin 128) (k : Fin 512), x = (ix2 r k : S128x512.Idx) := ⟨x 0, x 1, eq_ix2 x⟩
      obtain ⟨n, t, rfl⟩ := tk_split r
      have e : (Rect.unit (s := S128x1024) ![0, 512] S128x512.size inb_S128x1024_S128x512_0_512).emb (ix2 (tk n t) k)
          = (ix2 (tk n t) ⟨512 + k.val, by omega⟩ : S128x1024.Idx) := by
        funext a
        fin_cases a <;> apply Fin.ext
        · show 0 + 1 * (tk n t).val = (tk n t).val; omega
        · show 512 + 1 * k.val = 512 + k.val; omega
      refine Eq.trans ?_ (congrArg (mixedAt (blockSeq x0 x1 x2 x3 x4 x5 x6 x7 x8 x9 x10)) e).symm
      refine Eq.trans ?_ (hsplit n t _).symm
      rw [Seq.mix_hi _ t k _ rfl]
      exact mixB_block c arg1 harg1 arg3 harg3 arg4 harg4 arg5 harg5 arg8 harg8 arg9 harg9 arg10 harg10 arg11 harg11 arg16 arg17 x0 x1 x2 x3 x4 x5 x6 x7 x8 x9 x10 hF n t k
    · obtain rfl := List.mem_singleton.mp hp
      intro x
      obtain ⟨r, k, rfl⟩ : ∃ (r : Fin 128) (k : Fin 512), x = (ix2 r k : S128x512.Idx) := ⟨x 0, x 1, eq_ix2 x⟩
      obtain ⟨n, t, rfl⟩ := tk_split r
      obtain ⟨h, b, rfl⟩ := hk_split k
      have e : (Rect.unit (s := S128x1024) ![0, 0] S128x512.size inb_S128x1024_S128x512_0_0).emb (ix2 (tk n t) (hk h b))
          = (ix2 (tk n t) ⟨(hk h b).val, by omega⟩ : S128x1024.Idx) := by
        funext a
        fin_cases a <;> apply Fin.ext
        · show 0 + 1 * (tk n t).val = (tk n t).val; omega
        · show 0 + 1 * (hk h b).val = (hk h b).val; omega
      refine Eq.trans ?_ (congrArg (mixedAt (blockSeq x0 x1 x2 x3 x4 x5 x6 x7 x8 x9 x10)) e).symm
      refine Eq.trans ?_ (hsplit n t _).symm
      rw [Seq.mix_lo _ t h b _ rfl]
      exact mixA_block c arg1 harg1 arg2 harg2 arg4 harg4 arg5 harg5 arg6 harg6 arg7 harg7 x0 x1 x2 x3 x4 x5 x6 x7 x8 x9 x10 hF n h t b
  · have hk := k.isLt
    by_cases h : k.val < 512
    · refine ⟨_, List.mem_cons_of_mem _ (List.mem_cons_self ..), ?_⟩
      rw [Rect.mem_set_unit]
      intro a
      match a with
      | ⟨0, _⟩ => exact ⟨Nat.zero_le _, by have := (tk n t).isLt; show (tk n t).val < 0 + 128; omega⟩
      | ⟨1, _⟩ => exact ⟨Nat.zero_le _, by show k.val < 0 + 512; omega⟩
    · refine ⟨_, List.mem_cons_self .., ?_⟩
      rw [Rect.mem_set_unit]
      intro a
      match a with
      | ⟨0, _⟩ => exact ⟨Nat.zero_le _, by have := (tk n t).isLt; show (tk n t).val < 0 + 128; omega⟩
      | ⟨1, _⟩ => exact ⟨by show 512 ≤ k.val; omega, by show k.val < 512 + 512; omega⟩

end finite

/-- The new history of the block's sequences. -/
theorem hist_block (j : Fin 30) (n : Fin 32) (k : Fin 512) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix3 j n k) = (blockSeq x0 x1 x2 x3 x4 x5 x6 x7 x8 x9 x10 n).newHist j k := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10), histPieces_eq]
  refine View.canon_apply_of_pieces (Val := Elt Ideal) (e := .f32) (S := S30x32x512)
    (fun y : S30x32x512.Idx => (Seq.newHist (blockSeq x0 x1 x2 x3 x4 x5 x6 x7 x8 x9 x10 (y 1)) (y 0) (y 2))) _ ?_ (ix3 j n k) ?_
  · intro p hp
    obtain ⟨j, -, rfl⟩ := List.mem_map.mp hp
    intro x
    obtain ⟨n, k, rfl⟩ : ∃ (n : Fin 32) (k : Fin 512), x = (ix3 0 n k : S1x32x512.Idx) := ⟨x 1, x 2, by
      have h0 : (x 0).val < 1 := (x 0).isLt
      funext a
      fin_cases a <;> apply Fin.ext
      · show (x 0).val = 0; omega
      · rfl
      · rfl⟩
    have e : (histRect j).emb (ix3 0 n k) = (ix3 j n k : S30x32x512.Idx) := by
      funext x
      fin_cases x <;> apply Fin.ext
      · show j.val + 1 * 0 = j.val; omega
      · show 0 + 1 * n.val = n.val; omega
      · show 0 + 1 * k.val = k.val; omega
    refine Eq.trans ?_ (congrArg (fun y : S30x32x512.Idx => (Seq.newHist (blockSeq x0 x1 x2 x3 x4 x5 x6 x7 x8 x9 x10 (y 1)) (y 0) (y 2))) e).symm
    show _ = (blockSeq x0 x1 x2 x3 x4 x5 x6 x7 x8 x9 x10 n).newHist j k
    unfold Seq.newHist Seq.full
    by_cases h : j.val < 26
    · rw [dif_pos (show (⟨j.val + 4, by omega⟩ : Fin 34).val < 30 by simp only []; omega)]
      refine Eq.trans ?_ (ld_hist arg3 harg3 x2 ⟨j.val + 4, by omega⟩ n k)
      refine (congrFun (dif_pos h) (ix3 0 n k)).trans ?_
      exact stored_hist _ n k
    · rw [dif_neg (show ¬ (⟨j.val + 4, by omega⟩ : Fin 34).val < 30 by simp only []; omega)]
      refine (congrFun (dif_neg h) (ix3 0 n k)).trans ((stored_rows _ n k).trans ?_)
      rw [uWord_apply c arg1 harg1 arg4 harg4 arg5 harg5 arg16 x0 x1 x2 x3 x4 x5 x6 x7 x8 x9 x10]
      exact congrArg (fun s => (blockSeq x0 x1 x2 x3 x4 x5 x6 x7 x8 x9 x10 n).u s k) (Fin.ext (by simp only []; omega))
  · refine ⟨_, List.mem_map.mpr ⟨j, by simp, rfl⟩, ?_⟩
    show _ ∈ (histRect j).set
    rw [LoadRect.mem_set]
    intro x
    fin_cases x
    · exact ⟨0, Nat.one_pos, rfl⟩
    · exact ⟨n.val, n.isLt, by show n.val = 0 + 1 * n.val; omega⟩
    · exact ⟨k.val, k.isLt, by show k.val = 0 + 1 * k.val; omega⟩

end Cert.SampleIdeal
-- ==== Proof.SampleArgs.lean ====
/- The mixers' arguments for one of the 128 sequences, taken out of the program's arrays. -/
module

public import proofs.«01_k».proof.Proof.SampleSpec
public import Idealize.ShloMosaic.Lib.Pointwise

@[expose] public section

noncomputable section

namespace Mixer

open Idealize.ShloMosaic

/-- What the mixers read for sequence `N` of the program's arrays. -/
def argSeq (x0 : Vec Ideal ⟨3, ![128, 4, 1024]⟩ .f32) (x1 : Vec Ideal ⟨5, ![1, 128, 4, 128, 128]⟩ .f32) (x2 : Vec Ideal ⟨4, ![1, 128, 30, 512]⟩ .f32)
    (x3 : Vec Ideal ⟨2, ![1, 1024]⟩ .f32) (x4 : Vec Ideal ⟨3, ![1, 1024, 3072]⟩ .f32) (x5 : Vec Ideal ⟨2, ![2, 512]⟩ .f32)
    (x6 : Vec Ideal ⟨2, ![1, 128]⟩ .f32) (x7 : Vec Ideal ⟨3, ![1, 31, 512]⟩ .f32) (x8 x9 x10 : Vec Ideal ⟨2, ![1, 512]⟩ .f32)
    (N : Fin 128) : Seq where
  x t k := x0 (ix3 N t k)
  st h a b := x1 (ix5 0 N h a b)
  hist i c := x2 (ix4 0 N i c)
  w k c := x4 (ix3 0 k c)
  g k := x3 (ix2 0 k)
  lbl i c := x5 (ix2 i c)
  onorm k := x6 (ix2 0 k)
  tap j c := x7 (ix3 0 j c)
  bias c := x8 (ix2 0 c)
  lng c := x9 (ix2 0 c)
  lnb c := x10 (ix2 0 c)

/-- Two sequences' arguments are equal when each of them is. -/
theorem Seq.eq_of {S S' : Seq} (h1 : ∀ t k, S.x t k = S'.x t k) (h2 : ∀ h a b, S.st h a b = S'.st h a b) (h3 : ∀ i c, S.hist i c = S'.hist i c)
    (h4 : ∀ k c, S.w k c = S'.w k c) (h5 : ∀ k, S.g k = S'.g k) (h6 : ∀ i c, S.lbl i c = S'.lbl i c) (h7 : ∀ k, S.onorm k = S'.onorm k)
    (h8 : ∀ j c, S.tap j c = S'.tap j c) (h9 : ∀ c, S.bias c = S'.bias c) (h10 : ∀ c, S.lng c = S'.lng c) (h11 : ∀ c, S.lnb c = S'.lnb c) :
    S = S' := by
  obtain ⟨a1, a2, a3, a4, a5, a6, a7, a8, a9, a10, a11⟩ := S
  obtain ⟨b1, b2, b3, b4, b5, b6, b7, b8, b9, b10, b11⟩ := S'
  obtain rfl : a1 = b1 := funext fun t => funext (h1 t)
  obtain rfl : a2 = b2 := funext fun h => funext fun a => funext (h2 h a)
  obtain rfl : a3 = b3 := funext fun t => funext (h3 t)
  obtain rfl : a4 = b4 := funext fun t => funext (h4 t)
  obtain rfl : a5 = b5 := funext h5
  obtain rfl : a6 = b6 := funext fun t => funext (h6 t)
  obtain rfl : a7 = b7 := funext h7
  obtain rfl : a8 = b8 := funext fun t => funext (h8 t)
  obtain rfl : a9 = b9 := funext h9
  obtain rfl : a10 = b10 := funext h10
  obtain rfl : a11 = b11 := funext h11
  rfl

end Mixer
-- ==== Proof.SampleValue.lean ====
/- The arrays that the mixers' call leaves: their entries are the mixers of one sequence. The block of point `t` of the grid
   is sequences 32·t … 32·t + 31. -/
module

public import proofs.«01_k».proof.Proof.SampleBlock
public import proofs.«01_k».proof.Proof.SampleArgs

@[expose] public section

set_option maxRecDepth 16384

noncomputable section

namespace Cert.SampleIdeal

open Cert.SampleIdeal.Gen Idealize.ShloMosaic Idealize.ShloMosaic.TcCoe Idealize.SL.Sem Mixer
open Idealize.ShloMosaic.Pipeline (Dat)

variable (m : (ℓ : Loc nD τ sig) → Buf (Elt Ideal) ℓ)

/-! ## The arrays that the windows read -/

theorem V_v3 (c : Dev nD) : V m c main_v3 = (shapeCast S512x1024 (m ((c : Thread nD τ).loc main_arg0) : Vec Ideal S128x4x1024 .f32) shapeCasts_S128x4x1024_S512x1024 : Vec Ideal S512x1024 .f32) := by
  unfold V; after_results; rfl

theorem V_v4 (c : Dev nD) : V m c main_v4 = (shapeCast S128x4x128x128 (m ((c : Thread nD τ).loc main_arg1) : Vec Ideal S1x128x4x128x128 .f32) shapeCasts_S1x128x4x128x128_S128x4x128x128 : Vec Ideal S128x4x128x128 .f32) := by
  unfold V; after_results; rfl

theorem V_v2 (c : Dev nD) : V m c main_v2 = (shapeCast S31x512 (m ((c : Thread nD τ).loc main_arg7) : Vec Ideal S1x31x512 .f32) shapeCasts_S1x31x512_S31x512 : Vec Ideal S31x512 .f32) := by
  unfold V; after_results; rfl

theorem V_v1 (c : Dev nD) : V m c main_v1 = (truncf .bf16 (shapeCast S1024x3072 (m ((c : Thread nD τ).loc main_arg4) : Vec Ideal S1x1024x3072 .f32) shapeCasts_S1x1024x3072_S1024x3072 : FVec Ideal S1024x3072 .f32) bitsLt_bf16_f32 : FVec Ideal S1024x3072 .bf16) := by
  unfold V; after_results; rfl

theorem V_v6 (c : Dev nD) : V m c main_v6 = (transpose S30x128x512 [1, 0, 2] (shapeCast S128x30x512 (m ((c : Thread nD τ).loc main_arg2) : Vec Ideal S1x128x30x512 .f32) shapeCasts_S1x128x30x512_S128x30x512 : Vec Ideal S128x30x512 .f32) transposes_S128x30x512_S30x128x512_1_0_2 : Vec Ideal S30x128x512 .f32) := by
  unfold V; after_results; rfl

/-- Sequence `n` of the block of point `t`. -/
def pointSeq (t : Fin cfg0.N) (n : Fin 32) : Fin 128 := ⟨32 * t.val + n.val, by have h : t.val < 4 := t.isLt; omega⟩

/-- The row of token `t` of sequence `N`. -/
def rowOf (N : Fin 128) (t : Fin 4) : Fin 512 := ⟨4 * N.val + t.val, by omega⟩

theorem index0_0 : ∀ t : Fin grid0.N, win0_0.index t 0 = t.val := by decide +kernel
theorem index0_1 : ∀ t : Fin grid0.N, win0_1.index t 0 = t.val := by decide +kernel
theorem index0_2 : ∀ t : Fin grid0.N, win0_2.index t 1 = t.val := by decide +kernel
theorem index0_11 : ∀ t : Fin grid0.N, win0_11.index t 0 = t.val := by decide +kernel
theorem index0_12 : ∀ t : Fin grid0.N, win0_12.index t 0 = t.val := by decide +kernel
theorem index0_13 : ∀ t : Fin grid0.N, win0_13.index t 1 = t.val := by decide +kernel

theorem iblk0_apply (c : Dev nD) (t : Fin cfg0.N) (n : Fin 32) (s : Fin 4) (k : Fin 1024) :
    iblk m c 0 t (ix2 (tk n s) k) = V m c main_v3 (ix2 (rowOf (pointSeq t n) s) k) := by
  show V m c main_v3 _ = _
  refine congrArg (V m c main_v3) (funext fun a => Fin.ext ?_)
  refine ((cfg0.win 0).rect_emb_val t (ix2 (tk n s) k) a).trans ?_
  match a with
  | ⟨0, _⟩ => show win0_0.index t 0 * 128 + (4 * n.val + s.val) = 4 * (32 * t.val + n.val) + s.val; rw [index0_0]; omega
  | ⟨1, _⟩ => show 0 * 1024 + k.val = k.val; omega

theorem iblk1_apply (c : Dev nD) (t : Fin cfg0.N) (n : Fin 32) (h : Fin 4) (a b : Fin 128) :
    iblk m c 1 t (ix4 n h a b) = V m c main_v4 (ix4 (pointSeq t n) h a b) := by
  show V m c main_v4 _ = _
  refine congrArg (V m c main_v4) (funext fun d => Fin.ext ?_)
  refine ((cfg0.win 1).rect_emb_val t (ix4 n h a b) d).trans ?_
  match d with
  | ⟨0, _⟩ => show win0_1.index t 0 * 32 + n.val = 32 * t.val + n.val; rw [index0_1]; omega
  | ⟨1, _⟩ => show 0 * 4 + h.val = h.val; omega
  | ⟨2, _⟩ => show 0 * 128 + a.val = a.val; omega
  | ⟨3, _⟩ => show 0 * 128 + b.val = b.val; omega

theorem iblk2_apply (c : Dev nD) (t : Fin cfg0.N) (i : Fin 30) (n : Fin 32) (k : Fin 512) :
    iblk m c 2 t (ix3 i n k) = V m c main_v6 (ix3 i (pointSeq t n) k) := by
  show V m c main_v6 _ = _
  refine congrArg (V m c main_v6) (funext fun d => Fin.ext ?_)
  refine ((cfg0.win 2).rect_emb_val t (ix3 i n k) d).trans ?_
  match d with
  | ⟨0, _⟩ => show 0 * 30 + i.val = i.val; omega
  | ⟨1, _⟩ => show win0_2.index t 1 * 32 + n.val = 32 * t.val + n.val; rw [index0_2]; omega
  | ⟨2, _⟩ => show 0 * 512 + k.val = k.val; omega

theorem iblk3_apply (c : Dev nD) (t : Fin cfg0.N) (i : Fin 1024) (k : Fin 3072) :
    iblk m c 3 t (ix2 i k) = V m c main_v1 (ix2 i k) := by
  show V m c main_v1 _ = _
  refine congrArg (V m c main_v1) (funext fun x => Fin.ext ?_)
  exact ((cfg0.win 3).rect_emb_val_of_index_zero t x (by match x with | ⟨0, _⟩ => rfl | ⟨1, _⟩ => rfl) (ix2 i k))

theorem iblk4_apply (c : Dev nD) (t : Fin cfg0.N) (i : Fin 1) (k : Fin 1024) :
    iblk m c 4 t (ix2 i k) = V m c main_arg3 (ix2 i k) := by
  show V m c main_arg3 _ = _
  refine congrArg (V m c main_arg3) (funext fun x => Fin.ext ?_)
  exact ((cfg0.win 4).rect_emb_val_of_index_zero t x (by match x with | ⟨0, _⟩ => rfl | ⟨1, _⟩ => rfl) (ix2 i k))

theorem iblk5_apply (c : Dev nD) (t : Fin cfg0.N) (i : Fin 2) (k : Fin 512) :
    iblk m c 5 t (ix2 i k) = V m c main_arg5 (ix2 i k) := by
  show V m c main_arg5 _ = _
  refine congrArg (V m c main_arg5) (funext fun x => Fin.ext ?_)
  exact ((cfg0.win 5).rect_emb_val_of_index_zero t x (by match x with | ⟨0, _⟩ => rfl | ⟨1, _⟩ => rfl) (ix2 i k))

theorem iblk6_apply (c : Dev nD) (t : Fin cfg0.N) (i : Fin 1) (k : Fin 128) :
    iblk m c 6 t (ix2 i k) = V m c main_arg6 (ix2 i k) := by
  show V m c main_arg6 _ = _
  refine congrArg (V m c main_arg6) (funext fun x => Fin.ext ?_)
  exact ((cfg0.win 6).rect_emb_val_of_index_zero t x (by match x with | ⟨0, _⟩ => rfl | ⟨1, _⟩ => rfl) (ix2 i k))

theorem iblk7_apply (c : Dev nD) (t : Fin cfg0.N) (i : Fin 31) (k : Fin 512) :
    iblk m c 7 t (ix2 i k) = V m c main_v2 (ix2 i k) := by
  show V m c main_v2 _ = _
  refine congrArg (V m c main_v2) (funext fun x => Fin.ext ?_)
  exact ((cfg0.win 7).rect_emb_val_of_index_zero t x (by match x with | ⟨0, _⟩ => rfl | ⟨1, _⟩ => rfl) (ix2 i k))

theorem iblk8_apply (c : Dev nD) (t : Fin cfg0.N) (i : Fin 1) (k : Fin 512) :
    iblk m c 8 t (ix2 i k) = V m c main_arg8 (ix2 i k) := by
  show V m c main_arg8 _ = _
  refine congrArg (V m c main_arg8) (funext fun x => Fin.ext ?_)
  exact ((cfg0.win 8).rect_emb_val_of_index_zero t x (by match x with | ⟨0, _⟩ => rfl | ⟨1, _⟩ => rfl) (ix2 i k))

theorem iblk9_apply (c : Dev nD) (t : Fin cfg0.N) (i : Fin 1) (k : Fin 512) :
    iblk m c 9 t (ix2 i k) = V m c main_arg9 (ix2 i k) := by
  show V m c main_arg9 _ = _
  refine congrArg (V m c main_arg9) (funext fun x => Fin.ext ?_)
  exact ((cfg0.win 9).rect_emb_val_of_index_zero t x (by match x with | ⟨0, _⟩ => rfl | ⟨1, _⟩ => rfl) (ix2 i k))

theorem iblk10_apply (c : Dev nD) (t : Fin cfg0.N) (i : Fin 1) (k : Fin 512) :
    iblk m c 10 t (ix2 i k) = V m c main_arg10 (ix2 i k) := by
  show V m c main_arg10 _ = _
  refine congrArg (V m c main_arg10) (funext fun x => Fin.ext ?_)
  exact ((cfg0.win 10).rect_emb_val_of_index_zero t x (by match x with | ⟨0, _⟩ => rfl | ⟨1, _⟩ => rfl) (ix2 i k))

/-! ## One sequence of a block -/

/-- The mixers' arguments for sequence `N`. -/
def kernelSeq (c : Dev nD) (N : Fin 128) : Seq :=
  argSeq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) N

theorem rows_cast (x : Vec Ideal S128x4x1024 .f32) (N : Fin 128) (s : Fin 4) (k : Fin 1024) :
    shapeCast S512x1024 x shapeCasts_S128x4x1024_S512x1024 (ix2 (rowOf N s) k) = x (ix3 N s k) := by
  refine shapeCast_apply x _ _ (ix3 N s k) ?_
  rewrite [Shape.rowMajor_val_three, Shape.rowMajor_val_two]
  show (N.val * 4 + s.val) * 1024 + k.val = (4 * N.val + s.val) * 1024 + k.val
  omega

theorem state_cast (x : Vec Ideal S1x128x4x128x128 .f32) (N : Fin 128) (h : Fin 4) (a b : Fin 128) :
    shapeCast S128x4x128x128 x shapeCasts_S1x128x4x128x128_S128x4x128x128 (ix4 N h a b) = x (ix5 0 N h a b) := by
  pointwise

theorem hist_cast (x : Vec Ideal S1x128x30x512 .f32) (N : Fin 128) (i : Fin 30) (k : Fin 512) :
    transpose S30x128x512 [1, 0, 2] (shapeCast S128x30x512 x shapeCasts_S1x128x30x512_S128x30x512 : Vec Ideal S128x30x512 .f32) transposes_S128x30x512_S30x128x512_1_0_2 (ix3 i N k)
      = x (ix4 0 N i k) := by
  pointwise

theorem w_cast (x : Vec Ideal S1x1024x3072 .f32) (k : Fin 1024) (j : Fin 3072) :
    shapeCast S1024x3072 x shapeCasts_S1x1024x3072_S1024x3072 (ix2 k j) = x (ix3 0 k j) := by
  pointwise

theorem tap_cast (x : Vec Ideal S1x31x512 .f32) (i : Fin 31) (k : Fin 512) :
    shapeCast S31x512 x shapeCasts_S1x31x512_S31x512 (ix2 i k) = x (ix3 0 i k) := by
  pointwise

/-- What the block of point `t` reads for its sequence `n` is what the arrays hold for sequence `32·t + n`. -/
theorem blockSeq_eq (c : Dev nD) (t : Fin cfg0.N) (n : Fin 32) :
    blockSeq (iblk m c 0 t) (iblk m c 1 t) (iblk m c 2 t) (iblk m c 3 t) (iblk m c 4 t) (iblk m c 5 t) (iblk m c 6 t) (iblk m c 7 t) (iblk m c 8 t) (iblk m c 9 t) (iblk m c 10 t) n = kernelSeq m c (pointSeq t n) := by
  refine Seq.eq_of ?_ ?_ ?_ ?_ ?_ ?_ ?_ ?_ ?_ ?_ ?_
  · intro s k; exact (iblk0_apply m c t n s k).trans ((congrFun (V_v3 m c) _).trans (rows_cast _ _ _ _))
  · intro h a b; exact (iblk1_apply m c t n h a b).trans ((congrFun (V_v4 m c) _).trans (state_cast _ _ _ _ _))
  · intro i k; exact (iblk2_apply m c t i n k).trans ((congrFun (V_v6 m c) _).trans (hist_cast _ _ _ _))
  · intro k j; exact (iblk3_apply m c t k j).trans ((congrFun (V_v1 m c) _).trans (w_cast _ _ _))
  · intro k; exact (iblk4_apply m c t 0 k).trans (congrFun (V_main_arg3 m c) _)
  · intro i k; exact (iblk5_apply m c t i k).trans (congrFun (V_main_arg5 m c) _)
  · intro k; exact (iblk6_apply m c t 0 k).trans (congrFun (V_main_arg6 m c) _)
  · intro j k; exact (iblk7_apply m c t j k).trans ((congrFun (V_v2 m c) _).trans (tap_cast _ _ _))
  · intro k; exact (iblk8_apply m c t 0 k).trans (congrFun (V_main_arg8 m c) _)
  · intro k; exact (iblk9_apply m c t 0 k).trans (congrFun (V_main_arg9 m c) _)
  · intro k; exact (iblk10_apply m c t 0 k).trans (congrFun (V_main_arg10 m c) _)

/-! ## The result arrays -/

theorem emb11 (t : Fin cfg0.N) (n : Fin 32) (s : Fin 4) (k : Fin 1024) :
    ((cfg0.win 11).blk t).view.emb (ix2 (tk n s) k : S128x1024.Idx) = (ix2 (rowOf (pointSeq t n) s) k : S512x1024.Idx) := by
  funext a
  refine Fin.ext ?_
  refine ((cfg0.win 11).rect_emb_val t (ix2 (tk n s) k) a).trans ?_
  match a with
  | ⟨0, _⟩ => show win0_11.index t 0 * 128 + (4 * n.val + s.val) = 4 * (32 * t.val + n.val) + s.val; rw [index0_11]; omega
  | ⟨1, _⟩ => show 0 * 1024 + k.val = k.val; omega

theorem emb12 (t : Fin cfg0.N) (n : Fin 32) (h : Fin 4) (a b : Fin 128) :
    ((cfg0.win 12).blk t).view.emb (ix4 n h a b : S32x4x128x128.Idx) = (ix4 (pointSeq t n) h a b : S128x4x128x128.Idx) := by
  funext d
  refine Fin.ext ?_
  refine ((cfg0.win 12).rect_emb_val t (ix4 n h a b) d).trans ?_
  match d with
  | ⟨0, _⟩ => show win0_12.index t 0 * 32 + n.val = 32 * t.val + n.val; rw [index0_12]; omega
  | ⟨1, _⟩ => show 0 * 4 + h.val = h.val; omega
  | ⟨2, _⟩ => show 0 * 128 + a.val = a.val; omega
  | ⟨3, _⟩ => show 0 * 128 + b.val = b.val; omega

theorem emb13 (t : Fin cfg0.N) (i : Fin 30) (n : Fin 32) (k : Fin 512) :
    ((cfg0.win 13).blk t).view.emb (ix3 i n k : S30x32x512.Idx) = (ix3 i (pointSeq t n) k : S30x128x512.Idx) := by
  funext d
  refine Fin.ext ?_
  refine ((cfg0.win 13).rect_emb_val t (ix3 i n k) d).trans ?_
  match d with
  | ⟨0, _⟩ => show 0 * 30 + i.val = i.val; omega
  | ⟨1, _⟩ => show win0_13.index t 1 * 32 + n.val = 32 * t.val + n.val; rw [index0_13]; omega
  | ⟨2, _⟩ => show 0 * 512 + k.val = k.val; omega

theorem cut11 (t : Fin cfg0.N) (w : Vec Ideal S128x1024 .bf16) (y : S128x1024.Idx) :
    (cfg0.win 11).cut (grid0.coords t) w y = w y := rfl

theorem final11_at (c : Dev nD) (hF : ∀ N, (kernelSeq m c N).Finite) (t : Fin cfg0.N) (n : Fin 32) (s : Fin 4) (k : Fin 1024) :
    ((dats m 0 c).arrAt 11 cfg0.N : Vec Ideal S512x1024 .bf16) (ix2 (rowOf (pointSeq t n) s) k) = (kernelSeq m c (pointSeq t n)).mix s k := by
  rw [← emb11 t n s k]
  refine ((dats m 0 c).arrAt_emb_eq_flushed 11 (Value.disjoint11) t (flush0_11 t) (ix2 (tk n s) k : S128x1024.Idx)).trans ?_
  refine (congrFun (Value.flushed11_A m c t) (ix2 (tk n s) k : S128x1024.Idx)).trans ?_
  refine (cut11 t _ _).trans ?_
  refine (mixed_block _ _ _ _ _ _ _ _ _ _ _ _ _ _ _ _ _ _ _ _ _ _ _ _ _ _ _ _ _ _ _ _ _ _ _ _ _ _ _ _ _ _ _ _ _ _ _ (fun n => (blockSeq_eq m c t n).symm ▸ hF _) n s k).trans ?_
  rw [blockSeq_eq m c t n]

theorem cut12 (t : Fin cfg0.N) (w : Vec Ideal S32x4x128x128 .f32) (y : S32x4x128x128.Idx) :
    (cfg0.win 12).cut (grid0.coords t) w y = w y := rfl

theorem final12_at (c : Dev nD) (hF : ∀ N, (kernelSeq m c N).Finite) (t : Fin cfg0.N) (n : Fin 32) (h : Fin 4) (a b : Fin 128) :
    ((dats m 0 c).arrAt 12 cfg0.N : Vec Ideal S128x4x128x128 .f32) (ix4 (pointSeq t n) h a b) = (kernelSeq m c (pointSeq t n)).state h a b := by
  rw [← emb12 t n h a b]
  refine ((dats m 0 c).arrAt_emb_eq_flushed 12 (Value.disjoint12) t (flush0_12 t) (ix4 n h a b : S32x4x128x128.Idx)).trans ?_
  refine (congrFun (Value.flushed12_A m c t) (ix4 n h a b : S32x4x128x128.Idx)).trans ?_
  refine (cut12 t _ _).trans ?_
  refine (state_block _ _ _ _ _ _ _ _ _ _ _ _ _ _ _ _ _ _ _ _ _ _ _ _ _ _ _ _ _ _ _ _ _ _ _ _ _ _ _ _ _ _ _ _ _ _ _ (fun n => (blockSeq_eq m c t n).symm ▸ hF _) n h a b).trans ?_
  rw [blockSeq_eq m c t n]

theorem cut13 (t : Fin cfg0.N) (w : Vec Ideal S30x32x512 .f32) (y : S30x32x512.Idx) :
    (cfg0.win 13).cut (grid0.coords t) w y = w y := rfl

theorem final13_at (c : Dev nD) (t : Fin cfg0.N) (n : Fin 32) (i : Fin 30) (k : Fin 512) :
    ((dats m 0 c).arrAt 13 cfg0.N : Vec Ideal S30x128x512 .f32) (ix3 i (pointSeq t n) k) = (kernelSeq m c (pointSeq t n)).newHist i k := by
  rw [← emb13 t i n k]
  refine ((dats m 0 c).arrAt_emb_eq_flushed 13 (Value.disjoint13) t (flush0_13 t) (ix3 i n k : S30x32x512.Idx)).trans ?_
  refine (congrFun (Value.flushed13_A m c t) (ix3 i n k : S30x32x512.Idx)).trans ?_
  refine (cut13 t _ _).trans ?_
  refine (hist_block _ _ _ _ _ _ _ _ _ _ _ _ _ _ _ _ _ _ _ _ _ _ _ _ _ _ _ _ _ _ _ _ _ _ _ _ _ _ _ _ _ _ _ _ _ _ _ i n k).trans ?_
  rw [blockSeq_eq m c t n]

theorem exists_pointSeq (N : Fin 128) : ∃ t n, pointSeq t n = N :=
  ⟨⟨N.val / 32, show N.val / 32 < 4 by have := N.isLt; omega⟩, ⟨N.val % 32, Nat.mod_lt _ (by norm_num)⟩,
    Fin.ext (by show 32 * (N.val / 32) + N.val % 32 = N.val; omega)⟩

/-- The mixers' output, entry by entry. -/
theorem final11_apply (c : Dev nD) (hF : ∀ N, (kernelSeq m c N).Finite) (N : Fin 128) (s : Fin 4) (k : Fin 1024) :
    ((dats m 0 c).arrAt 11 cfg0.N : Vec Ideal S512x1024 .bf16) (ix2 (rowOf N s) k) = (kernelSeq m c N).mix s k := by
  obtain ⟨t, n, rfl⟩ := exists_pointSeq N
  exact final11_at m c hF t n s k

/-- The new states, entry by entry. -/
theorem final12_apply (c : Dev nD) (hF : ∀ N, (kernelSeq m c N).Finite) (N : Fin 128) (h : Fin 4) (a b : Fin 128) :
    ((dats m 0 c).arrAt 12 cfg0.N : Vec Ideal S128x4x128x128 .f32) (ix4 N h a b) = (kernelSeq m c N).state h a b := by
  obtain ⟨t, n, rfl⟩ := exists_pointSeq N
  exact final12_at m c hF t n h a b

/-- The new histories, entry by entry. -/
theorem final13_apply (c : Dev nD) (i : Fin 30) (N : Fin 128) (k : Fin 512) :
    ((dats m 0 c).arrAt 13 cfg0.N : Vec Ideal S30x128x512 .f32) (ix3 i N k) = (kernelSeq m c N).newHist i k := by
  obtain ⟨t, n, rfl⟩ := exists_pointSeq N
  exact final13_at m c t n i k

end Cert.SampleIdeal
-- ==== Proof.SampleScan.lean ====
/- A running sum of four entries, and of two, as the reference takes it: a window padded with zeros below. -/
module

public import proofs.«01_k».proof.Proof.Gen.SampleRefIdeal.Read
public import proofs.«01_k».proof.Proof.SampleSpec

@[expose] public section

set_option maxRecDepth 16384

noncomputable section

namespace Cert.SampleRefIdeal

open Cert.SampleRefIdeal.Gen Idealize.ShloMosaic Mixer

/-- A window of four positions of the third axis. -/
abbrev W4 : Shape := ⟨4, ![1, 1, 4, 1]⟩

/-- A window of two positions of the first axis. -/
abbrev W2 : Shape := ⟨2, ![2, 1]⟩

theorem w4_list : List.finRange W4.numel = [⟨0, by decide⟩, ⟨1, by decide⟩, ⟨2, by decide⟩, ⟨3, by decide⟩] := by decide +kernel
theorem w4_pos : ∀ (n : Fin W4.numel) (a : Fin 4), (W4.rowMajor.symm n a).val = if a = 2 then n.val else 0 := by decide +kernel
theorem w2_list : List.finRange W2.numel = [⟨0, by decide⟩, ⟨1, by decide⟩] := by decide +kernel
theorem w2_pos : ∀ (n : Fin W2.numel) (a : Fin 2), (W2.rowMajor.symm n a).val = if a = 0 then n.val else 0 := by decide +kernel

/-- One position of a window of four. -/
theorem w4_term (y : Vec Ideal S128x4x4x128 .f32) (N : Fin 128) (h t : Fin 4) (k : Fin 128) (n : Fin W4.numel)
    (inst : Decidable (∀ a : Fin 4, (![0, 0, 3, 0] : Fin 4 → ℕ) a ≤ ((ix4 N h t k : S128x4x4x128.Idx) a).val * (![1, 1, 1, 1] : Fin 4 → ℕ) a + (W4.rowMajor.symm n a).val
        ∧ ((ix4 N h t k : S128x4x4x128.Idx) a).val * (![1, 1, 1, 1] : Fin 4 → ℕ) a + (W4.rowMajor.symm n a).val - (![0, 0, 3, 0] : Fin 4 → ℕ) a < S128x4x4x128.size a)) :
    @dite _ _ inst (fun hin => y (fun a => ⟨((ix4 N h t k : S128x4x4x128.Idx) a).val * (![1, 1, 1, 1] : Fin 4 → ℕ) a + (W4.rowMajor.symm n a).val - (![0, 0, 3, 0] : Fin 4 → ℕ) a, (hin a).2⟩)) (fun _ => 0)
      = if hh : 3 ≤ t.val + n.val then y (ix4 N h ⟨t.val + n.val - 3, by have : n.val < 4 := n.isLt; omega⟩ k) else 0 := by
  have hn : n.val < 4 := n.isLt
  have p0 := w4_pos n 0
  have p1 := w4_pos n 1
  have p2 := w4_pos n 2
  have p3 := w4_pos n 3
  rw [if_neg (by decide)] at p0 p1 p3
  rw [if_pos rfl] at p2
  by_cases hh : 3 ≤ t.val + n.val
  · have hin : ∀ a : Fin 4, (![0, 0, 3, 0] : Fin 4 → ℕ) a ≤ ((ix4 N h t k : S128x4x4x128.Idx) a).val * (![1, 1, 1, 1] : Fin 4 → ℕ) a + (W4.rowMajor.symm n a).val
        ∧ ((ix4 N h t k : S128x4x4x128.Idx) a).val * (![1, 1, 1, 1] : Fin 4 → ℕ) a + (W4.rowMajor.symm n a).val - (![0, 0, 3, 0] : Fin 4 → ℕ) a < S128x4x4x128.size a := by
      intro a
      match a with
      | ⟨0, _⟩ => show 0 ≤ N.val * 1 + (W4.rowMajor.symm n 0).val ∧ N.val * 1 + (W4.rowMajor.symm n 0).val - 0 < 128; rw [p0]; omega
      | ⟨1, _⟩ => show 0 ≤ h.val * 1 + (W4.rowMajor.symm n 1).val ∧ h.val * 1 + (W4.rowMajor.symm n 1).val - 0 < 4; rw [p1]; omega
      | ⟨2, _⟩ => show 3 ≤ t.val * 1 + (W4.rowMajor.symm n 2).val ∧ t.val * 1 + (W4.rowMajor.symm n 2).val - 3 < 4; rw [p2]; omega
      | ⟨3, _⟩ => show 0 ≤ k.val * 1 + (W4.rowMajor.symm n 3).val ∧ k.val * 1 + (W4.rowMajor.symm n 3).val - 0 < 128; rw [p3]; omega
    rw [dif_pos hin, dif_pos hh]
    refine congrArg y (funext fun a => Fin.ext ?_)
    match a with
    | ⟨0, _⟩ => show N.val * 1 + (W4.rowMajor.symm n 0).val - 0 = N.val; rw [p0]; omega
    | ⟨1, _⟩ => show h.val * 1 + (W4.rowMajor.symm n 1).val - 0 = h.val; rw [p1]; omega
    | ⟨2, _⟩ => show t.val * 1 + (W4.rowMajor.symm n 2).val - 3 = t.val + n.val - 3; rw [p2]; omega
    | ⟨3, _⟩ => show k.val * 1 + (W4.rowMajor.symm n 3).val - 0 = k.val; rw [p3]; omega
  · rw [dif_neg hh, dif_neg]
    intro hin
    have h2 : 3 ≤ t.val * 1 + (W4.rowMajor.symm n 2).val := (hin 2).1
    rw [p2] at h2
    omega

/-- The running sum along the third axis. -/
theorem scan4 (y : Vec Ideal S128x4x4x128 .f32) (z : Vec Ideal S_ .f32) (hz : z (Shape.Idx.first h_S_) = 0) (N : Fin 128) (h t : Fin 4) (k : Fin 128) :
    (Host.reduceWindowAdd (F := Ideal) (φ := .f32) ![1, 1, 4, 1] ![1, 1, 1, 1] ![0, 0, 3, 0] ![0, 0, 0, 0] y z reduceWindows_S128x4x4x128_S128x4x4x128_w1s1p0_0_w1s1p0_0_w4s1p3_0_w1s1p0_0 h_S_ : Vec Ideal S128x4x4x128 .f32) (ix4 N h t k)
      = ∑ s : Fin 4, if s.val ≤ t.val then y (ix4 N h s k) else 0 := by
  unfold Host.reduceWindowAdd
  rw [Ideal.hostReduceWindowAdd_def, hz]
  unfold Ideal.hostReduceWindowAdd Host.reduceWindow
  show (List.finRange W4.numel).foldl _ _ = _
  refine (List.foldl_ext _ (fun (r : EReal) (n : Fin W4.numel) =>
    r + if hh : 3 ≤ t.val + n.val then y (ix4 N h ⟨t.val + n.val - 3, by have : n.val < 4 := n.isLt; omega⟩ k) else 0) _
    (fun r n _ => congrArg (r + ·) (w4_term y N h t k n _))).trans ?_
  rw [w4_list]
  rw [Fin.sum_univ_four]
  fin_cases t <;> simp <;> rfl

/-- One position of a window of two, from the first row. -/
theorem w2_term (y : Vec Ideal S2x512 .f32) (k : Fin 512) (n : Fin W2.numel)
    (inst : Decidable (∀ a : Fin 2, (![1, 0] : Fin 2 → ℕ) a ≤ ((ix2 0 k : S2x512.Idx) a).val * (![1, 1] : Fin 2 → ℕ) a + (W2.rowMajor.symm n a).val
        ∧ ((ix2 0 k : S2x512.Idx) a).val * (![1, 1] : Fin 2 → ℕ) a + (W2.rowMajor.symm n a).val - (![1, 0] : Fin 2 → ℕ) a < S2x512.size a)) :
    @dite _ _ inst (fun hin => y (fun a => ⟨((ix2 0 k : S2x512.Idx) a).val * (![1, 1] : Fin 2 → ℕ) a + (W2.rowMajor.symm n a).val - (![1, 0] : Fin 2 → ℕ) a, (hin a).2⟩)) (fun _ => 0)
      = if n.val = 1 then y (ix2 0 k) else 0 := by
  have hn : n.val < 2 := n.isLt
  have p0 := w2_pos n 0
  have p1 := w2_pos n 1
  rw [if_pos rfl] at p0
  rw [if_neg (by decide)] at p1
  by_cases hh : n.val = 1
  · have hin : ∀ a : Fin 2, (![1, 0] : Fin 2 → ℕ) a ≤ ((ix2 0 k : S2x512.Idx) a).val * (![1, 1] : Fin 2 → ℕ) a + (W2.rowMajor.symm n a).val
        ∧ ((ix2 0 k : S2x512.Idx) a).val * (![1, 1] : Fin 2 → ℕ) a + (W2.rowMajor.symm n a).val - (![1, 0] : Fin 2 → ℕ) a < S2x512.size a := by
      intro a
      match a with
      | ⟨0, _⟩ => show 1 ≤ 0 * 1 + (W2.rowMajor.symm n 0).val ∧ 0 * 1 + (W2.rowMajor.symm n 0).val - 1 < 2; rw [p0]; omega
      | ⟨1, _⟩ => show 0 ≤ k.val * 1 + (W2.rowMajor.symm n 1).val ∧ k.val * 1 + (W2.rowMajor.symm n 1).val - 0 < 512; rw [p1]; omega
    rw [dif_pos hin, if_pos hh]
    refine congrArg y (funext fun a => Fin.ext ?_)
    match a with
    | ⟨0, _⟩ => show 0 * 1 + (W2.rowMajor.symm n 0).val - 1 = 0; rw [p0]; omega
    | ⟨1, _⟩ => show k.val * 1 + (W2.rowMajor.symm n 1).val - 0 = k.val; rw [p1]; omega
  · rw [if_neg hh, dif_neg]
    intro hin
    have h2 : 1 ≤ 0 * 1 + (W2.rowMajor.symm n 0).val := (hin 0).1
    rw [p0] at h2
    omega

/-- The running sum of two rows, at the first of them. -/
theorem scan2 (y : Vec Ideal S2x512 .f32) (z : Vec Ideal S_ .f32) (hz : z (Shape.Idx.first h_S_) = 0) (k : Fin 512) :
    (Host.reduceWindowAdd (F := Ideal) (φ := .f32) ![2, 1] ![1, 1] ![1, 0] ![0, 0] y z reduceWindows_S2x512_S2x512_w2s1p1_0_w1s1p0_0 h_S_ : Vec Ideal S2x512 .f32) (ix2 0 k)
      = y (ix2 0 k) := by
  unfold Host.reduceWindowAdd
  rw [Ideal.hostReduceWindowAdd_def, hz]
  unfold Ideal.hostReduceWindowAdd Host.reduceWindow
  show (List.finRange W2.numel).foldl _ _ = _
  refine (List.foldl_ext _ (fun (r : EReal) (n : Fin W2.numel) => r + if n.val = 1 then y (ix2 0 k) else 0) _
    (fun r n _ => congrArg (r + ·) (w2_term y k n _))).trans ?_
  rw [w2_list]
  simp

end Cert.SampleRefIdeal
-- ==== Proof.SampleRef.lean ====
/- The reference's stages, read at an entry: they are the mixers of one sequence. -/
module

public import proofs.«01_k».proof.Proof.SampleArgs
public import proofs.«01_k».proof.Proof.SampleScan

@[expose] public section

set_option maxRecDepth 16384

noncomputable section

namespace Cert.SampleRefIdeal

open Cert.SampleRefIdeal.Gen Cert.SampleRefIdeal.Read Idealize.ShloMosaic Mixer

variable (x0 : Vec Ideal S128x4x1024 .f32) (x1 : Vec Ideal S1x128x4x128x128 .f32) (x2 : Vec Ideal S1x128x30x512 .f32)
  (x3 : Vec Ideal S1x1024 .f32) (x4 : Vec Ideal S1x1024x3072 .f32) (x5 : Vec Ideal S2x512 .f32) (x6 : Vec Ideal S1x128 .f32)
  (x7 : Vec Ideal S1x31x512 .f32) (x8 x9 x10 : Vec Ideal S1x512 .f32)

theorem cast_heads {α : Type} (y : S128x4x512.Idx → α) (N : Fin 128) (t h : Fin 4) (k : Fin 128) :
    shapeCast S128x4x4x128 y shapeCasts_S128x4x512_S128x4x4x128 (ix4 N t h k) = y (ix3 N t (hk h k)) := by
  refine shapeCast_apply y _ _ (ix3 N t (hk h k)) ?_
  rewrite [Shape.rowMajor_val_three, Shape.rowMajor_val_four]
  show (N.val * 4 + t.val) * 512 + (128 * h.val + k.val) = ((N.val * 4 + t.val) * 4 + h.val) * 128 + k.val
  omega

theorem cast_cols {α : Type} (y : S128x4x4x128.Idx → α) (N : Fin 128) (t h : Fin 4) (k : Fin 128) :
    shapeCast S128x4x512 y shapeCasts_S128x4x4x128_S128x4x512 (ix3 N t (hk h k)) = y (ix4 N t h k) := by
  refine shapeCast_apply y _ _ (ix4 N t h k) ?_
  rewrite [Shape.rowMajor_val_three, Shape.rowMajor_val_four]
  show ((N.val * 4 + t.val) * 4 + h.val) * 128 + k.val = (N.val * 4 + t.val) * 512 + (128 * h.val + k.val)
  omega

/-! ## The projections and the gates -/

theorem ref_norm (N : Fin 128) (t : Fin 4) (j : Fin 1024) :
    val_main_v29 (F := Ideal) x0 x3 (ix3 N t j)
      = rms (fun k => x0 (ix3 N t k)) (fun k => x3 (ix2 0 k)) j := by
  unfold val_main_v29 val_main_v28 val_main_v27 val_main_v26 val_main_v25 val_main_v24 val_main_v23 val_main_v22 val_main_v21 val_main_v20 val_main_v19 val_main_v18 val_main_v17 val_main_v16
  pointwise [rms, val_main_cst_2, val_main_cst_3, val_main_cst_4]

theorem ref_proj (N : Fin 128) (t : Fin 4) (j : Fin 3072) :
    val_main_v31 (F := Ideal) x0 x3 x4 (ix3 N t j)
      = mulMat (rms (fun k => x0 (ix3 N t k)) (fun k => x3 (ix2 0 k))) (fun k j => x4 (ix3 0 k j)) j := by
  have e := fun k => ref_norm x0 x3 N t k
  unfold val_main_v31 val_main_v30
  generalize val_main_v29 (F := Ideal) x0 x3 = y at e ⊢
  rw [show rms (fun k => x0 (ix3 N t k)) (fun k => x3 (ix2 0 k)) = fun k => y (ix3 N t k) from (funext e).symm]
  pointwise [mulMat]

theorem ref_cols0 (N : Fin 128) (t : Fin 4) (c : Fin 512) :
    val_main_v32 (F := Ideal) x0 x3 x4 (ix3 N t c)
      = (argSeq x0 x1 x2 x3 x4 x5 x6 x7 x8 x9 x10 N).proj 0 t c := by
  refine Eq.trans ?_ (ref_proj x0 x3 x4 N t (colOf 0 c))
  unfold val_main_v32
  generalize val_main_v31 (F := Ideal) x0 x3 x4 = y
  refine extractStridedSlice_apply _ y _ _ _ fun a => ?_
  match a with
  | ⟨0, _⟩ => show N.val = 0 + N.val; omega
  | ⟨1, _⟩ => show t.val = 0 + t.val; omega
  | ⟨2, _⟩ => show 512 * 0 + c.val = 0 + c.val; omega

theorem ref_cols1 (N : Fin 128) (t : Fin 4) (c : Fin 512) :
    val_main_v33 (F := Ideal) x0 x3 x4 (ix3 N t c)
      = (argSeq x0 x1 x2 x3 x4 x5 x6 x7 x8 x9 x10 N).proj 1 t c := by
  refine Eq.trans ?_ (ref_proj x0 x3 x4 N t (colOf 1 c))
  unfold val_main_v33
  generalize val_main_v31 (F := Ideal) x0 x3 x4 = y
  refine extractStridedSlice_apply _ y _ _ _ fun a => ?_
  match a with
  | ⟨0, _⟩ => show N.val = 0 + N.val; omega
  | ⟨1, _⟩ => show t.val = 0 + t.val; omega
  | ⟨2, _⟩ => show 512 * 1 + c.val = 512 + c.val; omega

theorem ref_cols2 (N : Fin 128) (t : Fin 4) (c : Fin 512) :
    val_main_v34 (F := Ideal) x0 x3 x4 (ix3 N t c)
      = (argSeq x0 x1 x2 x3 x4 x5 x6 x7 x8 x9 x10 N).proj 2 t c := by
  refine Eq.trans ?_ (ref_proj x0 x3 x4 N t (colOf 2 c))
  unfold val_main_v34
  generalize val_main_v31 (F := Ideal) x0 x3 x4 = y
  refine extractStridedSlice_apply _ y _ _ _ fun a => ?_
  match a with
  | ⟨0, _⟩ => show N.val = 0 + N.val; omega
  | ⟨1, _⟩ => show t.val = 0 + t.val; omega
  | ⟨2, _⟩ => show 512 * 2 + c.val = 1024 + c.val; omega

theorem ref_cols3 (N : Fin 128) (t : Fin 4) (c : Fin 512) :
    val_main_v35 (F := Ideal) x0 x3 x4 (ix3 N t c)
      = (argSeq x0 x1 x2 x3 x4 x5 x6 x7 x8 x9 x10 N).proj 3 t c := by
  refine Eq.trans ?_ (ref_proj x0 x3 x4 N t (colOf 3 c))
  unfold val_main_v35
  generalize val_main_v31 (F := Ideal) x0 x3 x4 = y
  refine extractStridedSlice_apply _ y _ _ _ fun a => ?_
  match a with
  | ⟨0, _⟩ => show N.val = 0 + N.val; omega
  | ⟨1, _⟩ => show t.val = 0 + t.val; omega
  | ⟨2, _⟩ => show 512 * 3 + c.val = 1536 + c.val; omega

theorem ref_cols4 (N : Fin 128) (t : Fin 4) (c : Fin 512) :
    val_main_v36 (F := Ideal) x0 x3 x4 (ix3 N t c)
      = (argSeq x0 x1 x2 x3 x4 x5 x6 x7 x8 x9 x10 N).proj 4 t c := by
  refine Eq.trans ?_ (ref_proj x0 x3 x4 N t (colOf 4 c))
  unfold val_main_v36
  generalize val_main_v31 (F := Ideal) x0 x3 x4 = y
  refine extractStridedSlice_apply _ y _ _ _ fun a => ?_
  match a with
  | ⟨0, _⟩ => show N.val = 0 + N.val; omega
  | ⟨1, _⟩ => show t.val = 0 + t.val; omega
  | ⟨2, _⟩ => show 512 * 4 + c.val = 2048 + c.val; omega

theorem ref_cols5 (N : Fin 128) (t : Fin 4) (c : Fin 512) :
    val_main_v37 (F := Ideal) x0 x3 x4 (ix3 N t c)
      = (argSeq x0 x1 x2 x3 x4 x5 x6 x7 x8 x9 x10 N).proj 5 t c := by
  refine Eq.trans ?_ (ref_proj x0 x3 x4 N t (colOf 5 c))
  unfold val_main_v37
  generalize val_main_v31 (F := Ideal) x0 x3 x4 = y
  refine extractStridedSlice_apply _ y _ _ _ fun a => ?_
  match a with
  | ⟨0, _⟩ => show N.val = 0 + N.val; omega
  | ⟨1, _⟩ => show t.val = 0 + t.val; omega
  | ⟨2, _⟩ => show 512 * 5 + c.val = 2560 + c.val; omega

theorem ref_exp (i : Fin 2) (c : Fin 512) :
    val_main_v8 (F := Ideal) x5 (ix2 i c)
      = Ideal.exp (x5 (ix2 i c) - max (x5 (ix2 0 c)) (x5 (ix2 1 c))) := by
  unfold val_main_v8 val_main_v7 val_main_v6 val_main_v5 val_main_v4 val_main_v3 val_main_v2
  pointwise [val_main_cst, val_main_cst_0, bot_f32]
  rw [show (Finset.univ : Finset (Fin 2)) = {0, 1} from rfl, Finset.fold_insert (by decide), Finset.fold_singleton, max_bot_right, max_bot_left]

theorem ref_lb (c : Fin 512) :
    val_main_v15 (F := Ideal) x5 (ix1 c)
      = lowerBound (fun i => x5 (ix2 i c)) := by
  have e := fun i => ref_exp x5 i c
  have e13 : val_main_v13 (F := Ideal) x5 (ix2 0 c) = val_main_v12 (F := Ideal) x5 (ix2 0 c) := scan2 _ _ (by pointwise [val_main_call0_call0_v0, val_main_call0_call0_cst]) c
  have e15 : val_main_v15 (F := Ideal) x5 (ix1 c) = val_main_v13 (F := Ideal) x5 (ix2 0 c) := by
    unfold val_main_v15 val_main_v14
    generalize val_main_v13 (F := Ideal) x5 = y
    pointwise
  rw [e15, e13]
  unfold lowerBound
  rw [← e 0, ← e 1]
  unfold val_main_v12 val_main_v11 val_main_v10 val_main_v9
  generalize val_main_v8 (F := Ideal) x5 = y
  pointwise [val_main_cst_1]
  rw [Fin.sum_univ_two]

theorem ref_forget (N : Fin 128) (t : Fin 4) (c : Fin 512) :
    val_main_v51 (F := Ideal) x0 x3 x4 x5 (ix3 N t c)
      = (argSeq x0 x1 x2 x3 x4 x5 x6 x7 x8 x9 x10 N).forget t c := by
  unfold Seq.forget gate
  rw [← ref_cols1, show lowerBound (fun i => (argSeq x0 x1 x2 x3 x4 x5 x6 x7 x8 x9 x10 N).lbl i c) = val_main_v15 (F := Ideal) x5 (ix1 c) from (ref_lb x5 c).symm]
  unfold val_main_v51 val_main_v50 val_main_v49 val_main_v48 val_main_v47 val_main_v46 val_main_v45 val_main_v44 val_main_v43 val_main_v42 val_main_v41 val_main_v40 val_main_v39 val_main_v38
  generalize val_main_v33 (F := Ideal) x0 x3 x4 = y
  generalize val_main_v15 (F := Ideal) x5 = z
  pointwise [Ideal.logistic, val_main_cst_5, val_main_cst_6, val_main_cst_7]

theorem ref_silu (N : Fin 128) (t : Fin 4) (c : Fin 512) :
    val_main_v52 (F := Ideal) x0 x3 x4 (ix3 N t c)
      = silu ((argSeq x0 x1 x2 x3 x4 x5 x6 x7 x8 x9 x10 N).proj 0 t c) := by
  rw [← ref_cols0]
  unfold val_main_v52 val_main_call1_v5 val_main_call1_v4 val_main_call1_v3 val_main_call1_v2 val_main_call1_v1 val_main_call1_v0
  generalize val_main_v32 (F := Ideal) x0 x3 x4 = y
  pointwise [silu, Ideal.logistic, val_main_call1_cst, val_main_call1_cst_0]

/-! ## The recurrence -/

theorem ref_q (N : Fin 128) (h t : Fin 4) (k : Fin 128) :
    val_main_v60 (F := Ideal) x0 x3 x4 (ix4 N h t k)
      = silu ((argSeq x0 x1 x2 x3 x4 x5 x6 x7 x8 x9 x10 N).proj 0 t (hk h k)) := by
  rw [← ref_silu]
  unfold val_main_v60 val_main_v53
  generalize val_main_v52 (F := Ideal) x0 x3 x4 = y
  rw [← cast_heads y N t h k]
  generalize (shapeCast S128x4x4x128 y shapeCasts_S128x4x512_S128x4x4x128) = z
  pointwise

theorem ref_key (N : Fin 128) (h t : Fin 4) (k : Fin 128) :
    val_main_v61 (F := Ideal) x0 x3 x4 x5 (ix4 N h t k)
      = 1 - (argSeq x0 x1 x2 x3 x4 x5 x6 x7 x8 x9 x10 N).forget t (hk h k) := by
  rw [← ref_forget]
  have e : 1 - val_main_v51 (F := Ideal) x0 x3 x4 x5 (ix3 N t (hk h k)) = val_main_v55 (F := Ideal) x0 x3 x4 x5 (ix3 N t (hk h k)) := by
    unfold val_main_v55 val_main_v54
    generalize val_main_v51 (F := Ideal) x0 x3 x4 x5 = y
    pointwise [val_main_cst_8]
  rw [e]
  unfold val_main_v61 val_main_v56
  generalize val_main_v55 (F := Ideal) x0 x3 x4 x5 = y
  rw [← cast_heads y N t h k]
  generalize (shapeCast S128x4x4x128 y shapeCasts_S128x4x512_S128x4x4x128) = z
  pointwise

theorem ref_v (N : Fin 128) (h t : Fin 4) (k : Fin 128) :
    val_main_v62 (F := Ideal) x0 x3 x4 (ix4 N h t k)
      = (argSeq x0 x1 x2 x3 x4 x5 x6 x7 x8 x9 x10 N).proj 2 t (hk h k) := by
  rw [← ref_cols2]
  unfold val_main_v62 val_main_v57
  generalize val_main_v34 (F := Ideal) x0 x3 x4 = y
  rw [← cast_heads y N t h k]
  generalize (shapeCast S128x4x4x128 y shapeCasts_S128x4x512_S128x4x4x128) = z
  pointwise

theorem ref_log (N : Fin 128) (h t : Fin 4) (k : Fin 128) :
    val_main_v63 (F := Ideal) x0 x3 x4 x5 (ix4 N h t k)
      = Ideal.log ((argSeq x0 x1 x2 x3 x4 x5 x6 x7 x8 x9 x10 N).forget t (hk h k)) := by
  rw [← ref_forget]
  unfold val_main_v63 val_main_v59 val_main_v58
  generalize val_main_v51 (F := Ideal) x0 x3 x4 x5 = y
  pointwise
  refine congrArg (fun i => Ideal.log (y (ix3 N t i))) (Fin.ext ?_)
  show h.val * 128 + k.val = 128 * h.val + k.val; omega

theorem ref_cum (N : Fin 128) (h t : Fin 4) (k : Fin 128) :
    val_main_v67 (F := Ideal) x0 x3 x4 x5 (ix4 N h t k)
      = (argSeq x0 x1 x2 x3 x4 x5 x6 x7 x8 x9 x10 N).cum t (hk h k) := by
  refine (scan4 (val_main_v63 (F := Ideal) x0 x3 x4 x5) _ (by pointwise [val_main_call2_call0_v0, val_main_call2_call0_cst]) N h t k).trans ?_
  unfold Seq.cum
  refine Finset.sum_congr rfl fun s _ => ?_
  rw [← ref_log]

theorem ref_qd (N : Fin 128) (h t : Fin 4) (k : Fin 128) :
    val_main_v70 (F := Ideal) x0 x3 x4 x5 (ix4 N h t k)
      = (argSeq x0 x1 x2 x3 x4 x5 x6 x7 x8 x9 x10 N).qd t (hk h k) := by
  unfold Seq.qd
  rw [← ref_q, ← ref_cum]
  rfl

theorem ref_ki (N : Fin 128) (h t : Fin 4) (k : Fin 128) :
    val_main_v73 (F := Ideal) x0 x3 x4 x5 (ix4 N h t k)
      = (argSeq x0 x1 x2 x3 x4 x5 x6 x7 x8 x9 x10 N).ki t (hk h k) := by
  unfold Seq.ki
  rw [← ref_key, ← ref_cum]
  rfl

theorem ref_last (N : Fin 128) (h : Fin 4) (k : Fin 128) :
    val_main_v68 (F := Ideal) x0 x3 x4 x5 (ix4 N h 0 k)
      = (argSeq x0 x1 x2 x3 x4 x5 x6 x7 x8 x9 x10 N).cum 3 (hk h k) := by
  refine Eq.trans ?_ (ref_cum x0 x1 x2 x3 x4 x5 x6 x7 x8 x9 x10 N h 3 k)
  unfold val_main_v68
  generalize val_main_v67 (F := Ideal) x0 x3 x4 x5 = y
  refine extractStridedSlice_apply _ y _ _ _ fun a => ?_
  match a with
  | ⟨0, _⟩ => show N.val = 0 + N.val; omega
  | ⟨1, _⟩ => show h.val = 0 + h.val; omega
  | ⟨2, _⟩ => rfl
  | ⟨3, _⟩ => show k.val = 0 + k.val; omega

theorem ref_kd (N : Fin 128) (h t : Fin 4) (k : Fin 128) :
    val_main_v86 (F := Ideal) x0 x3 x4 x5 (ix4 N h t k)
      = (argSeq x0 x1 x2 x3 x4 x5 x6 x7 x8 x9 x10 N).kd t (hk h k) := by
  unfold Seq.kd
  rw [← ref_last, ← ref_key, ← ref_cum]
  unfold val_main_v86 val_main_v85 val_main_v84 val_main_v83
  generalize val_main_v61 (F := Ideal) x0 x3 x4 x5 = y
  generalize val_main_v67 (F := Ideal) x0 x3 x4 x5 = z
  generalize val_main_v68 (F := Ideal) x0 x3 x4 x5 = w
  pointwise

theorem ref_st (N : Fin 128) (h : Fin 4) (a b : Fin 128) :
    val_main_v0 (F := Ideal) x1 (ix4 N h a b)
      = (argSeq x0 x1 x2 x3 x4 x5 x6 x7 x8 x9 x10 N).st h a b := by
  unfold val_main_v0
  pointwise [argSeq]

theorem ref_state (N : Fin 128) (h : Fin 4) (a b : Fin 128) :
    val_main_v88 (F := Ideal) x0 x1 x3 x4 x5 (ix4 N h a b)
      = (argSeq x0 x1 x2 x3 x4 x5 x6 x7 x8 x9 x10 N).state h a b := by
  unfold Seq.state
  simp only [← ref_last, ← ref_st, ← ref_kd, ← ref_v]
  unfold val_main_v88 val_main_v87 val_main_v82 val_main_v81 val_main_v80 val_main_v79 val_main_v78
  generalize val_main_v86 (F := Ideal) x0 x3 x4 x5 = y
  generalize val_main_v62 (F := Ideal) x0 x3 x4 = z
  generalize val_main_v68 (F := Ideal) x0 x3 x4 x5 = w
  generalize val_main_v0 (F := Ideal) x1 = u
  pointwise

theorem ref_scores (N : Fin 128) (h t s : Fin 4) :
    val_main_v76 (F := Ideal) x0 x3 x4 x5 (ix4 N h t s)
      = if s.val ≤ t.val then ∑ k, (argSeq x0 x1 x2 x3 x4 x5 x6 x7 x8 x9 x10 N).qd t (hk h k) * (argSeq x0 x1 x2 x3 x4 x5 x6 x7 x8 x9 x10 N).ki s (hk h k) else 0 := by
  simp only [← ref_qd, ← ref_ki]
  unfold val_main_v76 val_main_v75 val_main_call3_v2 val_main_call3_v1 val_main_call3_v0 val_main_v66 val_main_v65 val_main_v64 val_main_cst_9
  generalize val_main_v70 (F := Ideal) x0 x3 x4 x5 = y
  generalize val_main_v73 (F := Ideal) x0 x3 x4 x5 = z
  pointwise
  rw [show (id (constant (F := Ideal) S_ .f32 0#32) ix0 : EReal) = 0 from (by simp [Ideal.ofBits, Ideal.ieee] : Ideal.ofBits .f32 0#32 = 0)]
  generalize (∑ x, y (ix4 N h t x) * z (ix4 N h s x)) = e
  fin_cases s <;> fin_cases t <;> rfl

theorem ref_recur (N : Fin 128) (t h : Fin 4) (b : Fin 128) :
    val_main_v90 (F := Ideal) x0 x1 x3 x4 x5 (ix4 N t h b)
      = (argSeq x0 x1 x2 x3 x4 x5 x6 x7 x8 x9 x10 N).recur h t b := by
  unfold Seq.recur
  simp only [← ref_scores]
  simp only [← ref_v, ← ref_st, ← ref_qd]
  unfold val_main_v90 val_main_v89 val_main_v77 val_main_v74
  generalize val_main_v70 (F := Ideal) x0 x3 x4 x5 = y
  generalize val_main_v76 (F := Ideal) x0 x3 x4 x5 = z
  generalize val_main_v62 (F := Ideal) x0 x3 x4 = w
  generalize val_main_v0 (F := Ideal) x1 = u
  pointwise

theorem ref_gate (N : Fin 128) (t h : Fin 4) (b : Fin 128) :
    val_main_v106 (F := Ideal) x0 x3 x4 (ix4 N t h b)
      = silu ((argSeq x0 x1 x2 x3 x4 x5 x6 x7 x8 x9 x10 N).proj 3 t (hk h b)) := by
  rw [← ref_cols3]
  unfold val_main_v106 val_main_call4_v5 val_main_call4_v4 val_main_call4_v3 val_main_call4_v2 val_main_call4_v1 val_main_call4_v0 val_main_v105
  generalize val_main_v35 (F := Ideal) x0 x3 x4 = y
  rw [← cast_heads y N t h b]
  generalize (shapeCast S128x4x4x128 y shapeCasts_S128x4x512_S128x4x4x128) = z
  pointwise [silu, Ideal.logistic, val_main_call4_cst, val_main_call4_cst_0]

theorem ref_mixA (N : Fin 128) (t h : Fin 4) (b : Fin 128) :
    val_main_v108 (F := Ideal) x0 x1 x3 x4 x5 x6 (ix3 N t (hk h b))
      = (argSeq x0 x1 x2 x3 x4 x5 x6 x7 x8 x9 x10 N).mixA t h b := by
  refine (cast_cols _ N t h b).trans ?_
  unfold Seq.mixA
  simp only [← ref_recur, ← ref_gate]
  unfold val_main_v107 val_main_v104 val_main_v103 val_main_v102 val_main_v101 val_main_v100 val_main_v99 val_main_v98 val_main_v97 val_main_v96 val_main_v95 val_main_v94 val_main_v93 val_main_v92 val_main_v91
  generalize val_main_v90 (F := Ideal) x0 x1 x3 x4 x5 = y
  generalize val_main_v106 (F := Ideal) x0 x3 x4 = z
  pointwise [argSeq, val_main_cst_10, val_main_cst_11, val_main_cst_12]

/-! ## The convolution -/

theorem ref_u (N : Fin 128) (t : Fin 4) (c : Fin 512) :
    val_main_v115 (F := Ideal) x0 x3 x4 (ix3 N t c)
      = (argSeq x0 x1 x2 x3 x4 x5 x6 x7 x8 x9 x10 N).u t c := by
  unfold Seq.u
  rw [← ref_cols4, ← ref_cols5]
  unfold val_main_v115 val_main_v114 val_main_v113 val_main_v112 val_main_v111 val_main_v110 val_main_v109
  generalize val_main_v36 (F := Ideal) x0 x3 x4 = y
  generalize val_main_v37 (F := Ideal) x0 x3 x4 = z
  pointwise [Ideal.logistic, val_main_cst_13, val_main_cst_14]

theorem ref_hist (N : Fin 128) (i : Fin 30) (c : Fin 512) :
    val_main_v1 (F := Ideal) x2 (ix3 N i c)
      = (argSeq x0 x1 x2 x3 x4 x5 x6 x7 x8 x9 x10 N).hist i c := by
  unfold val_main_v1
  pointwise [argSeq]

theorem ref_full (N : Fin 128) (i : Fin 34) (c : Fin 512) :
    val_main_v116 (F := Ideal) x0 x2 x3 x4 (ix3 N i c)
      = (argSeq x0 x1 x2 x3 x4 x5 x6 x7 x8 x9 x10 N).full i c := by
  unfold Seq.full
  simp only [← ref_u, ← ref_hist]
  unfold val_main_v116
  generalize val_main_v1 (F := Ideal) x2 = y
  generalize val_main_v115 (F := Ideal) x0 x3 x4 = z
  pointwise

theorem ref_newHist (i : Fin 30) (N : Fin 128) (c : Fin 512) :
    val_main_v370 (F := Ideal) x0 x2 x3 x4 (ix3 i N c)
      = (argSeq x0 x1 x2 x3 x4 x5 x6 x7 x8 x9 x10 N).newHist i c := by
  unfold Seq.newHist
  simp only [← ref_full]
  unfold val_main_v370 val_main_v367
  generalize val_main_v116 (F := Ideal) x0 x2 x3 x4 = y
  pointwise
  refine congrArg (fun i => y (ix3 N i c)) (Fin.ext ?_)
  show 4 + i.val = i.val + 4; omega

/-- One tap of the convolution. -/
theorem tap_term (y : Vec Ideal S128x34x512 .f32) (j : Fin 31) (hy : S128x34x512.Slices ![0, j.val, 0] S128x4x512) (hx : S1x31x512.Slices ![0, j.val, 0] S1x1x512)
    (N : Fin 128) (t : Fin 4) (c : Fin 512) :
    (mulf (F := Ideal) (φ := .f32) (extractStridedSlice S128x4x512 ![0, j.val, 0] y hy) (broadcastInDim S128x4x512 ![0, 1, 2] bcast_S1x1x512_S128x4x512_0_1_2
      (broadcastInDim S1x1x512 ![2] bcast_S512_S1x1x512_2 (shapeCast S512 (extractStridedSlice S1x1x512 ![0, j.val, 0] x7 hx) shapeCasts_S1x1x512_S512)))) (ix3 N t c)
      = y (ix3 N ⟨j.val + t.val, by have := j.isLt; have := t.isLt; omega⟩ c) * x7 (ix3 0 j c) := by
  pointwise

theorem ref_taps (N : Fin 128) (t : Fin 4) (c : Fin 512) :
    val_main_v334 (F := Ideal) x0 x2 x3 x4 x7 (ix3 N t c)
      = ∑ j : Fin 31, (argSeq x0 x1 x2 x3 x4 x5 x6 x7 x8 x9 x10 N).full ⟨j.val + t.val, by have := j.isLt; have := t.isLt; omega⟩ c * (argSeq x0 x1 x2 x3 x4 x5 x6 x7 x8 x9 x10 N).tap j c := by
  simp only [← ref_full]
  unfold val_main_v334 val_main_v333 val_main_v332 val_main_v331 val_main_v330 val_main_v329 val_main_v328 val_main_v327 val_main_v326 val_main_v325 val_main_v324 val_main_v323 val_main_v322 val_main_v321 val_main_v320 val_main_v319 val_main_v318 val_main_v317 val_main_v316 val_main_v315 val_main_v314 val_main_v313 val_main_v312 val_main_v311 val_main_v310 val_main_v309 val_main_v308 val_main_v307 val_main_v306 val_main_v305 val_main_v304 val_main_v303 val_main_v302 val_main_v301 val_main_v300 val_main_v299 val_main_v298 val_main_v297 val_main_v296 val_main_v295 val_main_v294 val_main_v293 val_main_v292 val_main_v291 val_main_v290 val_main_v289 val_main_v288 val_main_v287 val_main_v286 val_main_v285 val_main_v284 val_main_v283 val_main_v282 val_main_v281 val_main_v280 val_main_v279 val_main_v278 val_main_v277 val_main_v276 val_main_v275 val_main_v274 val_main_v273 val_main_v272 val_main_v271 val_main_v270 val_main_v269 val_main_v268 val_main_v267 val_main_v266 val_main_v265 val_main_v264 val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117
  generalize val_main_v116 (F := Ideal) x0 x2 x3 x4 = y
  refine Eq.trans ?_ (Finset.sum_congr rfl fun j _ => (rfl : y (ix3 N ⟨j.val + t.val, by have := j.isLt; have := t.isLt; omega⟩ c) * x7 (ix3 0 j c) = _))
  simp only [Fin.sum_univ_castSucc, Finset.univ_eq_empty, Finset.sum_empty]
  refine congrArg₂ (· + ·) ?_ (tap_term x7 y 30 _ _ N t c)
  refine congrArg₂ (· + ·) ?_ (tap_term x7 y 29 _ _ N t c)
  refine congrArg₂ (· + ·) ?_ (tap_term x7 y 28 _ _ N t c)
  refine congrArg₂ (· + ·) ?_ (tap_term x7 y 27 _ _ N t c)
  refine congrArg₂ (· + ·) ?_ (tap_term x7 y 26 _ _ N t c)
  refine congrArg₂ (· + ·) ?_ (tap_term x7 y 25 _ _ N t c)
  refine congrArg₂ (· + ·) ?_ (tap_term x7 y 24 _ _ N t c)
  refine congrArg₂ (· + ·) ?_ (tap_term x7 y 23 _ _ N t c)
  refine congrArg₂ (· + ·) ?_ (tap_term x7 y 22 _ _ N t c)
  refine congrArg₂ (· + ·) ?_ (tap_term x7 y 21 _ _ N t c)
  refine congrArg₂ (· + ·) ?_ (tap_term x7 y 20 _ _ N t c)
  refine congrArg₂ (· + ·) ?_ (tap_term x7 y 19 _ _ N t c)
  refine congrArg₂ (· + ·) ?_ (tap_term x7 y 18 _ _ N t c)
  refine congrArg₂ (· + ·) ?_ (tap_term x7 y 17 _ _ N t c)
  refine congrArg₂ (· + ·) ?_ (tap_term x7 y 16 _ _ N t c)
  refine congrArg₂ (· + ·) ?_ (tap_term x7 y 15 _ _ N t c)
  refine congrArg₂ (· + ·) ?_ (tap_term x7 y 14 _ _ N t c)
  refine congrArg₂ (· + ·) ?_ (tap_term x7 y 13 _ _ N t c)
  refine congrArg₂ (· + ·) ?_ (tap_term x7 y 12 _ _ N t c)
  refine congrArg₂ (· + ·) ?_ (tap_term x7 y 11 _ _ N t c)
  refine congrArg₂ (· + ·) ?_ (tap_term x7 y 10 _ _ N t c)
  refine congrArg₂ (· + ·) ?_ (tap_term x7 y 9 _ _ N t c)
  refine congrArg₂ (· + ·) ?_ (tap_term x7 y 8 _ _ N t c)
  refine congrArg₂ (· + ·) ?_ (tap_term x7 y 7 _ _ N t c)
  refine congrArg₂ (· + ·) ?_ (tap_term x7 y 6 _ _ N t c)
  refine congrArg₂ (· + ·) ?_ (tap_term x7 y 5 _ _ N t c)
  refine congrArg₂ (· + ·) ?_ (tap_term x7 y 4 _ _ N t c)
  refine congrArg₂ (· + ·) ?_ (tap_term x7 y 3 _ _ N t c)
  refine congrArg₂ (· + ·) ?_ (tap_term x7 y 2 _ _ N t c)
  refine congrArg₂ (· + ·) ?_ (tap_term x7 y 1 _ _ N t c)
  refine congrArg₂ (· + ·) ?_ (tap_term x7 y 0 _ _ N t c)
  pointwise [val_main_cst_15]

theorem ref_conv (N : Fin 128) (t : Fin 4) (c : Fin 512) :
    val_main_v338 (F := Ideal) x0 x2 x3 x4 x7 x8 (ix3 N t c)
      = (argSeq x0 x1 x2 x3 x4 x5 x6 x7 x8 x9 x10 N).conv t c := by
  unfold Seq.conv
  rw [← ref_taps]
  unfold val_main_v338 val_main_v337 val_main_v336 val_main_v335
  generalize val_main_v334 (F := Ideal) x0 x2 x3 x4 x7 = y
  pointwise [argSeq]

theorem ref_layerNorm (N : Fin 128) (t : Fin 4) (c : Fin 512) :
    val_main_v364 (F := Ideal) x0 x2 x3 x4 x7 x8 x9 x10 (ix3 N t c)
      = layerNorm ((argSeq x0 x1 x2 x3 x4 x5 x6 x7 x8 x9 x10 N).conv t) (argSeq x0 x1 x2 x3 x4 x5 x6 x7 x8 x9 x10 N).lng (argSeq x0 x1 x2 x3 x4 x5 x6 x7 x8 x9 x10 N).lnb c := by
  unfold layerNorm
  simp only [← ref_conv]
  unfold val_main_v364 val_main_v363 val_main_v362 val_main_v361 val_main_v360 val_main_v359 val_main_v358 val_main_v357 val_main_v356 val_main_v355 val_main_v354 val_main_v353 val_main_v352 val_main_v351 val_main_v350 val_main_v349 val_main_v348 val_main_v347 val_main_v346 val_main_v345 val_main_v344 val_main_v343 val_main_v342 val_main_v341 val_main_v340 val_main_v339
  generalize val_main_v338 (F := Ideal) x0 x2 x3 x4 x7 x8 = y
  pointwise [argSeq, val_main_cst_16, val_main_cst_17, val_main_cst_18, val_main_cst_19, val_main_cst_20]

theorem ref_mixB (N : Fin 128) (t : Fin 4) (c : Fin 512) :
    val_main_v365 (F := Ideal) x0 x2 x3 x4 x7 x8 x9 x10 (ix3 N t c)
      = (argSeq x0 x1 x2 x3 x4 x5 x6 x7 x8 x9 x10 N).mixB t c := by
  unfold Seq.mixB
  rw [← ref_layerNorm]
  unfold val_main_v365 val_main_call5_v5 val_main_call5_v4 val_main_call5_v3 val_main_call5_v2 val_main_call5_v1 val_main_call5_v0
  generalize val_main_v364 (F := Ideal) x0 x2 x3 x4 x7 x8 x9 x10 = y
  pointwise [silu, Ideal.logistic, val_main_call5_cst, val_main_call5_cst_0]

/-- The row of token `t` of sequence `N`. -/
def tokenRow (N : Fin 128) (t : Fin 4) : Fin 512 := ⟨4 * N.val + t.val, by omega⟩

theorem cast_rows {α : Type} (y : S128x4x1024.Idx → α) (N : Fin 128) (t : Fin 4) (k : Fin 1024) :
    shapeCast S512x1024 y shapeCasts_S128x4x1024_S512x1024 (ix2 (tokenRow N t) k) = y (ix3 N t k) := by
  refine shapeCast_apply y _ _ (ix3 N t k) ?_
  rewrite [Shape.rowMajor_val_three, Shape.rowMajor_val_two]
  show (N.val * 4 + t.val) * 1024 + k.val = (4 * N.val + t.val) * 1024 + k.val
  omega

theorem ref_mix (N : Fin 128) (t : Fin 4) (k : Fin 1024) :
    val_main_v369 (F := Ideal) x0 x1 x2 x3 x4 x5 x6 x7 x8 x9 x10 (ix2 (tokenRow N t) k)
      = (argSeq x0 x1 x2 x3 x4 x5 x6 x7 x8 x9 x10 N).mix t k := by
  refine (cast_rows (val_main_v366 (F := Ideal) x0 x1 x2 x3 x4 x5 x6 x7 x8 x9 x10) N t k).trans ?_
  have hk1024 := k.isLt
  by_cases h : k.val < 512
  · have e : val_main_v366 (F := Ideal) x0 x1 x2 x3 x4 x5 x6 x7 x8 x9 x10 (ix3 N t k) = val_main_v108 (F := Ideal) x0 x1 x3 x4 x5 x6 (ix3 N t ⟨k.val, h⟩) := by
      unfold val_main_v366
      generalize val_main_v108 (F := Ideal) x0 x1 x3 x4 x5 x6 = y
      generalize val_main_v365 (F := Ideal) x0 x2 x3 x4 x7 x8 x9 x10 = z
      pointwise
      rw [dif_pos h]
    have e1 : (⟨k.val, h⟩ : Fin 512) = hk ⟨k.val / 128, by omega⟩ ⟨k.val % 128, by omega⟩ := Fin.ext (by simp only [Mixer.hk]; omega)
    rw [e, e1, ref_mixA, Seq.mix_lo _ t ⟨k.val / 128, by omega⟩ ⟨k.val % 128, by omega⟩ k (congrArg Fin.val e1)]
  · have e : val_main_v366 (F := Ideal) x0 x1 x2 x3 x4 x5 x6 x7 x8 x9 x10 (ix3 N t k) = val_main_v365 (F := Ideal) x0 x2 x3 x4 x7 x8 x9 x10 (ix3 N t ⟨k.val - 512, by omega⟩) := by
      unfold val_main_v366
      generalize val_main_v108 (F := Ideal) x0 x1 x3 x4 x5 x6 = y
      generalize val_main_v365 (F := Ideal) x0 x2 x3 x4 x7 x8 x9 x10 = z
      pointwise
      rw [dif_neg h]
    rw [e, ref_mixB, Seq.mix_hi _ t ⟨k.val - 512, by omega⟩ k (by simp only []; omega)]

end Cert.SampleRefIdeal
-- ==== Proof.SampleClaim.lean ====
/- The mixers' call for the sample tokens against its reference: from finite arguments the two leave the same three arrays. -/
module

public import proofs.«01_k».proof.Defs
public import proofs.«01_k».proof.Proof.Precondition
public import proofs.«01_k».proof.Proof.SampleValue
public import proofs.«01_k».proof.Proof.SampleRef
public import proofs.«01_k».proof.Proof.Gen.SampleIdeal.Value
public import proofs.«01_k».proof.Proof.Gen.Pre_finite_sample
public import proofs.«01_k».proof.Proof.Gen.SampleRefIdeal

@[expose] public section

set_option maxRecDepth 16384

noncomputable section

namespace Cert.Proof.Sample

open Idealize.ShloMosaic Idealize.SL.Sem Mixer

/-- The precondition makes every sequence's arguments finite. -/
theorem finite_args (m : (ℓ : Loc Cert.SampleIdeal.nD Cert.SampleIdeal.τ Cert.SampleIdeal.sig) → Buf (Elt Ideal) ℓ) (hpre : Cert.Pre_SampleIdeal_finite_sample m)
    (c : Dev Cert.SampleIdeal.nD) (N : Fin 128) : (Cert.SampleIdeal.kernelSeq m c N).Finite := by
  obtain ⟨p0, p1, p2, p3, p4, p5, p6, p7, p8, p9, p10⟩ := hpre c
  exact {
    x := fun _ _ => finite_of_test _ _ p0 _
    st := fun _ _ _ => finite_of_test _ _ p1 _
    hist := fun _ _ => finite_of_test _ _ p2 _
    w := fun _ _ => finite_of_test _ _ p4 _
    g := fun _ => finite_of_test _ _ p3 _
    lbl := fun _ _ => finite_of_test _ _ p5 _
    onorm := fun _ => finite_of_test _ _ p6 _
    tap := fun _ _ => finite_of_test _ _ p7 _
    bias := fun _ => finite_of_test _ _ p8 _
    lng := fun _ => finite_of_test _ _ p9 _
    lnb := fun _ => finite_of_test _ _ p10 _ }

theorem exists_row (r : Fin 512) : ∃ N t, Cert.SampleIdeal.rowOf N t = r :=
  ⟨⟨r.val / 4, by omega⟩, ⟨r.val % 4, by omega⟩, Fin.ext (by show 4 * (r.val / 4) + r.val % 4 = r.val; omega)⟩

section results

variable (m : (ℓ : Loc Cert.SampleIdeal.nD Cert.SampleIdeal.τ Cert.SampleIdeal.sig) → Buf (Elt Ideal) ℓ)
    (m' : (ℓ : Loc Cert.SampleRefIdeal.nD Cert.SampleRefIdeal.τ Cert.SampleRefIdeal.sig) → Buf (Elt Ideal) ℓ) (hpre : Cert.Pre_SampleIdeal_finite_sample m)
    (c : Dev Cert.SampleIdeal.nD)
    (e0 : m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0))
    (e1 : m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1))
    (e2 : m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2))
    (e3 : m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3))
    (e4 : m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4))
    (e5 : m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5))
    (e6 : m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6))
    (e7 : m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7))
    (e8 : m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8))
    (e9 : m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9))
    (e10 : m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10))

include e0 e1 e2 e3 e4 e5 e6 e7 e8 e9 e10 hpre

/-- The reference's mixed tokens are the kernel's. -/
theorem mixed_eq : Cert.SampleRefIdeal.Read.val_main_v369 (F := Ideal) (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6)) (m' ((c.tc : Thread Cert.SampleRefIdeal.nD Cert.SampleRefIdeal.τ).loc Cert.SampleRefIdeal.main_arg7)) (m' ((c.tc : Thread Cert.SampleRefIdeal.nD Cert.SampleRefIdeal.τ).loc Cert.SampleRefIdeal.main_arg8)) (m' ((c.tc : Thread Cert.SampleRefIdeal.nD Cert.SampleRefIdeal.τ).loc Cert.SampleRefIdeal.main_arg9)) (m' ((c.tc : Thread Cert.SampleRefIdeal.nD Cert.SampleRefIdeal.τ).loc Cert.SampleRefIdeal.main_arg10))
    = (Cert.SampleIdeal.Gen.dats m 0 c).arrAt 11 Cert.SampleIdeal.cfg0.N := by
  rw [e0, e1, e2, e3, e4, e5, e6, e7, e8, e9, e10]
  refine funext fun (i : Cert.SampleIdeal.S512x1024.Idx) => ?_
  obtain ⟨r, k, rfl⟩ : ∃ r k, i = ix2 r k := ⟨i 0, i 1, eq_ix2 i⟩
  obtain ⟨N, t, rfl⟩ := exists_row r
  refine (Cert.SampleRefIdeal.ref_mix (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) N t k).trans ?_
  exact (Cert.SampleIdeal.final11_apply m c (finite_args m hpre c) N t k).symm

/-- The reference's new states are the kernel's. -/
theorem state_eq : Cert.SampleRefIdeal.Read.val_main_v88 (F := Ideal) (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5))
    = (Cert.SampleIdeal.Gen.dats m 0 c).arrAt 12 Cert.SampleIdeal.cfg0.N := by
  rw [e0, e1, e3, e4, e5]
  refine funext fun (i : Cert.SampleIdeal.S128x4x128x128.Idx) => ?_
  obtain ⟨N, h, a, b, rfl⟩ : ∃ N h a b, i = ix4 N h a b := ⟨i 0, i 1, i 2, i 3, eq_ix4 i⟩
  refine (Cert.SampleRefIdeal.ref_state (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) N h a b).trans ?_
  exact (Cert.SampleIdeal.final12_apply m c (finite_args m hpre c) N h a b).symm

/-- The reference's new histories are the kernel's. -/
theorem hist_eq : Cert.SampleRefIdeal.Read.val_main_v370 (F := Ideal) (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4))
    = (Cert.SampleIdeal.Gen.dats m 0 c).arrAt 13 Cert.SampleIdeal.cfg0.N := by
  rw [e0, e2, e3, e4]
  refine funext fun (i : Cert.SampleIdeal.S30x128x512.Idx) => ?_
  obtain ⟨j, N, k, rfl⟩ : ∃ j N k, i = ix3 j N k := ⟨i 0, i 1, i 2, eq_ix3 i⟩
  refine (Cert.SampleRefIdeal.ref_newHist (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) j N k).trans ?_
  exact (Cert.SampleIdeal.final13_apply m c j N k).symm

end results

/-- The value claim of the mixers' call for the sample tokens. -/
theorem algebraic : Cert.algebraic_SampleIdeal_SampleRefIdeal_pre_finite_sample := by
  intro m g m' g' hpre hagree
  refine ⟨fun c => (Cert.SampleIdeal.Gen.dats m 0 c).arrAt 11 Cert.SampleIdeal.cfg0.N, fun c => (Cert.SampleIdeal.Gen.dats m 0 c).arrAt 12 Cert.SampleIdeal.cfg0.N, fun c => (Cert.SampleIdeal.Gen.dats m 0 c).arrAt 13 Cert.SampleIdeal.cfg0.N, Cert.SampleIdeal.Value.run_blocks m g, ?_⟩
  refine (θ_run _ _ _).mono (fun r h c => ?_) (Cert.SampleRefIdeal.Value.run m' g')
  obtain ⟨e0, e1, e2, e3, e4, e5, e6, e7, e8, e9, e10⟩ := hagree c
  obtain ⟨h0, h1, h2, hk⟩ := h c
  exact ⟨(h0.trans (Cert.SampleRefIdeal.Read.val_main_v369_eq _)).trans (mixed_eq m m' hpre c e0 e1 e2 e3 e4 e5 e6 e7 e8 e9 e10),
    (h1.trans (Cert.SampleRefIdeal.Read.val_main_v88_eq _)).trans (state_eq m m' hpre c e0 e1 e2 e3 e4 e5 e6 e7 e8 e9 e10),
    (h2.trans (Cert.SampleRefIdeal.Read.val_main_v370_eq _)).trans (hist_eq m m' hpre c e0 e1 e2 e3 e4 e5 e6 e7 e8 e9 e10), hk⟩

end Cert.Proof.Sample
-- ==== Proof.TailBlock.lean ====
/- The block that the tail call writes at one step of its grid (1024 rows, done as two groups of 512), read at an entry:
   every entry of a row depends on that row of the three blocked arguments and on the weights, by the row function
   `tailRow`. -/
module

public import proofs.«01_k».proof.Proof.Finite
public import proofs.«01_k».proof.Proof.Gen.TailIdeal.Value

@[expose] public section

set_option maxRecDepth 16384

noncomputable section

namespace Mixer

open Idealize.ShloMosaic

/-! ## The tail on one row -/

/-- The residual after the mixers' output projection. -/
def mixedRow (x oc : Row 1024) (wo : Fin 1024 → Row 1024) : Row 1024 := fun j => x j + mulMat oc wo j

/-- A gated hidden layer: `act (h · wg) · (h · wu)`, then times `wd`. -/
def ffnRow {n : ℕ} (act : EReal → EReal) (h : Row 1024) (wg wu : Fin 1024 → Row n) (wd : Fin n → Row 1024) : Row 1024 :=
  mulMat (fun l => act (mulMat h wg l) * mulMat h wu l) wd

/-- The last three steps on a row `x2`: the gate from the normed row, the embedding's projection, the final norm. -/
def gatedRow (x2 : Row 1024) (p : Row 256) (np : Row 1024) (wpg : Fin 1024 → Row 1024) (wpp : Fin 256 → Row 1024)
    (nfin : Row 1024) : Row 1024 :=
  rms (fun j => x2 j + Ideal.logistic (mulMat (rms x2 np) wpg j) * mulMat p wpp j) nfin

/-- The tail of the layer on one row, with `act` for the activation of the hidden layer. -/
def tailRow (act : EReal → EReal) (x oc : Row 1024) (p : Row 256) (wo : Fin 1024 → Row 1024) (nf : Row 1024)
    (wg wu : Fin 1024 → Row 2816) (wd : Fin 2816 → Row 1024) (np : Row 1024) (wpg : Fin 1024 → Row 1024)
    (wpp : Fin 256 → Row 1024) (nfin : Row 1024) : Row 1024 :=
  gatedRow (fun j => mixedRow x oc wo j + ffnRow act (rms (mixedRow x oc wo) nf) wg wu wd j) p np wpg wpp nfin

theorem tailRow_congr (act : EReal → EReal) {x x' : Row 1024} {oc oc' : Row 1024} {p p' : Row 256} {wo wo' : Fin 1024 → Row 1024} {nf nf' : Row 1024} {wg wg' : Fin 1024 → Row 2816} {wu wu' : Fin 1024 → Row 2816} {wd wd' : Fin 2816 → Row 1024} {np np' : Row 1024} {wpg wpg' : Fin 1024 → Row 1024} {wpp wpp' : Fin 256 → Row 1024} {nfin nfin' : Row 1024}
    (h_x : x = x') (h_oc : oc = oc') (h_p : p = p') (h_wo : wo = wo') (h_nf : nf = nf') (h_wg : wg = wg') (h_wu : wu = wu') (h_wd : wd = wd') (h_np : np = np') (h_wpg : wpg = wpg') (h_wpp : wpp = wpp') (h_nfin : nfin = nfin'):
    tailRow act x oc p wo nf wg wu wd np wpg wpp nfin = tailRow act x' oc' p' wo' nf' wg' wu' wd' np' wpg' wpp' nfin' := by
  subst h_x h_oc h_p h_wo h_nf h_wg h_wu h_wd h_np h_wpg h_wpp h_nfin; rfl

/-- The kernel's activation: half the argument times its hyperbolic tangent, plus half the argument. -/
def siluK (x : EReal) : EReal :=
  (Ideal.ofBits .f32 0x3F000000#32 * x) * Ideal.tanh (Ideal.ofBits .f32 0x3F000000#32 * x) + Ideal.ofBits .f32 0x3F000000#32 * x

/-- The `c`-th of the 11 groups of 256 hidden columns. -/
def colGroup (c : Fin 11) (l : Fin 256) : Fin 2816 := ⟨256 * c.val + l.val, by have := c.isLt; have := l.isLt; omega⟩

/-- The hidden layer in 11 groups of columns, summed, is the hidden layer. -/
theorem ffnRow_groups (act : EReal → EReal) (h : Row 1024) (wg wu : Fin 1024 → Row 2816) (wd : Fin 2816 → Row 1024)
    (j : Fin 1024) :
    ∑ c : Fin 11, ffnRow act h (fun k l => wg k (colGroup c l)) (fun k l => wu k (colGroup c l)) (fun l => wd (colGroup c l)) j
      = ffnRow act h wg wu wd j := by
  show ∑ c : Fin 11, ∑ l : Fin 256, (fun m : Fin 2816 => act (mulMat h wg m) * mulMat h wu m * wd m j) (colGroup c l) = _
  rw [← Fintype.sum_prod_type' (fun c l => (fun m : Fin 2816 => act (mulMat h wg m) * mulMat h wu m * wd m j) (colGroup c l))]
  refine (Fintype.sum_equiv (finProdFinEquiv (m := 11) (n := 256)) _
    (fun m : Fin 2816 => act (mulMat h wg m) * mulMat h wu m * wd m j) fun x => ?_)
  congr 1 <;> first | rfl | skip
  all_goals (try congr 1)
  all_goals (first | (exact Fin.ext (by show 256 * x.1.val + x.2.val = x.2.val + 256 * x.1.val; omega)) | skip)

end Mixer

namespace Cert.TailIdeal

open Idealize.ShloMosaic Cert.TailIdeal.Gen Mixer

/-- The norm of each of 512 rows. -/
def rmsV (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 g broadcasts_S1x1024_S512x1024)

theorem rmsV_apply (x : FVec Ideal S512x1024 .f32) (g : FVec Ideal S1x1024 .f32) (r : Fin 512) (j : Fin 1024) :
    rmsV x g (ix2 r j) = rms (fun k => x (ix2 r k)) (fun k => g (ix2 0 k)) j := by
  pointwise [rmsV, rms]

/-- 512 rows times one group of a hidden projection's columns. -/
def colsV (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256) (constant S512x256 .f32 0x00000000#32)

/-- One group of the hidden layer. -/
def ffnV (h : FVec Ideal S512x1024 .bf16) (wg wu : FVec Ideal S1024x256 .bf16) (wd : FVec Ideal S256x1024 .bf16) :
    FVec Ideal S512x1024 .f32 :=
  matmul dot_S512x256_S256x1024_S512x1024_1_0_0_1_n_n none
    (truncf .bf16 (mulf (addf (mulf (mulf (broadcast S512x256 (Scalar.ofBits .f32 0x3F000000#32)) (colsV h wg))
        (tanh (mulf (broadcast S512x256 (Scalar.ofBits .f32 0x3F000000#32)) (colsV h wg))))
        (mulf (broadcast S512x256 (Scalar.ofBits .f32 0x3F000000#32)) (colsV h wg))) (colsV h wu)) bitsLt_bf16_f32)
    (shapeCast S256x1024 wd shapeCasts_S256x1024_S256x1024) (constant S512x1024 .f32 0x00000000#32)

theorem ffnV_apply (h : FVec Ideal S512x1024 .bf16) (wg wu : FVec Ideal S1024x256 .bf16) (wd : FVec Ideal S256x1024 .bf16)
    (r : Fin 512) (j : Fin 1024) :
    ffnV h wg wu wd (ix2 r j)
      = ffnRow siluK (fun k => h (ix2 r k)) (fun k l => wg (ix2 k l)) (fun k l => wu (ix2 k l)) (fun l i => wd (ix2 l i)) j := by
  pointwise [ffnV, colsV, ffnRow, siluK, mulMat]

/-- The residual after the output projection, for 512 rows. -/
def mixedV (x : FVec Ideal S512x1024 .f32) (oc : FVec Ideal S512x1024 .bf16) (wo : FVec Ideal S1024x1024 .bf16) :
    FVec Ideal S512x1024 .f32 :=
  addf (shapeCast S512x1024 x shapeCasts_S512x1024_S512x1024)
    (matmul dot_S512x1024_S1024x1024_S512x1024_1_0_0_1_n_n none (shapeCast S512x1024 oc shapeCasts_S512x1024_S512x1024)
      (shapeCast S1024x1024 wo shapeCasts_S1024x1024_S1024x1024) (constant S512x1024 .f32 0x00000000#32))

theorem mixedV_apply (x : FVec Ideal S512x1024 .f32) (oc : FVec Ideal S512x1024 .bf16) (wo : FVec Ideal S1024x1024 .bf16)
    (r : Fin 512) (j : Fin 1024) :
    mixedV x oc wo (ix2 r j) = mixedRow (fun k => x (ix2 r k)) (fun k => oc (ix2 r k)) (fun k l => wo (ix2 k l)) j := by
  pointwise [mixedV, mixedRow, mulMat]

/-- The residual after the hidden layer: the 11 groups added one after the other, then to the residual. -/
def ffnResV (x1 : FVec Ideal S512x1024 .f32) (h : FVec Ideal S512x1024 .bf16) (wg wu : Fin 11 → FVec Ideal S1024x256 .bf16)
    (wd : Fin 11 → FVec Ideal S256x1024 .bf16) : FVec Ideal S512x1024 .f32 :=
  addf x1 (addf (addf (addf (addf (addf (addf (addf (addf (addf (addf (ffnV h (wg 0) (wu 0) (wd 0)) (ffnV h (wg 1) (wu 1) (wd 1)))
    (ffnV h (wg 2) (wu 2) (wd 2))) (ffnV h (wg 3) (wu 3) (wd 3))) (ffnV h (wg 4) (wu 4) (wd 4))) (ffnV h (wg 5) (wu 5) (wd 5)))
    (ffnV h (wg 6) (wu 6) (wd 6))) (ffnV h (wg 7) (wu 7) (wd 7))) (ffnV h (wg 8) (wu 8) (wd 8))) (ffnV h (wg 9) (wu 9) (wd 9)))
    (ffnV h (wg 10) (wu 10) (wd 10)))

theorem ffnResV_apply (x1 : FVec Ideal S512x1024 .f32) (h : FVec Ideal S512x1024 .bf16) (wg wu : Fin 11 → FVec Ideal S1024x256 .bf16)
    (wd : Fin 11 → FVec Ideal S256x1024 .bf16) (i : S512x1024.Idx) :
    ffnResV x1 h wg wu wd i = x1 i + ∑ c : Fin 11, ffnV h (wg c) (wu c) (wd c) i := by
  simp only [Fin.sum_univ_succ, Fin.sum_univ_zero]
  show x1 i + (((((((((((_ : EReal) + _) + _) + _) + _) + _) + _) + _) + _) + _) + _) = _
  simp only [add_assoc, add_zero]
  rfl

/-- The gate, the embedding's projection and the final norm, for 512 rows. -/
def gatedV (x2 : FVec Ideal S512x1024 .f32) (p : FVec Ideal S512x256 .f32) (np : FVec Ideal S1x1024 .f32)
    (wpg : FVec Ideal S1024x1024 .bf16) (wpp : FVec Ideal S256x1024 .bf16) (nfin : FVec Ideal S1x1024 .f32) :
    FVec Ideal S512x1024 .f32 :=
  rmsV (addf x2 (mulf
    (addf (mulf (broadcast S512x1024 (Scalar.ofBits .f32 0x3F000000#32)) (tanh (mulf (broadcast S512x1024 (Scalar.ofBits .f32 0x3F000000#32))
      (matmul dot_S512x1024_S1024x1024_S512x1024_1_0_0_1_n_n none (truncf .bf16 (rmsV x2 np) bitsLt_bf16_f32)
        (shapeCast S1024x1024 wpg shapeCasts_S1024x1024_S1024x1024) (constant S512x1024 .f32 0x00000000#32)))))
      (broadcast S512x1024 (Scalar.ofBits .f32 0x3F000000#32)))
    (matmul dot_S512x256_S256x1024_S512x1024_1_0_0_1_n_n none (truncf .bf16 (shapeCast S512x256 p shapeCasts_S512x256_S512x256) bitsLt_bf16_f32)
      (shapeCast S256x1024 wpp shapeCasts_S256x1024_S256x1024) (constant S512x1024 .f32 0x00000000#32))))
    (shapeCast S1x1024 nfin shapeCasts_S1x1024_S1x1024)

theorem gatedV_apply (x2 : FVec Ideal S512x1024 .f32) (p : FVec Ideal S512x256 .f32) (np : FVec Ideal S1x1024 .f32)
    (wpg : FVec Ideal S1024x1024 .bf16) (wpp : FVec Ideal S256x1024 .bf16) (nfin : FVec Ideal S1x1024 .f32)
    (r : Fin 512) (j : Fin 1024) :
    gatedV x2 p np wpg wpp nfin (ix2 r j)
      = gatedRow (fun k => x2 (ix2 r k)) (fun k => p (ix2 r k)) (fun k => np (ix2 0 k)) (fun k l => wpg (ix2 k l))
          (fun k l => wpp (ix2 k l)) (fun k => nfin (ix2 0 k)) j := by
  unfold gatedV gatedRow
  rw [rmsV_apply]
  congr 1
  · funext k
    pointwise [mulMat, rmsV_apply]
    rw [sigmoid_tanh]
  · funext k
    pointwise

/-- A group of 512 rows, all of the tail. -/
def groupV (x : FVec Ideal S512x1024 .f32) (oc : FVec Ideal S512x1024 .bf16) (p : FVec Ideal S512x256 .f32)
    (wo : FVec Ideal S1024x1024 .bf16) (nf : FVec Ideal S1x1024 .f32) (wg wu : Fin 11 → FVec Ideal S1024x256 .bf16)
    (wd : Fin 11 → FVec Ideal S256x1024 .bf16) (np : FVec Ideal S1x1024 .f32)
    (wpg : FVec Ideal S1024x1024 .bf16) (wpp : FVec Ideal S256x1024 .bf16) (nfin : FVec Ideal S1x1024 .f32) :
    FVec Ideal S512x1024 .f32 :=
  gatedV (ffnResV (mixedV x oc wo) (truncf .bf16 (rmsV (mixedV x oc wo) nf) bitsLt_bf16_f32) wg wu wd) p np wpg wpp nfin

/-- The 11 groups of columns that the body loads of a hidden projection. -/
def colPieces (w : Vec Ideal S1024x2816 .bf16) : Fin 11 → FVec Ideal S1024x256 .bf16 :=
  ![View.ld w r0_4, View.ld w r0_6, View.ld w r0_8, View.ld w r0_10, View.ld w r0_12, View.ld w r0_14, View.ld w r0_16,
    View.ld w r0_18, View.ld w r0_20, View.ld w r0_22, View.ld w r0_24]

/-- The 11 groups of rows that the body loads of the hidden layer's last matrix. -/
def rowPieces (w : Vec Ideal S2816x1024 .bf16) : Fin 11 → FVec Ideal S256x1024 .bf16 :=
  ![View.ld w r0_5, View.ld w r0_7, View.ld w r0_9, View.ld w r0_11, View.ld w r0_13, View.ld w r0_15, View.ld w r0_17,
    View.ld w r0_19, View.ld w r0_21, View.ld w r0_23, View.ld w r0_25]

/-- The printed block is the two groups of rows, each by `groupV`. -/
theorem block_eq (x0 : Vec Ideal S1024x1024 .f32) (x1 : Vec Ideal S1024x1024 .bf16) (x2 : Vec Ideal S1024x256 .f32)
    (x3 : Vec Ideal S1024x1024 .bf16) (x4 : Vec Ideal S1x1024 .f32) (x5 x6 : Vec Ideal S1024x2816 .bf16)
    (x7 : Vec Ideal S2816x1024 .bf16) (x8 : Vec Ideal S1x1024 .f32) (x9 : Vec Ideal S1024x1024 .bf16)
    (x10 : Vec Ideal S256x1024 .bf16) (x11 : Vec Ideal S1x1024 .f32) :
    Gen.out0_12 (F := Ideal) x0 x1 x2 x3 x4 x5 x6 x7 x8 x9 x10 x11
      = View.canon [⟨r0_2, groupV (View.ld x0 r0_2) (View.ld x1 r0_2) (View.ld x2 r0_28) (View.ld x3 r0_1) (View.ld x4 r0_3)
            (colPieces x5) (colPieces x6) (rowPieces x7) (View.ld x8 r0_3) (View.ld x9 r0_1) (View.ld x10 r0_27) (View.ld x11 r0_3)⟩,
          ⟨r0_0, groupV (View.ld x0 r0_0) (View.ld x1 r0_0) (View.ld x2 r0_26) (View.ld x3 r0_1) (View.ld x4 r0_3)
            (colPieces x5) (colPieces x6) (rowPieces x7) (View.ld x8 r0_3) (View.ld x9 r0_1) (View.ld x10 r0_27) (View.ld x11 r0_3)⟩] := by
  unfold_out out0_12
  rfl

end Cert.TailIdeal
-- ==== Proof.TailValue.lean ====
/- The array that the tail call leaves: its entry (R, j) is the row function `tailRow` at row R of the flattened
   arguments. The block of each point of the grid is rows 1024·t … 1024·t + 1023. -/
module

public import proofs.«01_k».proof.Proof.TailBlock

@[expose] public section

set_option maxRecDepth 16384

noncomputable section

namespace Cert.TailIdeal

open Idealize.ShloMosaic Cert.TailIdeal.Gen Mixer Idealize.ShloMosaic.TcCoe Idealize.SL.Sem
open Idealize.ShloMosaic.Pipeline (Dat)

theorem ld_cols (w : Vec Ideal S1024x2816 .bf16) (o : ℕ) (inb) (k : Fin 1024) (l : Fin 256) :
    View.ld w (Rect.unit (s := S1024x2816) ![0, o] S1024x256.size inb) (ix2 k l)
      = w (ix2 k ⟨o + l.val, lt_of_lt_of_le (Nat.add_lt_add_left l.isLt o) (inb 1)⟩) := by
  refine congrArg w (funext fun a => Fin.ext ?_)
  match a with
  | ⟨0, _⟩ => show 0 + 1 * k.val = k.val; omega
  | ⟨1, _⟩ => show o + 1 * l.val = o + l.val; omega

theorem ld_rows (w : Vec Ideal S2816x1024 .bf16) (o : ℕ) (inb) (l : Fin 256) (j : Fin 1024) :
    View.ld w (Rect.unit (s := S2816x1024) ![o, 0] S256x1024.size inb) (ix2 l j)
      = w (ix2 ⟨o + l.val, lt_of_lt_of_le (Nat.add_lt_add_left l.isLt o) (inb 0)⟩ j) := by
  refine congrArg w (funext fun a => Fin.ext ?_)
  match a with
  | ⟨0, _⟩ => show o + 1 * l.val = o + l.val; omega
  | ⟨1, _⟩ => show 0 + 1 * j.val = j.val; omega

/-- The `c`-th group of columns of a hidden projection, as loaded. -/
theorem colPieces_apply (w : Vec Ideal S1024x2816 .bf16) (c : Fin 11) (k : Fin 1024) (l : Fin 256) :
    colPieces w c (ix2 k l) = w (ix2 k (colGroup c l)) :=
  match c with
  | ⟨0, _⟩ => ld_cols w 0 _ k l
  | ⟨1, _⟩ => ld_cols w 256 _ k l
  | ⟨2, _⟩ => ld_cols w 512 _ k l
  | ⟨3, _⟩ => ld_cols w 768 _ k l
  | ⟨4, _⟩ => ld_cols w 1024 _ k l
  | ⟨5, _⟩ => ld_cols w 1280 _ k l
  | ⟨6, _⟩ => ld_cols w 1536 _ k l
  | ⟨7, _⟩ => ld_cols w 1792 _ k l
  | ⟨8, _⟩ => ld_cols w 2048 _ k l
  | ⟨9, _⟩ => ld_cols w 2304 _ k l
  | ⟨10, _⟩ => ld_cols w 2560 _ k l

/-- The `c`-th group of rows of the hidden layer's last matrix, as loaded. -/
theorem rowPieces_apply (w : Vec Ideal S2816x1024 .bf16) (c : Fin 11) (l : Fin 256) (j : Fin 1024) :
    rowPieces w c (ix2 l j) = w (ix2 (colGroup c l) j) :=
  match c with
  | ⟨0, _⟩ => ld_rows w 0 _ l j
  | ⟨1, _⟩ => ld_rows w 256 _ l j
  | ⟨2, _⟩ => ld_rows w 512 _ l j
  | ⟨3, _⟩ => ld_rows w 768 _ l j
  | ⟨4, _⟩ => ld_rows w 1024 _ l j
  | ⟨5, _⟩ => ld_rows w 1280 _ l j
  | ⟨6, _⟩ => ld_rows w 1536 _ l j
  | ⟨7, _⟩ => ld_rows w 1792 _ l j
  | ⟨8, _⟩ => ld_rows w 2048 _ l j
  | ⟨9, _⟩ => ld_rows w 2304 _ l j
  | ⟨10, _⟩ => ld_rows w 2560 _ l j

/-- A group of rows, read at an entry. -/
theorem groupV_apply (x : FVec Ideal S512x1024 .f32) (oc : FVec Ideal S512x1024 .bf16) (p : FVec Ideal S512x256 .f32)
    (wo : FVec Ideal S1024x1024 .bf16) (nf : FVec Ideal S1x1024 .f32) (wg wu : Vec Ideal S1024x2816 .bf16)
    (wd : Vec Ideal S2816x1024 .bf16) (np : FVec Ideal S1x1024 .f32)
    (wpg : FVec Ideal S1024x1024 .bf16) (wpp : FVec Ideal S256x1024 .bf16) (nfin : FVec Ideal S1x1024 .f32)
    (r : Fin 512) (j : Fin 1024) :
    groupV x oc p wo nf (colPieces wg) (colPieces wu) (rowPieces wd) np wpg wpp nfin (ix2 r j)
      = tailRow siluK (fun k => x (ix2 r k)) (fun k => oc (ix2 r k)) (fun k => p (ix2 r k)) (fun k l => wo (ix2 k l))
          (fun k => nf (ix2 0 k)) (fun k l => wg (ix2 k l)) (fun k l => wu (ix2 k l)) (fun k l => wd (ix2 k l))
          (fun k => np (ix2 0 k)) (fun k l => wpg (ix2 k l)) (fun k l => wpp (ix2 k l)) (fun k => nfin (ix2 0 k)) j := by
  unfold groupV tailRow
  rw [gatedV_apply]
  congr 1
  funext k
  rw [ffnResV_apply, mixedV_apply]
  congr 1
  rw [← ffnRow_groups]
  refine Finset.sum_congr rfl fun c _ => ?_
  rw [ffnV_apply]
  simp only [colPieces_apply, rowPieces_apply]
  congr 1
  funext i
  show rmsV (mixedV x oc wo) nf (ix2 r i) = _
  rw [rmsV_apply]
  simp only [mixedV_apply]

theorem emb_lo (a : Fin 512) (b : Fin 1024) :
    r0_0.emb (ix2 a b) = (ix2 (n0 := 1024) ⟨a.val, by have := a.isLt; omega⟩ b : S1024x1024.Idx) := by
  funext x
  refine Fin.ext ?_
  match x with
  | ⟨0, _⟩ => show 0 + 1 * a.val = a.val; omega
  | ⟨1, _⟩ => show 0 + 1 * b.val = b.val; omega

theorem emb_hi (a : Fin 512) (b : Fin 1024) :
    r0_2.emb (ix2 a b) = (ix2 (n0 := 1024) ⟨512 + a.val, by have := a.isLt; omega⟩ b : S1024x1024.Idx) := by
  funext x
  refine Fin.ext ?_
  match x with
  | ⟨0, _⟩ => show 512 + 1 * a.val = 512 + a.val; omega
  | ⟨1, _⟩ => show 0 + 1 * b.val = b.val; omega

/-- The block of one point of the grid, read at an entry. -/
theorem block_apply (x0 : Vec Ideal S1024x1024 .f32) (x1 : Vec Ideal S1024x1024 .bf16) (x2 : Vec Ideal S1024x256 .f32)
    (x3 : Vec Ideal S1024x1024 .bf16) (x4 : Vec Ideal S1x1024 .f32) (x5 x6 : Vec Ideal S1024x2816 .bf16)
    (x7 : Vec Ideal S2816x1024 .bf16) (x8 : Vec Ideal S1x1024 .f32) (x9 : Vec Ideal S1024x1024 .bf16)
    (x10 : Vec Ideal S256x1024 .bf16) (x11 : Vec Ideal S1x1024 .f32) (r j : Fin 1024) :
    Gen.out0_12 (F := Ideal) x0 x1 x2 x3 x4 x5 x6 x7 x8 x9 x10 x11 (ix2 r j)
      = tailRow siluK (fun k => x0 (ix2 r k)) (fun k => x1 (ix2 r k)) (fun k => x2 (ix2 r k)) (fun k l => x3 (ix2 k l))
          (fun k => x4 (ix2 0 k)) (fun k l => x5 (ix2 k l)) (fun k l => x6 (ix2 k l)) (fun k l => x7 (ix2 k l))
          (fun k => x8 (ix2 0 k)) (fun k l => x9 (ix2 k l)) (fun k l => x10 (ix2 k l)) (fun k => x11 (ix2 0 k)) j := by
  rw [block_eq]
  refine View.canon_apply_of_pieces (Val := Elt Ideal) (e := .f32) (S := S1024x1024) (fun i : S1024x1024.Idx =>
    tailRow siluK (fun k => x0 (ix2 (i 0) k)) (fun k => x1 (ix2 (i 0) k)) (fun k => x2 (ix2 (i 0) k)) (fun k l => x3 (ix2 k l))
          (fun k => x4 (ix2 0 k)) (fun k l => x5 (ix2 k l)) (fun k l => x6 (ix2 k l)) (fun k l => x7 (ix2 k l))
          (fun k => x8 (ix2 0 k)) (fun k l => x9 (ix2 k l)) (fun k l => x10 (ix2 k l)) (fun k => x11 (ix2 0 k)) (i 1)) _ ?_ (ix2 r j) ?_
  · intro p hp
    rcases List.mem_cons.mp hp with rfl | hp
    · intro x
      obtain ⟨a, b, rfl⟩ : ∃ (a : Fin 512) (b : Fin 1024), x = ix2 a b := ⟨x 0, x 1, eq_ix2 x⟩
      show groupV _ _ _ _ _ _ _ _ _ _ _ _ (ix2 a b) = _
      rw [groupV_apply, emb_hi a b]
      pointwise
    · rcases List.mem_cons.mp hp with rfl | hp
      · intro x
        obtain ⟨a, b, rfl⟩ : ∃ (a : Fin 512) (b : Fin 1024), x = ix2 a b := ⟨x 0, x 1, eq_ix2 x⟩
        show groupV _ _ _ _ _ _ _ _ _ _ _ _ (ix2 a b) = _
        rw [groupV_apply, emb_lo a b]
        pointwise
      · exact absurd hp (List.not_mem_nil)
  · by_cases h : r.val < 512
    · refine ⟨_, List.mem_cons_of_mem _ (List.mem_cons_self ..), ?_⟩
      rw [Rect.mem_set_unit]
      intro a
      match a with
      | ⟨0, _⟩ => exact ⟨Nat.zero_le _, by show r.val < 0 + 512; omega⟩
      | ⟨1, _⟩ => exact ⟨Nat.zero_le _, by show j.val < 0 + 1024; omega⟩
    · refine ⟨_, List.mem_cons_self .., ?_⟩
      rw [Rect.mem_set_unit]
      intro a
      match a with
      | ⟨0, _⟩ => exact ⟨by show 512 ≤ r.val; omega, by show r.val < 512 + 512; omega⟩
      | ⟨1, _⟩ => exact ⟨Nat.zero_le _, by show j.val < 0 + 1024; omega⟩

variable (m : (ℓ : Loc nD τ sig) → Buf (Elt Ideal) ℓ)

/-! ## The arrays that the windows read -/

theorem V_v13 (c : Dev nD) : V m c main_v13 = (shapeCast S16384x1024 (m ((c : Thread nD τ).loc main_arg0) : Vec Ideal S8x2048x1024 .f32) shapeCasts_S8x2048x1024_S16384x1024 : Vec Ideal S16384x1024 .f32) := by
  unfold V; after_results; rfl

theorem V_v14 (c : Dev nD) : V m c main_v14 = (shapeCast S16384x1024 (m ((c : Thread nD τ).loc main_arg1) : Vec Ideal S8x2048x1024 .bf16) shapeCasts_S8x2048x1024_S16384x1024 : Vec Ideal S16384x1024 .bf16) := by
  unfold V; after_results; rfl

theorem V_v15 (c : Dev nD) : V m c main_v15 = (shapeCast S16384x256 (m ((c : Thread nD τ).loc main_arg2) : Vec Ideal S1x8x2048x256 .f32) shapeCasts_S1x8x2048x256_S16384x256 : Vec Ideal S16384x256 .f32) := by
  unfold V; after_results; rfl

theorem V_v1 (c : Dev nD) : V m c main_v1 = (truncf .bf16 (shapeCast S1024x1024 (m ((c : Thread nD τ).loc main_arg3) : Vec Ideal S1x1024x1024 .f32) shapeCasts_S1x1024x1024_S1024x1024 : FVec Ideal S1024x1024 .f32) bitsLt_bf16_f32 : FVec Ideal S1024x1024 .bf16) := by
  unfold V; after_results; rfl

theorem V_v3 (c : Dev nD) : V m c main_v3 = (truncf .bf16 (shapeCast S1024x2816 (m ((c : Thread nD τ).loc main_arg5) : Vec Ideal S1x1024x2816 .f32) shapeCasts_S1x1024x2816_S1024x2816 : FVec Ideal S1024x2816 .f32) bitsLt_bf16_f32 : FVec Ideal S1024x2816 .bf16) := by
  unfold V; after_results; rfl

theorem V_v5 (c : Dev nD) : V m c main_v5 = (truncf .bf16 (shapeCast S1024x2816 (m ((c : Thread nD τ).loc main_arg6) : Vec Ideal S1x1024x2816 .f32) shapeCasts_S1x1024x2816_S1024x2816 : FVec Ideal S1024x2816 .f32) bitsLt_bf16_f32 : FVec Ideal S1024x2816 .bf16) := by
  unfold V; after_results; rfl

theorem V_v7 (c : Dev nD) : V m c main_v7 = (truncf .bf16 (shapeCast S2816x1024 (m ((c : Thread nD τ).loc main_arg7) : Vec Ideal S1x2816x1024 .f32) shapeCasts_S1x2816x1024_S2816x1024 : FVec Ideal S2816x1024 .f32) bitsLt_bf16_f32 : FVec Ideal S2816x1024 .bf16) := by
  unfold V; after_results; rfl

theorem V_v9 (c : Dev nD) : V m c main_v9 = (truncf .bf16 (shapeCast S1024x1024 (m ((c : Thread nD τ).loc main_arg9) : Vec Ideal S1x1024x1024 .f32) shapeCasts_S1x1024x1024_S1024x1024 : FVec Ideal S1024x1024 .f32) bitsLt_bf16_f32 : FVec Ideal S1024x1024 .bf16) := by
  unfold V; after_results; rfl

theorem V_v11 (c : Dev nD) : V m c main_v11 = (truncf .bf16 (shapeCast S256x1024 (m ((c : Thread nD τ).loc main_arg10) : Vec Ideal S1x256x1024 .f32) shapeCasts_S1x256x1024_S256x1024 : FVec Ideal S256x1024 .f32) bitsLt_bf16_f32 : FVec Ideal S256x1024 .bf16) := by
  unfold V; after_results; rfl

theorem V_v12 (c : Dev nD) : V m c main_v12 = (shapeCast S1x1024 (m ((c : Thread nD τ).loc main_arg11) : Vec Ideal S1024 .f32) shapeCasts_S1024_S1x1024 : Vec Ideal S1x1024 .f32) := by
  unfold V; after_results; rfl

theorem index0_0 : ∀ t : Fin grid0.N, win0_0.index t 0 = t.val := by decide +kernel
theorem index0_1 (t : Fin grid0.N) : win0_1.index t 0 = t.val := (show win0_1.index t 0 = win0_0.index t 0 from rfl).trans (index0_0 t)
theorem index0_2 (t : Fin grid0.N) : win0_2.index t 0 = t.val := (show win0_2.index t 0 = win0_0.index t 0 from rfl).trans (index0_0 t)

theorem iblk0_apply (c : Dev nD) (t : Fin cfg0.N) (r : Fin 1024) (k : Fin 1024) :
    iblk m c 0 t (ix2 r k) = V m c main_v13 (ix2 (n0 := 16384) ⟨1024 * t.val + r.val, by have h : t.val < 16 := t.isLt; omega⟩ k) := by
  have h : t.val < 16 := t.isLt
  show V m c main_v13 _ = _
  refine congrArg (V m c main_v13) (funext fun a => Fin.ext ?_)
  refine ((cfg0.win 0).rect_emb_val t (ix2 r k) a).trans ?_
  match a with
  | ⟨0, _⟩ => show win0_0.index t 0 * 1024 + r.val = 1024 * t.val + r.val; rw [index0_0]; omega
  | ⟨1, _⟩ => show 0 * 1024 + k.val = k.val; omega

theorem iblk1_apply (c : Dev nD) (t : Fin cfg0.N) (r : Fin 1024) (k : Fin 1024) :
    iblk m c 1 t (ix2 r k) = V m c main_v14 (ix2 (n0 := 16384) ⟨1024 * t.val + r.val, by have h : t.val < 16 := t.isLt; omega⟩ k) := by
  have h : t.val < 16 := t.isLt
  show V m c main_v14 _ = _
  refine congrArg (V m c main_v14) (funext fun a => Fin.ext ?_)
  refine ((cfg0.win 1).rect_emb_val t (ix2 r k) a).trans ?_
  match a with
  | ⟨0, _⟩ => show win0_1.index t 0 * 1024 + r.val = 1024 * t.val + r.val; rw [index0_1]; omega
  | ⟨1, _⟩ => show 0 * 1024 + k.val = k.val; omega

theorem iblk2_apply (c : Dev nD) (t : Fin cfg0.N) (r : Fin 1024) (k : Fin 256) :
    iblk m c 2 t (ix2 r k) = V m c main_v15 (ix2 (n0 := 16384) ⟨1024 * t.val + r.val, by have h : t.val < 16 := t.isLt; omega⟩ k) := by
  have h : t.val < 16 := t.isLt
  show V m c main_v15 _ = _
  refine congrArg (V m c main_v15) (funext fun a => Fin.ext ?_)
  refine ((cfg0.win 2).rect_emb_val t (ix2 r k) a).trans ?_
  match a with
  | ⟨0, _⟩ => show win0_2.index t 0 * 1024 + r.val = 1024 * t.val + r.val; rw [index0_2]; omega
  | ⟨1, _⟩ => show 0 * 256 + k.val = k.val; omega

theorem iblk3_apply (c : Dev nD) (t : Fin cfg0.N) (i : Fin 1024) (k : Fin 1024) :
    iblk m c 3 t (ix2 i k) = V m c main_v1 (ix2 i k) := by
  show V m c main_v1 _ = _
  refine congrArg (V m c main_v1) (funext fun x => Fin.ext ?_)
  exact ((cfg0.win 3).rect_emb_val_of_index_zero t x (by match x with | ⟨0, _⟩ => rfl | ⟨1, _⟩ => rfl) (ix2 i k))

theorem iblk4_apply (c : Dev nD) (t : Fin cfg0.N) (i : Fin 1) (k : Fin 1024) :
    iblk m c 4 t (ix2 i k) = V m c main_arg4 (ix2 i k) := by
  show V m c main_arg4 _ = _
  refine congrArg (V m c main_arg4) (funext fun x => Fin.ext ?_)
  exact ((cfg0.win 4).rect_emb_val_of_index_zero t x (by match x with | ⟨0, _⟩ => rfl | ⟨1, _⟩ => rfl) (ix2 i k))

theorem iblk5_apply (c : Dev nD) (t : Fin cfg0.N) (i : Fin 1024) (k : Fin 2816) :
    iblk m c 5 t (ix2 i k) = V m c main_v3 (ix2 i k) := by
  show V m c main_v3 _ = _
  refine congrArg (V m c main_v3) (funext fun x => Fin.ext ?_)
  exact ((cfg0.win 5).rect_emb_val_of_index_zero t x (by match x with | ⟨0, _⟩ => rfl | ⟨1, _⟩ => rfl) (ix2 i k))

theorem iblk6_apply (c : Dev nD) (t : Fin cfg0.N) (i : Fin 1024) (k : Fin 2816) :
    iblk m c 6 t (ix2 i k) = V m c main_v5 (ix2 i k) := by
  show V m c main_v5 _ = _
  refine congrArg (V m c main_v5) (funext fun x => Fin.ext ?_)
  exact ((cfg0.win 6).rect_emb_val_of_index_zero t x (by match x with | ⟨0, _⟩ => rfl | ⟨1, _⟩ => rfl) (ix2 i k))

theorem iblk7_apply (c : Dev nD) (t : Fin cfg0.N) (i : Fin 2816) (k : Fin 1024) :
    iblk m c 7 t (ix2 i k) = V m c main_v7 (ix2 i k) := by
  show V m c main_v7 _ = _
  refine congrArg (V m c main_v7) (funext fun x => Fin.ext ?_)
  exact ((cfg0.win 7).rect_emb_val_of_index_zero t x (by match x with | ⟨0, _⟩ => rfl | ⟨1, _⟩ => rfl) (ix2 i k))

theorem iblk8_apply (c : Dev nD) (t : Fin cfg0.N) (i : Fin 1) (k : Fin 1024) :
    iblk m c 8 t (ix2 i k) = V m c main_arg8 (ix2 i k) := by
  show V m c main_arg8 _ = _
  refine congrArg (V m c main_arg8) (funext fun x => Fin.ext ?_)
  exact ((cfg0.win 8).rect_emb_val_of_index_zero t x (by match x with | ⟨0, _⟩ => rfl | ⟨1, _⟩ => rfl) (ix2 i k))

theorem iblk9_apply (c : Dev nD) (t : Fin cfg0.N) (i : Fin 1024) (k : Fin 1024) :
    iblk m c 9 t (ix2 i k) = V m c main_v9 (ix2 i k) := by
  show V m c main_v9 _ = _
  refine congrArg (V m c main_v9) (funext fun x => Fin.ext ?_)
  exact ((cfg0.win 9).rect_emb_val_of_index_zero t x (by match x with | ⟨0, _⟩ => rfl | ⟨1, _⟩ => rfl) (ix2 i k))

theorem iblk10_apply (c : Dev nD) (t : Fin cfg0.N) (i : Fin 256) (k : Fin 1024) :
    iblk m c 10 t (ix2 i k) = V m c main_v11 (ix2 i k) := by
  show V m c main_v11 _ = _
  refine congrArg (V m c main_v11) (funext fun x => Fin.ext ?_)
  exact ((cfg0.win 10).rect_emb_val_of_index_zero t x (by match x with | ⟨0, _⟩ => rfl | ⟨1, _⟩ => rfl) (ix2 i k))

theorem iblk11_apply (c : Dev nD) (t : Fin cfg0.N) (i : Fin 1) (k : Fin 1024) :
    iblk m c 11 t (ix2 i k) = V m c main_v12 (ix2 i k) := by
  show V m c main_v12 _ = _
  refine congrArg (V m c main_v12) (funext fun x => Fin.ext ?_)
  exact ((cfg0.win 11).rect_emb_val_of_index_zero t x (by match x with | ⟨0, _⟩ => rfl | ⟨1, _⟩ => rfl) (ix2 i k))

/-! ## The result array -/

/-- The tail of the layer on the whole arrays: entry `j` of row `R`, with `act` for the hidden layer's activation. -/
def tailSpec (act : EReal → EReal) (x : Vec Ideal S16384x1024 .f32) (oc : Vec Ideal S16384x1024 .bf16) (p : Vec Ideal S16384x256 .f32)
    (wo : Vec Ideal S1024x1024 .f32) (nf : Vec Ideal S1x1024 .f32) (wg wu : Vec Ideal S1024x2816 .f32) (wd : Vec Ideal S2816x1024 .f32)
    (np : Vec Ideal S1x1024 .f32) (wpg : Vec Ideal S1024x1024 .f32) (wpp : Vec Ideal S256x1024 .f32) (nfin : Vec Ideal S1x1024 .f32)
    (R : Fin 16384) (j : Fin 1024) : EReal :=
  tailRow act (fun k => x (ix2 R k)) (fun k => oc (ix2 R k)) (fun k => p (ix2 R k)) (fun k l => wo (ix2 k l))
    (fun k => nf (ix2 0 k)) (fun k l => wg (ix2 k l)) (fun k l => wu (ix2 k l)) (fun k l => wd (ix2 k l))
    (fun k => np (ix2 0 k)) (fun k l => wpg (ix2 k l)) (fun k l => wpp (ix2 k l)) (fun k => nfin (ix2 0 k)) j

/-- What the kernel computes, as a function of the arguments of the program. -/
def kernelSpec (c : Dev nD) (act : EReal → EReal) (R : Fin 16384) (j : Fin 1024) : EReal :=
  tailSpec act (shapeCast S16384x1024 (m ((c : Thread nD τ).loc main_arg0) : Vec Ideal S8x2048x1024 .f32) shapeCasts_S8x2048x1024_S16384x1024)
    (shapeCast S16384x1024 (m ((c : Thread nD τ).loc main_arg1) : Vec Ideal S8x2048x1024 .bf16) shapeCasts_S8x2048x1024_S16384x1024)
    (shapeCast S16384x256 (m ((c : Thread nD τ).loc main_arg2) : Vec Ideal S1x8x2048x256 .f32) shapeCasts_S1x8x2048x256_S16384x256)
    (shapeCast S1024x1024 (m ((c : Thread nD τ).loc main_arg3) : Vec Ideal S1x1024x1024 .f32) shapeCasts_S1x1024x1024_S1024x1024)
    (m ((c : Thread nD τ).loc main_arg4))
    (shapeCast S1024x2816 (m ((c : Thread nD τ).loc main_arg5) : Vec Ideal S1x1024x2816 .f32) shapeCasts_S1x1024x2816_S1024x2816)
    (shapeCast S1024x2816 (m ((c : Thread nD τ).loc main_arg6) : Vec Ideal S1x1024x2816 .f32) shapeCasts_S1x1024x2816_S1024x2816)
    (shapeCast S2816x1024 (m ((c : Thread nD τ).loc main_arg7) : Vec Ideal S1x2816x1024 .f32) shapeCasts_S1x2816x1024_S2816x1024)
    (m ((c : Thread nD τ).loc main_arg8))
    (shapeCast S1024x1024 (m ((c : Thread nD τ).loc main_arg9) : Vec Ideal S1x1024x1024 .f32) shapeCasts_S1x1024x1024_S1024x1024)
    (shapeCast S256x1024 (m ((c : Thread nD τ).loc main_arg10) : Vec Ideal S1x256x1024 .f32) shapeCasts_S1x256x1024_S256x1024)
    (shapeCast S1x1024 (m ((c : Thread nD τ).loc main_arg11) : Vec Ideal S1024 .f32) shapeCasts_S1024_S1x1024)
    R j

/-- The row of the arrays that local row `r` of the block at point `t` is. -/
def rowOf (t : Fin cfg0.N) (r : Fin 1024) : Fin 16384 := ⟨1024 * t.val + r.val, by have h : t.val < 16 := t.isLt; omega⟩

/-- What a point of the grid writes back, entry by entry. -/
theorem flushed_apply (c : Dev nD) (t : Fin cfg0.N) (r j : Fin 1024) :
    Gen.out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r j)
      = kernelSpec m c siluK (rowOf t r) j := by
  refine (block_apply _ _ _ _ _ _ _ _ _ _ _ _ r j).trans ?_
  unfold kernelSpec tailSpec
  refine congrFun (tailRow_congr siluK ?_ ?_ ?_ ?_ ?_ ?_ ?_ ?_ ?_ ?_ ?_ ?_) j
  · funext k; rw [iblk0_apply, V_v13]; rfl
  · funext k; rw [iblk1_apply, V_v14]; rfl
  · funext k; rw [iblk2_apply, V_v15]; rfl
  · funext k l; rw [iblk3_apply, V_v1]; rfl
  · funext k; rw [iblk4_apply, V_main_arg4]
  · funext k l; rw [iblk5_apply, V_v3]; rfl
  · funext k l; rw [iblk6_apply, V_v5]; rfl
  · funext k l; rw [iblk7_apply, V_v7]; rfl
  · funext k; rw [iblk8_apply, V_main_arg8]
  · funext k l; rw [iblk9_apply, V_v9]; rfl
  · funext k l; rw [iblk10_apply, V_v11]; rfl
  · funext k; rw [iblk11_apply, V_v12]

theorem emb12 (t : Fin cfg0.N) (r j : Fin 1024) :
    ((cfg0.win 12).blk t).view.emb (ix2 r j : S1024x1024.Idx) = (ix2 (rowOf t r) j : S16384x1024.Idx) := by
  funext a
  refine Fin.ext ?_
  refine ((cfg0.win 12).rect_emb_val t (ix2 r j) a).trans ?_
  match a with
  | ⟨0, _⟩ =>
    show win0_12.index t 0 * 1024 + r.val = 1024 * t.val + r.val
    rw [show win0_12.index t 0 = win0_0.index t 0 from rfl, index0_0]
    omega
  | ⟨1, _⟩ => show 0 * 1024 + j.val = j.val; omega

theorem cut12 (t : Fin cfg0.N) (w : Vec Ideal S1024x1024 .f32) (y : S1024x1024.Idx) :
    (cfg0.win 12).cut (grid0.coords t) w y = w y := rfl

theorem final_at0 (c : Dev nD) (t : Fin cfg0.N) (r j : Fin 1024) :
    ((dats m 0 c).arrAt 12 cfg0.N : Vec Ideal S16384x1024 .f32) (((cfg0.win 12).blk t).view.emb (ix2 r j : S1024x1024.Idx)) = (dats m 0 c).flushed 12 t (ix2 r j : S1024x1024.Idx) :=
  (dats m 0 c).arrAt_emb_eq_flushed 12 (Value.disjoint12) t (flush0_12 t) (ix2 r j : S1024x1024.Idx)

theorem final_at1 (c : Dev nD) (t : Fin cfg0.N) (r j : Fin 1024) :
    (dats m 0 c).flushed 12 t (ix2 r j : S1024x1024.Idx) =     Gen.out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r j) := by
  refine (congrFun (Value.flushed12 m c t) (ix2 r j : S1024x1024.Idx)).trans ?_
  generalize Gen.out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) = w
  rfl

/-- The result array at a row of the block of point `t`. -/
theorem final_at (c : Dev nD) (t : Fin cfg0.N) (r j : Fin 1024) :
    ((dats m 0 c).arrAt 12 cfg0.N : Vec Ideal S16384x1024 .f32) (ix2 (rowOf t r) j) = kernelSpec m c siluK (rowOf t r) j := by
  rw [← flushed_apply m c t r j, ← emb12 t r j]
  exact (final_at0 m c t r j).trans (final_at1 m c t r j)

theorem exists_rowOf (R : Fin 16384) : ∃ t r, rowOf t r = R :=
  ⟨⟨R.val / 1024, show R.val / 1024 < 16 by have := R.isLt; omega⟩, ⟨R.val % 1024, Nat.mod_lt _ (by norm_num)⟩,
    Fin.ext (by show 1024 * (R.val / 1024) + R.val % 1024 = R.val; omega)⟩

/-- The result array, entry by entry. -/
theorem final_apply (c : Dev nD) (R : Fin 16384) (j : Fin 1024) :
    ((dats m 0 c).arrAt 12 cfg0.N : Vec Ideal S16384x1024 .f32) (ix2 R j) = kernelSpec m c siluK R j := by
  obtain ⟨t, r, rfl⟩ := exists_rowOf R
  exact final_at m c t r j

end Cert.TailIdeal
-- ==== Proof.TailRef.lean ====
/- The reference of the tail call read at an entry: entry (R, j) is the row function `tailRow`, with `x · logistic x` for
   the activation, at row R of the flattened arguments. -/
module

public import proofs.«01_k».proof.Proof.TailBlock
public import proofs.«01_k».proof.Proof.Gen.TailRefIdeal.Read

@[expose] public section

set_option maxRecDepth 16384

noncomputable section

namespace Cert.TailRefIdeal

open Idealize.ShloMosaic Cert.TailRefIdeal.Gen Cert.TailRefIdeal.Read Mixer

variable (x0 : Vec Ideal S8x2048x1024 .f32) (x1 : Vec Ideal S8x2048x1024 .bf16) (x2 : Vec Ideal S1x8x2048x256 .f32) (x3 : Vec Ideal S1x1024x1024 .f32) (x4 : Vec Ideal S1x1024 .f32) (x5 : Vec Ideal S1x1024x2816 .f32) (x6 : Vec Ideal S1x1024x2816 .f32) (x7 : Vec Ideal S1x2816x1024 .f32) (x8 : Vec Ideal S1x1024 .f32) (x9 : Vec Ideal S1x1024x1024 .f32) (x10 : Vec Ideal S1x256x1024 .f32) (x11 : Vec Ideal S1024 .f32)

/-- The activation as the reference writes it. -/
def silu (x : EReal) : EReal := x * Ideal.logistic x

theorem ref_mixed (R : Fin 16384) (j : Fin 1024) :
    val_main_v5 (F := Ideal) x0 x1 x3 (ix2 R j)
      = mixedRow (fun k => val_main_v0 (F := Ideal) x0 (ix2 R k)) (fun k => val_main_v1 (F := Ideal) x1 (ix2 R k)) (fun k l => val_main_v3 (F := Ideal) x3 (ix2 k l)) j := by
  unfold val_main_v5 val_main_v4 val_main_v2
  generalize val_main_v0 (F := Ideal) x0 = y0
  generalize val_main_v1 (F := Ideal) x1 = y1
  generalize val_main_v3 (F := Ideal) x3 = y3
  pointwise [mixedRow, mulMat]

theorem ref_norm1 (R : Fin 16384) (j : Fin 1024) :
    val_main_v19 (F := Ideal) x0 x1 x3 x4 (ix2 R j)
      = rms (fun k => val_main_v5 (F := Ideal) x0 x1 x3 (ix2 R k)) (fun k => x4 (ix2 0 k)) j := by
  unfold val_main_v19 val_main_v18 val_main_v17 val_main_v16 val_main_v15 val_main_v14 val_main_v13 val_main_v12 val_main_v11 val_main_v10 val_main_v9 val_main_v8 val_main_v7 val_main_v6
  generalize val_main_v5 (F := Ideal) x0 x1 x3 = y
  pointwise [rms, val_main_cst, val_main_cst_0, val_main_cst_1]

theorem ref_hidden (R : Fin 16384) (l : Fin 2816) :
    val_main_v25 (F := Ideal) x0 x1 x3 x4 x5 x6 (ix2 R l)
      = silu (mulMat (fun k => val_main_v19 (F := Ideal) x0 x1 x3 x4 (ix2 R k)) (fun k n => val_main_v20 (F := Ideal) x5 (ix2 k n)) l)
        * mulMat (fun k => val_main_v19 (F := Ideal) x0 x1 x3 x4 (ix2 R k)) (fun k n => val_main_v23 (F := Ideal) x6 (ix2 k n)) l := by
  unfold val_main_v25 val_main_v24 val_main_v22 val_main_call0_v5 val_main_call0_v4 val_main_call0_v3 val_main_call0_v2 val_main_call0_v1 val_main_call0_v0 val_main_v21
  generalize val_main_v19 (F := Ideal) x0 x1 x3 x4 = y
  generalize val_main_v20 (F := Ideal) x5 = y5
  generalize val_main_v23 (F := Ideal) x6 = y6
  pointwise [silu, mulMat, val_main_call0_cst, val_main_call0_cst_0]
  rfl

theorem ref_ffn (R : Fin 16384) (j : Fin 1024) :
    val_main_v28 (F := Ideal) x0 x1 x3 x4 x5 x6 x7 (ix2 R j)
      = val_main_v5 (F := Ideal) x0 x1 x3 (ix2 R j) + mulMat (fun l => val_main_v25 (F := Ideal) x0 x1 x3 x4 x5 x6 (ix2 R l)) (fun l n => val_main_v26 (F := Ideal) x7 (ix2 l n)) j := by
  unfold val_main_v28 val_main_v27
  generalize val_main_v25 (F := Ideal) x0 x1 x3 x4 x5 x6 = y
  generalize val_main_v26 (F := Ideal) x7 = y7
  generalize val_main_v5 (F := Ideal) x0 x1 x3 = y5
  pointwise [mulMat]

theorem ref_norm2 (R : Fin 16384) (j : Fin 1024) :
    val_main_v42 (F := Ideal) x0 x1 x3 x4 x5 x6 x7 x8 (ix2 R j)
      = rms (fun k => val_main_v28 (F := Ideal) x0 x1 x3 x4 x5 x6 x7 (ix2 R k)) (fun k => x8 (ix2 0 k)) j := by
  unfold val_main_v42 val_main_v41 val_main_v40 val_main_v39 val_main_v38 val_main_v37 val_main_v36 val_main_v35 val_main_v34 val_main_v33 val_main_v32 val_main_v31 val_main_v30 val_main_v29
  generalize val_main_v28 (F := Ideal) x0 x1 x3 x4 x5 x6 x7 = y
  pointwise [rms, val_main_cst_2, val_main_cst_3, val_main_cst_4]

theorem ref_gate (R : Fin 16384) (j : Fin 1024) :
    val_main_v50 (F := Ideal) x0 x1 x3 x4 x5 x6 x7 x8 x9 (ix2 R j)
      = Ideal.logistic (mulMat (fun k => val_main_v42 (F := Ideal) x0 x1 x3 x4 x5 x6 x7 x8 (ix2 R k)) (fun k n => val_main_v43 (F := Ideal) x9 (ix2 k n)) j) := by
  unfold val_main_v50 val_main_v49 val_main_v48 val_main_v47 val_main_v46 val_main_v45 val_main_v44
  generalize val_main_v42 (F := Ideal) x0 x1 x3 x4 x5 x6 x7 x8 = y
  generalize val_main_v43 (F := Ideal) x9 = y9
  pointwise [mulMat, val_main_cst_5, val_main_cst_6]
  rfl

theorem ref_gated (R : Fin 16384) (j : Fin 1024) :
    val_main_v55 (F := Ideal) x0 x1 x2 x3 x4 x5 x6 x7 x8 x9 x10 (ix2 R j)
      = val_main_v28 (F := Ideal) x0 x1 x3 x4 x5 x6 x7 (ix2 R j) + val_main_v50 (F := Ideal) x0 x1 x3 x4 x5 x6 x7 x8 x9 (ix2 R j)
        * mulMat (fun k => val_main_v51 (F := Ideal) x2 (ix2 R k)) (fun k n => val_main_v52 (F := Ideal) x10 (ix2 k n)) j := by
  unfold val_main_v55 val_main_v54 val_main_v53
  generalize val_main_v28 (F := Ideal) x0 x1 x3 x4 x5 x6 x7 = y
  generalize val_main_v50 (F := Ideal) x0 x1 x3 x4 x5 x6 x7 x8 x9 = z
  generalize val_main_v51 (F := Ideal) x2 = y2
  generalize val_main_v52 (F := Ideal) x10 = y10
  pointwise [mulMat]

theorem ref_final (R : Fin 16384) (j : Fin 1024) :
    val_main_v68 (F := Ideal) x0 x1 x2 x3 x4 x5 x6 x7 x8 x9 x10 x11 (ix2 R j)
      = rms (fun k => val_main_v55 (F := Ideal) x0 x1 x2 x3 x4 x5 x6 x7 x8 x9 x10 (ix2 R k)) (fun k => x11 (ix1 k)) j := by
  unfold val_main_v68 val_main_v67 val_main_v66 val_main_v65 val_main_v64 val_main_v63 val_main_v62 val_main_v61 val_main_v60 val_main_v59 val_main_v58 val_main_v57 val_main_v56
  generalize val_main_v55 (F := Ideal) x0 x1 x2 x3 x4 x5 x6 x7 x8 x9 x10 = y
  pointwise [rms, val_main_cst_7, val_main_cst_8, val_main_cst_9]

/-- Entry (R, j) of the reference's result. -/
theorem ref_apply (R : Fin 16384) (j : Fin 1024) :
    val_main_v68 (F := Ideal) x0 x1 x2 x3 x4 x5 x6 x7 x8 x9 x10 x11 (ix2 R j)
      = tailRow silu (fun k => val_main_v0 (F := Ideal) x0 (ix2 R k)) (fun k => val_main_v1 (F := Ideal) x1 (ix2 R k))
          (fun k => val_main_v51 (F := Ideal) x2 (ix2 R k)) (fun k n => val_main_v3 (F := Ideal) x3 (ix2 k n)) (fun k => x4 (ix2 0 k))
          (fun k n => val_main_v20 (F := Ideal) x5 (ix2 k n)) (fun k n => val_main_v23 (F := Ideal) x6 (ix2 k n))
          (fun k n => val_main_v26 (F := Ideal) x7 (ix2 k n)) (fun k => x8 (ix2 0 k)) (fun k n => val_main_v43 (F := Ideal) x9 (ix2 k n))
          (fun k n => val_main_v52 (F := Ideal) x10 (ix2 k n)) (fun k => x11 (ix1 k)) j := by
  rw [ref_final]
  simp only [ref_gated, ref_gate, ref_norm2, ref_ffn, ref_hidden, ref_norm1, ref_mixed]
  rfl

end Cert.TailRefIdeal
-- ==== Proof.TailClaim.lean ====
/- The tail call against its reference: from finite arguments the two leave the same array. -/
module

public import proofs.«01_k».proof.Defs
public import proofs.«01_k».proof.Proof.Precondition
public import proofs.«01_k».proof.Proof.TailValue
public import proofs.«01_k».proof.Proof.TailRef
public import proofs.«01_k».proof.Proof.Gen.Pre_finite_tail
public import proofs.«01_k».proof.Proof.Gen.TailRefIdeal

@[expose] public section

set_option maxRecDepth 16384

noncomputable section

namespace Mixer

open Idealize.ShloMosaic

/-- On finite rows the kernel's activation may be replaced by `x · logistic x`: the hidden layer's argument is finite. -/
theorem tailRow_act {x oc : Row 1024} {p : Row 256} {wo : Fin 1024 → Row 1024} {nf : Row 1024} {wg wu : Fin 1024 → Row 2816}
    {wd : Fin 2816 → Row 1024} {np : Row 1024} {wpg : Fin 1024 → Row 1024} {wpp : Fin 256 → Row 1024} {nfin : Row 1024}
    (hx : ∀ k, IsReal (x k)) (hoc : ∀ k, IsReal (oc k)) (hwo : ∀ k l, IsReal (wo k l)) (hnf : ∀ k, IsReal (nf k))
    (hwg : ∀ k l, IsReal (wg k l)) :
    tailRow siluK x oc p wo nf wg wu wd np wpg wpp nfin
      = tailRow Cert.TailRefIdeal.silu x oc p wo nf wg wu wd np wpg wpp nfin := by
  have h1 : ∀ k, IsReal (mixedRow x oc wo k) := fun k => (hx k).add (IsReal.mulMat hoc hwo k)
  have h2 : ∀ k, IsReal (rms (mixedRow x oc wo) nf k) := IsReal.rms h1 hnf
  have h3 : ffnRow siluK (rms (mixedRow x oc wo) nf) wg wu wd = ffnRow Cert.TailRefIdeal.silu (rms (mixedRow x oc wo) nf) wg wu wd := by
    unfold ffnRow
    congr 1
    funext l
    rw [show siluK (mulMat (rms (mixedRow x oc wo) nf) wg l) = Cert.TailRefIdeal.silu (mulMat (rms (mixedRow x oc wo) nf) wg l) from
      silu_tanh (IsReal.mulMat h2 hwg l)]
  unfold tailRow
  rw [h3]

end Mixer

namespace Cert.Proof.Tail

open Idealize.ShloMosaic Idealize.SL.Sem Mixer

/-- What the kernel computes is the reference's row function, when the arguments are finite. -/
theorem kernel_eq (m : (ℓ : Loc Cert.TailIdeal.nD Cert.TailIdeal.τ Cert.TailIdeal.sig) → Buf (Elt Ideal) ℓ) (hpre : Cert.Pre_TailIdeal_finite_tail m)
    (c : Dev Cert.TailIdeal.nD) (R : Fin 16384) (j : Fin 1024) :
    Cert.TailIdeal.kernelSpec m c siluK R j = Cert.TailIdeal.kernelSpec m c Cert.TailRefIdeal.silu R j := by
  obtain ⟨p0, p1, p2, p3, p4, p5, p6, p7, p8, p9, p10, p11⟩ := hpre c
  have h0 := finite_of_test _ _ p0
  have h1 := finite_of_test _ _ p1
  have h3 := finite_of_test _ _ p3
  have h4 := finite_of_test _ _ p4
  have h5 := finite_of_test _ _ p5
  unfold Cert.TailIdeal.kernelSpec Cert.TailIdeal.tailSpec
  exact congrFun (tailRow_act (fun _ => h0 _) (fun _ => h1 _) (fun _ _ => h3 _) (fun _ => h4 _) (fun _ _ => h5 _)) j

/-- The reference's array is the kernel's. -/
theorem result_eq (m : (ℓ : Loc Cert.TailIdeal.nD Cert.TailIdeal.τ Cert.TailIdeal.sig) → Buf (Elt Ideal) ℓ)
    (m' : (ℓ : Loc Cert.TailRefIdeal.nD Cert.TailRefIdeal.τ Cert.TailRefIdeal.sig) → Buf (Elt Ideal) ℓ) (hpre : Cert.Pre_TailIdeal_finite_tail m)
    (c : Dev Cert.TailIdeal.nD)
    (e0 : m' ((c.tc : Thread Cert.TailRefIdeal.nD Cert.TailRefIdeal.τ).loc Cert.TailRefIdeal.main_arg0) = m ((c.tc : Thread Cert.TailIdeal.nD Cert.TailIdeal.τ).loc Cert.TailIdeal.main_arg0))
    (e1 : m' ((c.tc : Thread Cert.TailRefIdeal.nD Cert.TailRefIdeal.τ).loc Cert.TailRefIdeal.main_arg1) = m ((c.tc : Thread Cert.TailIdeal.nD Cert.TailIdeal.τ).loc Cert.TailIdeal.main_arg1))
    (e2 : m' ((c.tc : Thread Cert.TailRefIdeal.nD Cert.TailRefIdeal.τ).loc Cert.TailRefIdeal.main_arg2) = m ((c.tc : Thread Cert.TailIdeal.nD Cert.TailIdeal.τ).loc Cert.TailIdeal.main_arg2))
    (e3 : m' ((c.tc : Thread Cert.TailRefIdeal.nD Cert.TailRefIdeal.τ).loc Cert.TailRefIdeal.main_arg3) = m ((c.tc : Thread Cert.TailIdeal.nD Cert.TailIdeal.τ).loc Cert.TailIdeal.main_arg3))
    (e4 : m' ((c.tc : Thread Cert.TailRefIdeal.nD Cert.TailRefIdeal.τ).loc Cert.TailRefIdeal.main_arg4) = m ((c.tc : Thread Cert.TailIdeal.nD Cert.TailIdeal.τ).loc Cert.TailIdeal.main_arg4))
    (e5 : m' ((c.tc : Thread Cert.TailRefIdeal.nD Cert.TailRefIdeal.τ).loc Cert.TailRefIdeal.main_arg5) = m ((c.tc : Thread Cert.TailIdeal.nD Cert.TailIdeal.τ).loc Cert.TailIdeal.main_arg5))
    (e6 : m' ((c.tc : Thread Cert.TailRefIdeal.nD Cert.TailRefIdeal.τ).loc Cert.TailRefIdeal.main_arg6) = m ((c.tc : Thread Cert.TailIdeal.nD Cert.TailIdeal.τ).loc Cert.TailIdeal.main_arg6))
    (e7 : m' ((c.tc : Thread Cert.TailRefIdeal.nD Cert.TailRefIdeal.τ).loc Cert.TailRefIdeal.main_arg7) = m ((c.tc : Thread Cert.TailIdeal.nD Cert.TailIdeal.τ).loc Cert.TailIdeal.main_arg7))
    (e8 : m' ((c.tc : Thread Cert.TailRefIdeal.nD Cert.TailRefIdeal.τ).loc Cert.TailRefIdeal.main_arg8) = m ((c.tc : Thread Cert.TailIdeal.nD Cert.TailIdeal.τ).loc Cert.TailIdeal.main_arg8))
    (e9 : m' ((c.tc : Thread Cert.TailRefIdeal.nD Cert.TailRefIdeal.τ).loc Cert.TailRefIdeal.main_arg9) = m ((c.tc : Thread Cert.TailIdeal.nD Cert.TailIdeal.τ).loc Cert.TailIdeal.main_arg9))
    (e10 : m' ((c.tc : Thread Cert.TailRefIdeal.nD Cert.TailRefIdeal.τ).loc Cert.TailRefIdeal.main_arg10) = m ((c.tc : Thread Cert.TailIdeal.nD Cert.TailIdeal.τ).loc Cert.TailIdeal.main_arg10))
    (e11 : m' ((c.tc : Thread Cert.TailRefIdeal.nD Cert.TailRefIdeal.τ).loc Cert.TailRefIdeal.main_arg11) = m ((c.tc : Thread Cert.TailIdeal.nD Cert.TailIdeal.τ).loc Cert.TailIdeal.main_arg11)) :
    Cert.TailRefIdeal.Value.res_main_v68 m' c = (Cert.TailIdeal.Gen.dats m 0 c).arrAt 12 Cert.TailIdeal.cfg0.N := by
  rw [Cert.TailRefIdeal.Read.val_main_v68_eq, e0, e1, e2, e3, e4, e5, e6, e7, e8, e9, e10, e11]
  refine funext fun (i : Cert.TailIdeal.S16384x1024.Idx) => ?_
  obtain ⟨R, j, rfl⟩ : ∃ R j, i = ix2 R j := ⟨i 0, i 1, eq_ix2 i⟩
  refine (Cert.TailRefIdeal.ref_apply _ _ _ _ _ _ _ _ _ _ _ _ R j).trans ?_
  refine Eq.trans ?_ (Cert.TailIdeal.final_apply m c R j).symm
  rw [kernel_eq m hpre c R j]
  unfold Cert.TailIdeal.kernelSpec Cert.TailIdeal.tailSpec
  refine congrFun (tailRow_congr Cert.TailRefIdeal.silu rfl rfl rfl rfl rfl rfl rfl rfl rfl rfl rfl ?_) j
  funext k
  pointwise []

/-- The value claim of the tail call. -/
theorem algebraic : Cert.algebraic_TailIdeal_TailRefIdeal_pre_finite_tail := by
  intro m g m' g' hpre hagree
  refine ⟨fun c => (Cert.TailIdeal.Gen.dats m 0 c).arrAt 12 Cert.TailIdeal.cfg0.N, Cert.TailIdeal.Value.run_blocks m g, ?_⟩
  refine (θ_run _ _ _).mono (fun r h c => ?_) (Cert.TailRefIdeal.Value.run m' g')
  obtain ⟨e0, e1, e2, e3, e4, e5, e6, e7, e8, e9, e10, e11⟩ := hagree c
  exact ⟨(h c).1.trans (result_eq m m' hpre c e0 e1 e2 e3 e4 e5 e6 e7 e8 e9 e10 e11), (h c).2⟩

end Cert.Proof.Tail
-- ==== Proof.SampleTailBlock.lean ====
/- The block that the tail call writes for the sample tokens: all 512 rows at once, read at an entry by the row function
   `tailRow`. -/
module

public import proofs.«01_k».proof.Proof.TailBlock
public import proofs.«01_k».proof.Proof.Gen.SampleTailIdeal.Value

@[expose] public section

set_option maxRecDepth 16384

noncomputable section

namespace Cert.SampleTailIdeal

open Idealize.ShloMosaic Cert.SampleTailIdeal.Gen Mixer

/-- The norm of each of 512 rows. -/
def rmsV (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 g broadcasts_S1x1024_S512x1024)

theorem rmsV_apply (x : FVec Ideal S512x1024 .f32) (g : FVec Ideal S1x1024 .f32) (r : Fin 512) (j : Fin 1024) :
    rmsV x g (ix2 r j) = rms (fun k => x (ix2 r k)) (fun k => g (ix2 0 k)) j := by
  pointwise [rmsV, rms]

/-- 512 rows times one group of a hidden projection's columns. -/
def colsV (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256) (constant S512x256 .f32 0x00000000#32)

/-- One group of the hidden layer. -/
def ffnV (h : FVec Ideal S512x1024 .bf16) (wg wu : FVec Ideal S1024x256 .bf16) (wd : FVec Ideal S256x1024 .bf16) :
    FVec Ideal S512x1024 .f32 :=
  matmul dot_S512x256_S256x1024_S512x1024_1_0_0_1_n_n none
    (truncf .bf16 (mulf (addf (mulf (mulf (broadcast S512x256 (Scalar.ofBits .f32 0x3F000000#32)) (colsV h wg))
        (tanh (mulf (broadcast S512x256 (Scalar.ofBits .f32 0x3F000000#32)) (colsV h wg))))
        (mulf (broadcast S512x256 (Scalar.ofBits .f32 0x3F000000#32)) (colsV h wg))) (colsV h wu)) bitsLt_bf16_f32)
    (shapeCast S256x1024 wd shapeCasts_S256x1024_S256x1024) (constant S512x1024 .f32 0x00000000#32)

theorem ffnV_apply (h : FVec Ideal S512x1024 .bf16) (wg wu : FVec Ideal S1024x256 .bf16) (wd : FVec Ideal S256x1024 .bf16)
    (r : Fin 512) (j : Fin 1024) :
    ffnV h wg wu wd (ix2 r j)
      = ffnRow siluK (fun k => h (ix2 r k)) (fun k l => wg (ix2 k l)) (fun k l => wu (ix2 k l)) (fun l i => wd (ix2 l i)) j := by
  pointwise [ffnV, colsV, ffnRow, siluK, mulMat]

/-- The residual after the output projection, for 512 rows. -/
def mixedV (x : FVec Ideal S512x1024 .f32) (oc : FVec Ideal S512x1024 .bf16) (wo : FVec Ideal S1024x1024 .bf16) :
    FVec Ideal S512x1024 .f32 :=
  addf (shapeCast S512x1024 x shapeCasts_S512x1024_S512x1024)
    (matmul dot_S512x1024_S1024x1024_S512x1024_1_0_0_1_n_n none oc
      (shapeCast S1024x1024 wo shapeCasts_S1024x1024_S1024x1024) (constant S512x1024 .f32 0x00000000#32))

theorem mixedV_apply (x : FVec Ideal S512x1024 .f32) (oc : FVec Ideal S512x1024 .bf16) (wo : FVec Ideal S1024x1024 .bf16)
    (r : Fin 512) (j : Fin 1024) :
    mixedV x oc wo (ix2 r j) = mixedRow (fun k => x (ix2 r k)) (fun k => oc (ix2 r k)) (fun k l => wo (ix2 k l)) j := by
  pointwise [mixedV, mixedRow, mulMat]

/-- The residual after the hidden layer: the 11 groups added one after the other, then to the residual. -/
def ffnResV (x1 : FVec Ideal S512x1024 .f32) (h : FVec Ideal S512x1024 .bf16) (wg wu : Fin 11 → FVec Ideal S1024x256 .bf16)
    (wd : Fin 11 → FVec Ideal S256x1024 .bf16) : FVec Ideal S512x1024 .f32 :=
  addf x1 (addf (addf (addf (addf (addf (addf (addf (addf (addf (addf (ffnV h (wg 0) (wu 0) (wd 0)) (ffnV h (wg 1) (wu 1) (wd 1)))
    (ffnV h (wg 2) (wu 2) (wd 2))) (ffnV h (wg 3) (wu 3) (wd 3))) (ffnV h (wg 4) (wu 4) (wd 4))) (ffnV h (wg 5) (wu 5) (wd 5)))
    (ffnV h (wg 6) (wu 6) (wd 6))) (ffnV h (wg 7) (wu 7) (wd 7))) (ffnV h (wg 8) (wu 8) (wd 8))) (ffnV h (wg 9) (wu 9) (wd 9)))
    (ffnV h (wg 10) (wu 10) (wd 10)))

theorem ffnResV_apply (x1 : FVec Ideal S512x1024 .f32) (h : FVec Ideal S512x1024 .bf16) (wg wu : Fin 11 → FVec Ideal S1024x256 .bf16)
    (wd : Fin 11 → FVec Ideal S256x1024 .bf16) (i : S512x1024.Idx) :
    ffnResV x1 h wg wu wd i = x1 i + ∑ c : Fin 11, ffnV h (wg c) (wu c) (wd c) i := by
  simp only [Fin.sum_univ_succ, Fin.sum_univ_zero]
  show x1 i + (((((((((((_ : EReal) + _) + _) + _) + _) + _) + _) + _) + _) + _) + _) = _
  simp only [add_assoc, add_zero]
  rfl

/-- The gate, the embedding's projection and the final norm, for 512 rows. -/
def gatedV (x2 : FVec Ideal S512x1024 .f32) (p : FVec Ideal S512x256 .f32) (np : FVec Ideal S1x1024 .f32)
    (wpg : FVec Ideal S1024x1024 .bf16) (wpp : FVec Ideal S256x1024 .bf16) (nfin : FVec Ideal S1x1024 .f32) :
    FVec Ideal S512x1024 .f32 :=
  rmsV (addf x2 (mulf
    (addf (mulf (broadcast S512x1024 (Scalar.ofBits .f32 0x3F000000#32)) (tanh (mulf (broadcast S512x1024 (Scalar.ofBits .f32 0x3F000000#32))
      (matmul dot_S512x1024_S1024x1024_S512x1024_1_0_0_1_n_n none (truncf .bf16 (rmsV x2 np) bitsLt_bf16_f32)
        (shapeCast S1024x1024 wpg shapeCasts_S1024x1024_S1024x1024) (constant S512x1024 .f32 0x00000000#32)))))
      (broadcast S512x1024 (Scalar.ofBits .f32 0x3F000000#32)))
    (matmul dot_S512x256_S256x1024_S512x1024_1_0_0_1_n_n none (truncf .bf16 (shapeCast S512x256 p shapeCasts_S512x256_S512x256) bitsLt_bf16_f32)
      (shapeCast S256x1024 wpp shapeCasts_S256x1024_S256x1024) (constant S512x1024 .f32 0x00000000#32))))
    (shapeCast S1x1024 nfin shapeCasts_S1x1024_S1x1024)

theorem gatedV_apply (x2 : FVec Ideal S512x1024 .f32) (p : FVec Ideal S512x256 .f32) (np : FVec Ideal S1x1024 .f32)
    (wpg : FVec Ideal S1024x1024 .bf16) (wpp : FVec Ideal S256x1024 .bf16) (nfin : FVec Ideal S1x1024 .f32)
    (r : Fin 512) (j : Fin 1024) :
    gatedV x2 p np wpg wpp nfin (ix2 r j)
      = gatedRow (fun k => x2 (ix2 r k)) (fun k => p (ix2 r k)) (fun k => np (ix2 0 k)) (fun k l => wpg (ix2 k l))
          (fun k l => wpp (ix2 k l)) (fun k => nfin (ix2 0 k)) j := by
  unfold gatedV gatedRow
  rw [rmsV_apply]
  congr 1
  · funext k
    pointwise [mulMat, rmsV_apply]
    rw [sigmoid_tanh]
  · funext k
    pointwise

/-- A group of 512 rows, all of the tail. -/
def groupV (x : FVec Ideal S512x1024 .f32) (oc : FVec Ideal S512x1024 .bf16) (p : FVec Ideal S512x256 .f32)
    (wo : FVec Ideal S1024x1024 .bf16) (nf : FVec Ideal S1x1024 .f32) (wg wu : Fin 11 → FVec Ideal S1024x256 .bf16)
    (wd : Fin 11 → FVec Ideal S256x1024 .bf16) (np : FVec Ideal S1x1024 .f32)
    (wpg : FVec Ideal S1024x1024 .bf16) (wpp : FVec Ideal S256x1024 .bf16) (nfin : FVec Ideal S1x1024 .f32) :
    FVec Ideal S512x1024 .f32 :=
  gatedV (ffnResV (mixedV x oc wo) (truncf .bf16 (rmsV (mixedV x oc wo) nf) bitsLt_bf16_f32) wg wu wd) p np wpg wpp nfin

/-- The 11 groups of columns that the body loads of a hidden projection. -/
def colPieces (w : Vec Ideal S1024x2816 .bf16) : Fin 11 → FVec Ideal S1024x256 .bf16 :=
  ![View.ld w r0_3, View.ld w r0_5, View.ld w r0_7, View.ld w r0_9, View.ld w r0_11, View.ld w r0_13, View.ld w r0_15,
    View.ld w r0_17, View.ld w r0_19, View.ld w r0_21, View.ld w r0_23]

/-- The 11 groups of rows that the body loads of the hidden layer's last matrix. -/
def rowPieces (w : Vec Ideal S2816x1024 .bf16) : Fin 11 → FVec Ideal S256x1024 .bf16 :=
  ![View.ld w r0_4, View.ld w r0_6, View.ld w r0_8, View.ld w r0_10, View.ld w r0_12, View.ld w r0_14, View.ld w r0_16,
    View.ld w r0_18, View.ld w r0_20, View.ld w r0_22, View.ld w r0_24]

/-- The printed block is one group of rows, by `groupV`. -/
theorem block_eq (x0 : Vec Ideal S512x1024 .f32) (x1 : Vec Ideal S512x1024 .bf16) (x2 : Vec Ideal S512x256 .f32)
    (x3 : Vec Ideal S1024x1024 .bf16) (x4 : Vec Ideal S1x1024 .f32) (x5 x6 : Vec Ideal S1024x2816 .bf16)
    (x7 : Vec Ideal S2816x1024 .bf16) (x8 : Vec Ideal S1x1024 .f32) (x9 : Vec Ideal S1024x1024 .bf16)
    (x10 : Vec Ideal S256x1024 .bf16) (x11 : Vec Ideal S1x1024 .f32) :
    Gen.out0_12 (F := Ideal) x0 x1 x2 x3 x4 x5 x6 x7 x8 x9 x10 x11
      = View.canon [⟨r0_0, groupV (View.ld x0 r0_0) (View.ld x1 r0_0) (View.ld x2 r0_25) (View.ld x3 r0_1) (View.ld x4 r0_2)
            (colPieces x5) (colPieces x6) (rowPieces x7) (View.ld x8 r0_2) (View.ld x9 r0_1) (View.ld x10 r0_26) (View.ld x11 r0_2)⟩] := by
  unfold_out out0_12
  rfl

end Cert.SampleTailIdeal
-- ==== Proof.SampleTailValue.lean ====
/- The array that the tail call leaves for the sample tokens: its entry (R, j) is the row function `tailRow` at row R of the
   flattened arguments. The grid has one point, whose block is the whole array. -/
module

public import proofs.«01_k».proof.Proof.SampleTailBlock

@[expose] public section

set_option maxRecDepth 16384

noncomputable section

namespace Cert.SampleTailIdeal

open Idealize.ShloMosaic Cert.SampleTailIdeal.Gen Mixer Idealize.ShloMosaic.TcCoe Idealize.SL.Sem
open Idealize.ShloMosaic.Pipeline (Dat)

theorem ld_cols (w : Vec Ideal S1024x2816 .bf16) (o : ℕ) (inb) (k : Fin 1024) (l : Fin 256) :
    View.ld w (Rect.unit (s := S1024x2816) ![0, o] S1024x256.size inb) (ix2 k l)
      = w (ix2 k ⟨o + l.val, lt_of_lt_of_le (Nat.add_lt_add_left l.isLt o) (inb 1)⟩) := by
  refine congrArg w (funext fun a => Fin.ext ?_)
  match a with
  | ⟨0, _⟩ => show 0 + 1 * k.val = k.val; omega
  | ⟨1, _⟩ => show o + 1 * l.val = o + l.val; omega

theorem ld_rows (w : Vec Ideal S2816x1024 .bf16) (o : ℕ) (inb) (l : Fin 256) (j : Fin 1024) :
    View.ld w (Rect.unit (s := S2816x1024) ![o, 0] S256x1024.size inb) (ix2 l j)
      = w (ix2 ⟨o + l.val, lt_of_lt_of_le (Nat.add_lt_add_left l.isLt o) (inb 0)⟩ j) := by
  refine congrArg w (funext fun a => Fin.ext ?_)
  match a with
  | ⟨0, _⟩ => show o + 1 * l.val = o + l.val; omega
  | ⟨1, _⟩ => show 0 + 1 * j.val = j.val; omega

/-- The `c`-th group of columns of a hidden projection, as loaded. -/
theorem colPieces_apply (w : Vec Ideal S1024x2816 .bf16) (c : Fin 11) (k : Fin 1024) (l : Fin 256) :
    colPieces w c (ix2 k l) = w (ix2 k (colGroup c l)) :=
  match c with
  | ⟨0, _⟩ => ld_cols w 0 _ k l
  | ⟨1, _⟩ => ld_cols w 256 _ k l
  | ⟨2, _⟩ => ld_cols w 512 _ k l
  | ⟨3, _⟩ => ld_cols w 768 _ k l
  | ⟨4, _⟩ => ld_cols w 1024 _ k l
  | ⟨5, _⟩ => ld_cols w 1280 _ k l
  | ⟨6, _⟩ => ld_cols w 1536 _ k l
  | ⟨7, _⟩ => ld_cols w 1792 _ k l
  | ⟨8, _⟩ => ld_cols w 2048 _ k l
  | ⟨9, _⟩ => ld_cols w 2304 _ k l
  | ⟨10, _⟩ => ld_cols w 2560 _ k l

/-- The `c`-th group of rows of the hidden layer's last matrix, as loaded. -/
theorem rowPieces_apply (w : Vec Ideal S2816x1024 .bf16) (c : Fin 11) (l : Fin 256) (j : Fin 1024) :
    rowPieces w c (ix2 l j) = w (ix2 (colGroup c l) j) :=
  match c with
  | ⟨0, _⟩ => ld_rows w 0 _ l j
  | ⟨1, _⟩ => ld_rows w 256 _ l j
  | ⟨2, _⟩ => ld_rows w 512 _ l j
  | ⟨3, _⟩ => ld_rows w 768 _ l j
  | ⟨4, _⟩ => ld_rows w 1024 _ l j
  | ⟨5, _⟩ => ld_rows w 1280 _ l j
  | ⟨6, _⟩ => ld_rows w 1536 _ l j
  | ⟨7, _⟩ => ld_rows w 1792 _ l j
  | ⟨8, _⟩ => ld_rows w 2048 _ l j
  | ⟨9, _⟩ => ld_rows w 2304 _ l j
  | ⟨10, _⟩ => ld_rows w 2560 _ l j

/-- A group of rows, read at an entry. -/
theorem groupV_apply (x : FVec Ideal S512x1024 .f32) (oc : FVec Ideal S512x1024 .bf16) (p : FVec Ideal S512x256 .f32)
    (wo : FVec Ideal S1024x1024 .bf16) (nf : FVec Ideal S1x1024 .f32) (wg wu : Vec Ideal S1024x2816 .bf16)
    (wd : Vec Ideal S2816x1024 .bf16) (np : FVec Ideal S1x1024 .f32)
    (wpg : FVec Ideal S1024x1024 .bf16) (wpp : FVec Ideal S256x1024 .bf16) (nfin : FVec Ideal S1x1024 .f32)
    (r : Fin 512) (j : Fin 1024) :
    groupV x oc p wo nf (colPieces wg) (colPieces wu) (rowPieces wd) np wpg wpp nfin (ix2 r j)
      = tailRow siluK (fun k => x (ix2 r k)) (fun k => oc (ix2 r k)) (fun k => p (ix2 r k)) (fun k l => wo (ix2 k l))
          (fun k => nf (ix2 0 k)) (fun k l => wg (ix2 k l)) (fun k l => wu (ix2 k l)) (fun k l => wd (ix2 k l))
          (fun k => np (ix2 0 k)) (fun k l => wpg (ix2 k l)) (fun k l => wpp (ix2 k l)) (fun k => nfin (ix2 0 k)) j := by
  unfold groupV tailRow
  rw [gatedV_apply]
  congr 1
  funext k
  rw [ffnResV_apply, mixedV_apply]
  congr 1
  rw [← ffnRow_groups]
  refine Finset.sum_congr rfl fun c _ => ?_
  rw [ffnV_apply]
  simp only [colPieces_apply, rowPieces_apply]
  congr 1
  funext i
  show rmsV (mixedV x oc wo) nf (ix2 r i) = _
  rw [rmsV_apply]
  simp only [mixedV_apply]

theorem emb_all (a : Fin 512) (b : Fin 1024) : r0_0.emb (ix2 a b) = (ix2 a b : S512x1024.Idx) := by
  funext x
  refine Fin.ext ?_
  match x with
  | ⟨0, _⟩ => show 0 + 1 * a.val = a.val; omega
  | ⟨1, _⟩ => show 0 + 1 * b.val = b.val; omega

/-- The block, read at an entry. -/
theorem block_apply (x0 : Vec Ideal S512x1024 .f32) (x1 : Vec Ideal S512x1024 .bf16) (x2 : Vec Ideal S512x256 .f32)
    (x3 : Vec Ideal S1024x1024 .bf16) (x4 : Vec Ideal S1x1024 .f32) (x5 x6 : Vec Ideal S1024x2816 .bf16)
    (x7 : Vec Ideal S2816x1024 .bf16) (x8 : Vec Ideal S1x1024 .f32) (x9 : Vec Ideal S1024x1024 .bf16)
    (x10 : Vec Ideal S256x1024 .bf16) (x11 : Vec Ideal S1x1024 .f32) (r : Fin 512) (j : Fin 1024) :
    Gen.out0_12 (F := Ideal) x0 x1 x2 x3 x4 x5 x6 x7 x8 x9 x10 x11 (ix2 r j)
      = tailRow siluK (fun k => x0 (ix2 r k)) (fun k => x1 (ix2 r k)) (fun k => x2 (ix2 r k)) (fun k l => x3 (ix2 k l))
          (fun k => x4 (ix2 0 k)) (fun k l => x5 (ix2 k l)) (fun k l => x6 (ix2 k l)) (fun k l => x7 (ix2 k l))
          (fun k => x8 (ix2 0 k)) (fun k l => x9 (ix2 k l)) (fun k l => x10 (ix2 k l)) (fun k => x11 (ix2 0 k)) j := by
  rw [block_eq]
  refine View.canon_apply_of_pieces (Val := Elt Ideal) (e := .f32) (S := S512x1024) (fun i : S512x1024.Idx =>
    tailRow siluK (fun k => x0 (ix2 (i 0) k)) (fun k => x1 (ix2 (i 0) k)) (fun k => x2 (ix2 (i 0) k)) (fun k l => x3 (ix2 k l))
          (fun k => x4 (ix2 0 k)) (fun k l => x5 (ix2 k l)) (fun k l => x6 (ix2 k l)) (fun k l => x7 (ix2 k l))
          (fun k => x8 (ix2 0 k)) (fun k l => x9 (ix2 k l)) (fun k l => x10 (ix2 k l)) (fun k => x11 (ix2 0 k)) (i 1)) _ ?_ (ix2 r j) ?_
  · intro p hp
    rcases List.mem_cons.mp hp with rfl | hp
    · intro x
      obtain ⟨a, b, rfl⟩ : ∃ (a : Fin 512) (b : Fin 1024), x = ix2 a b := ⟨x 0, x 1, eq_ix2 x⟩
      show groupV _ _ _ _ _ _ _ _ _ _ _ _ (ix2 a b) = _
      rw [groupV_apply, emb_all a b]
      pointwise
    · exact absurd hp (List.not_mem_nil)
  · refine ⟨_, List.mem_cons_self .., ?_⟩
    rw [Rect.mem_set_unit]
    intro a
    match a with
    | ⟨0, _⟩ => exact ⟨Nat.zero_le _, by show r.val < 0 + 512; have := r.isLt; omega⟩
    | ⟨1, _⟩ => exact ⟨Nat.zero_le _, by show j.val < 0 + 1024; have := j.isLt; omega⟩

variable (m : (ℓ : Loc nD τ sig) → Buf (Elt Ideal) ℓ)

/-! ## The arrays that the windows read -/

theorem V_v13 (c : Dev nD) : V m c main_v13 = (shapeCast S512x1024 (m ((c : Thread nD τ).loc main_arg0) : Vec Ideal S128x4x1024 .f32) shapeCasts_S128x4x1024_S512x1024 : Vec Ideal S512x1024 .f32) := by
  unfold V; after_results; rfl

theorem V_v14 (c : Dev nD) : V m c main_v14 = (shapeCast S512x256 (m ((c : Thread nD τ).loc main_arg2) : Vec Ideal S1x128x4x256 .f32) shapeCasts_S1x128x4x256_S512x256 : Vec Ideal S512x256 .f32) := by
  unfold V; after_results; rfl

theorem V_v1 (c : Dev nD) : V m c main_v1 = (truncf .bf16 (shapeCast S1024x1024 (m ((c : Thread nD τ).loc main_arg3) : Vec Ideal S1x1024x1024 .f32) shapeCasts_S1x1024x1024_S1024x1024 : FVec Ideal S1024x1024 .f32) bitsLt_bf16_f32 : FVec Ideal S1024x1024 .bf16) := by
  unfold V; after_results; rfl

theorem V_v3 (c : Dev nD) : V m c main_v3 = (truncf .bf16 (shapeCast S1024x2816 (m ((c : Thread nD τ).loc main_arg5) : Vec Ideal S1x1024x2816 .f32) shapeCasts_S1x1024x2816_S1024x2816 : FVec Ideal S1024x2816 .f32) bitsLt_bf16_f32 : FVec Ideal S1024x2816 .bf16) := by
  unfold V; after_results; rfl

theorem V_v5 (c : Dev nD) : V m c main_v5 = (truncf .bf16 (shapeCast S1024x2816 (m ((c : Thread nD τ).loc main_arg6) : Vec Ideal S1x1024x2816 .f32) shapeCasts_S1x1024x2816_S1024x2816 : FVec Ideal S1024x2816 .f32) bitsLt_bf16_f32 : FVec Ideal S1024x2816 .bf16) := by
  unfold V; after_results; rfl

theorem V_v7 (c : Dev nD) : V m c main_v7 = (truncf .bf16 (shapeCast S2816x1024 (m ((c : Thread nD τ).loc main_arg7) : Vec Ideal S1x2816x1024 .f32) shapeCasts_S1x2816x1024_S2816x1024 : FVec Ideal S2816x1024 .f32) bitsLt_bf16_f32 : FVec Ideal S2816x1024 .bf16) := by
  unfold V; after_results; rfl

theorem V_v9 (c : Dev nD) : V m c main_v9 = (truncf .bf16 (shapeCast S1024x1024 (m ((c : Thread nD τ).loc main_arg9) : Vec Ideal S1x1024x1024 .f32) shapeCasts_S1x1024x1024_S1024x1024 : FVec Ideal S1024x1024 .f32) bitsLt_bf16_f32 : FVec Ideal S1024x1024 .bf16) := by
  unfold V; after_results; rfl

theorem V_v11 (c : Dev nD) : V m c main_v11 = (truncf .bf16 (shapeCast S256x1024 (m ((c : Thread nD τ).loc main_arg10) : Vec Ideal S1x256x1024 .f32) shapeCasts_S1x256x1024_S256x1024 : FVec Ideal S256x1024 .f32) bitsLt_bf16_f32 : FVec Ideal S256x1024 .bf16) := by
  unfold V; after_results; rfl

theorem V_v12 (c : Dev nD) : V m c main_v12 = (shapeCast S1x1024 (m ((c : Thread nD τ).loc main_arg11) : Vec Ideal S1024 .f32) shapeCasts_S1024_S1x1024 : Vec Ideal S1x1024 .f32) := by
  unfold V; after_results; rfl

theorem index0_0 : ∀ t : Fin grid0.N, win0_0.index t 0 = t.val := by decide +kernel
theorem index0_1 (t : Fin grid0.N) : win0_1.index t 0 = t.val := (show win0_1.index t 0 = win0_0.index t 0 from rfl).trans (index0_0 t)
theorem index0_2 (t : Fin grid0.N) : win0_2.index t 0 = t.val := (show win0_2.index t 0 = win0_0.index t 0 from rfl).trans (index0_0 t)

theorem iblk0_apply (c : Dev nD) (t : Fin cfg0.N) (r : Fin 512) (k : Fin 1024) :
    iblk m c 0 t (ix2 r k) = V m c main_v13 (ix2 (n0 := 512) ⟨512 * t.val + r.val, by have h : t.val < 1 := t.isLt; omega⟩ k) := by
  have h : t.val < 1 := t.isLt
  show V m c main_v13 _ = _
  refine congrArg (V m c main_v13) (funext fun a => Fin.ext ?_)
  refine ((cfg0.win 0).rect_emb_val t (ix2 r k) a).trans ?_
  match a with
  | ⟨0, _⟩ => show win0_0.index t 0 * 512 + r.val = 512 * t.val + r.val; rw [index0_0]; omega
  | ⟨1, _⟩ => show 0 * 1024 + k.val = k.val; omega

theorem iblk1_apply (c : Dev nD) (t : Fin cfg0.N) (r : Fin 512) (k : Fin 1024) :
    iblk m c 1 t (ix2 r k) = V m c main_arg1 (ix2 (n0 := 512) ⟨512 * t.val + r.val, by have h : t.val < 1 := t.isLt; omega⟩ k) := by
  have h : t.val < 1 := t.isLt
  show V m c main_arg1 _ = _
  refine congrArg (V m c main_arg1) (funext fun a => Fin.ext ?_)
  refine ((cfg0.win 1).rect_emb_val t (ix2 r k) a).trans ?_
  match a with
  | ⟨0, _⟩ => show win0_1.index t 0 * 512 + r.val = 512 * t.val + r.val; rw [index0_1]; omega
  | ⟨1, _⟩ => show 0 * 1024 + k.val = k.val; omega

theorem iblk2_apply (c : Dev nD) (t : Fin cfg0.N) (r : Fin 512) (k : Fin 256) :
    iblk m c 2 t (ix2 r k) = V m c main_v14 (ix2 (n0 := 512) ⟨512 * t.val + r.val, by have h : t.val < 1 := t.isLt; omega⟩ k) := by
  have h : t.val < 1 := t.isLt
  show V m c main_v14 _ = _
  refine congrArg (V m c main_v14) (funext fun a => Fin.ext ?_)
  refine ((cfg0.win 2).rect_emb_val t (ix2 r k) a).trans ?_
  match a with
  | ⟨0, _⟩ => show win0_2.index t 0 * 512 + r.val = 512 * t.val + r.val; rw [index0_2]; omega
  | ⟨1, _⟩ => show 0 * 256 + k.val = k.val; omega

theorem iblk3_apply (c : Dev nD) (t : Fin cfg0.N) (i : Fin 1024) (k : Fin 1024) :
    iblk m c 3 t (ix2 i k) = V m c main_v1 (ix2 i k) := by
  show V m c main_v1 _ = _
  refine congrArg (V m c main_v1) (funext fun x => Fin.ext ?_)
  exact ((cfg0.win 3).rect_emb_val_of_index_zero t x (by match x with | ⟨0, _⟩ => rfl | ⟨1, _⟩ => rfl) (ix2 i k))

theorem iblk4_apply (c : Dev nD) (t : Fin cfg0.N) (i : Fin 1) (k : Fin 1024) :
    iblk m c 4 t (ix2 i k) = V m c main_arg4 (ix2 i k) := by
  show V m c main_arg4 _ = _
  refine congrArg (V m c main_arg4) (funext fun x => Fin.ext ?_)
  exact ((cfg0.win 4).rect_emb_val_of_index_zero t x (by match x with | ⟨0, _⟩ => rfl | ⟨1, _⟩ => rfl) (ix2 i k))

theorem iblk5_apply (c : Dev nD) (t : Fin cfg0.N) (i : Fin 1024) (k : Fin 2816) :
    iblk m c 5 t (ix2 i k) = V m c main_v3 (ix2 i k) := by
  show V m c main_v3 _ = _
  refine congrArg (V m c main_v3) (funext fun x => Fin.ext ?_)
  exact ((cfg0.win 5).rect_emb_val_of_index_zero t x (by match x with | ⟨0, _⟩ => rfl | ⟨1, _⟩ => rfl) (ix2 i k))

theorem iblk6_apply (c : Dev nD) (t : Fin cfg0.N) (i : Fin 1024) (k : Fin 2816) :
    iblk m c 6 t (ix2 i k) = V m c main_v5 (ix2 i k) := by
  show V m c main_v5 _ = _
  refine congrArg (V m c main_v5) (funext fun x => Fin.ext ?_)
  exact ((cfg0.win 6).rect_emb_val_of_index_zero t x (by match x with | ⟨0, _⟩ => rfl | ⟨1, _⟩ => rfl) (ix2 i k))

theorem iblk7_apply (c : Dev nD) (t : Fin cfg0.N) (i : Fin 2816) (k : Fin 1024) :
    iblk m c 7 t (ix2 i k) = V m c main_v7 (ix2 i k) := by
  show V m c main_v7 _ = _
  refine congrArg (V m c main_v7) (funext fun x => Fin.ext ?_)
  exact ((cfg0.win 7).rect_emb_val_of_index_zero t x (by match x with | ⟨0, _⟩ => rfl | ⟨1, _⟩ => rfl) (ix2 i k))

theorem iblk8_apply (c : Dev nD) (t : Fin cfg0.N) (i : Fin 1) (k : Fin 1024) :
    iblk m c 8 t (ix2 i k) = V m c main_arg8 (ix2 i k) := by
  show V m c main_arg8 _ = _
  refine congrArg (V m c main_arg8) (funext fun x => Fin.ext ?_)
  exact ((cfg0.win 8).rect_emb_val_of_index_zero t x (by match x with | ⟨0, _⟩ => rfl | ⟨1, _⟩ => rfl) (ix2 i k))

theorem iblk9_apply (c : Dev nD) (t : Fin cfg0.N) (i : Fin 1024) (k : Fin 1024) :
    iblk m c 9 t (ix2 i k) = V m c main_v9 (ix2 i k) := by
  show V m c main_v9 _ = _
  refine congrArg (V m c main_v9) (funext fun x => Fin.ext ?_)
  exact ((cfg0.win 9).rect_emb_val_of_index_zero t x (by match x with | ⟨0, _⟩ => rfl | ⟨1, _⟩ => rfl) (ix2 i k))

theorem iblk10_apply (c : Dev nD) (t : Fin cfg0.N) (i : Fin 256) (k : Fin 1024) :
    iblk m c 10 t (ix2 i k) = V m c main_v11 (ix2 i k) := by
  show V m c main_v11 _ = _
  refine congrArg (V m c main_v11) (funext fun x => Fin.ext ?_)
  exact ((cfg0.win 10).rect_emb_val_of_index_zero t x (by match x with | ⟨0, _⟩ => rfl | ⟨1, _⟩ => rfl) (ix2 i k))

theorem iblk11_apply (c : Dev nD) (t : Fin cfg0.N) (i : Fin 1) (k : Fin 1024) :
    iblk m c 11 t (ix2 i k) = V m c main_v12 (ix2 i k) := by
  show V m c main_v12 _ = _
  refine congrArg (V m c main_v12) (funext fun x => Fin.ext ?_)
  exact ((cfg0.win 11).rect_emb_val_of_index_zero t x (by match x with | ⟨0, _⟩ => rfl | ⟨1, _⟩ => rfl) (ix2 i k))

/-! ## The result array -/

/-- The tail of the layer on the whole arrays: entry `j` of row `R`, with `act` for the hidden layer's activation. -/
def tailSpec (act : EReal → EReal) (x : Vec Ideal S512x1024 .f32) (oc : Vec Ideal S512x1024 .bf16) (p : Vec Ideal S512x256 .f32)
    (wo : Vec Ideal S1024x1024 .f32) (nf : Vec Ideal S1x1024 .f32) (wg wu : Vec Ideal S1024x2816 .f32) (wd : Vec Ideal S2816x1024 .f32)
    (np : Vec Ideal S1x1024 .f32) (wpg : Vec Ideal S1024x1024 .f32) (wpp : Vec Ideal S256x1024 .f32) (nfin : Vec Ideal S1x1024 .f32)
    (R : Fin 512) (j : Fin 1024) : EReal :=
  tailRow act (fun k => x (ix2 R k)) (fun k => oc (ix2 R k)) (fun k => p (ix2 R k)) (fun k l => wo (ix2 k l))
    (fun k => nf (ix2 0 k)) (fun k l => wg (ix2 k l)) (fun k l => wu (ix2 k l)) (fun k l => wd (ix2 k l))
    (fun k => np (ix2 0 k)) (fun k l => wpg (ix2 k l)) (fun k l => wpp (ix2 k l)) (fun k => nfin (ix2 0 k)) j

/-- What the kernel computes, as a function of the arguments of the program. -/
def kernelSpec (c : Dev nD) (act : EReal → EReal) (R : Fin 512) (j : Fin 1024) : EReal :=
  tailSpec act (shapeCast S512x1024 (m ((c : Thread nD τ).loc main_arg0) : Vec Ideal S128x4x1024 .f32) shapeCasts_S128x4x1024_S512x1024)
    (m ((c : Thread nD τ).loc main_arg1))
    (shapeCast S512x256 (m ((c : Thread nD τ).loc main_arg2) : Vec Ideal S1x128x4x256 .f32) shapeCasts_S1x128x4x256_S512x256)
    (shapeCast S1024x1024 (m ((c : Thread nD τ).loc main_arg3) : Vec Ideal S1x1024x1024 .f32) shapeCasts_S1x1024x1024_S1024x1024)
    (m ((c : Thread nD τ).loc main_arg4))
    (shapeCast S1024x2816 (m ((c : Thread nD τ).loc main_arg5) : Vec Ideal S1x1024x2816 .f32) shapeCasts_S1x1024x2816_S1024x2816)
    (shapeCast S1024x2816 (m ((c : Thread nD τ).loc main_arg6) : Vec Ideal S1x1024x2816 .f32) shapeCasts_S1x1024x2816_S1024x2816)
    (shapeCast S2816x1024 (m ((c : Thread nD τ).loc main_arg7) : Vec Ideal S1x2816x1024 .f32) shapeCasts_S1x2816x1024_S2816x1024)
    (m ((c : Thread nD τ).loc main_arg8))
    (shapeCast S1024x1024 (m ((c : Thread nD τ).loc main_arg9) : Vec Ideal S1x1024x1024 .f32) shapeCasts_S1x1024x1024_S1024x1024)
    (shapeCast S256x1024 (m ((c : Thread nD τ).loc main_arg10) : Vec Ideal S1x256x1024 .f32) shapeCasts_S1x256x1024_S256x1024)
    (shapeCast S1x1024 (m ((c : Thread nD τ).loc main_arg11) : Vec Ideal S1024 .f32) shapeCasts_S1024_S1x1024)
    R j

/-- The row of the arrays that local row `r` of the block at point `t` is. -/
def rowOf (t : Fin cfg0.N) (r : Fin 512) : Fin 512 := ⟨512 * t.val + r.val, by have h : t.val < 1 := t.isLt; omega⟩

/-- What a point of the grid writes back, entry by entry. -/
theorem flushed_apply (c : Dev nD) (t : Fin cfg0.N) (r : Fin 512) (j : Fin 1024) :
    Gen.out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r j)
      = kernelSpec m c siluK (rowOf t r) j := by
  refine (block_apply _ _ _ _ _ _ _ _ _ _ _ _ r j).trans ?_
  unfold kernelSpec tailSpec
  refine congrFun (tailRow_congr siluK ?_ ?_ ?_ ?_ ?_ ?_ ?_ ?_ ?_ ?_ ?_ ?_) j
  · funext k; rw [iblk0_apply, V_v13]; rfl
  · funext k; rw [iblk1_apply, V_main_arg1]; rfl
  · funext k; rw [iblk2_apply, V_v14]; rfl
  · funext k l; rw [iblk3_apply, V_v1]; rfl
  · funext k; rw [iblk4_apply, V_main_arg4]
  · funext k l; rw [iblk5_apply, V_v3]; rfl
  · funext k l; rw [iblk6_apply, V_v5]; rfl
  · funext k l; rw [iblk7_apply, V_v7]; rfl
  · funext k; rw [iblk8_apply, V_main_arg8]
  · funext k l; rw [iblk9_apply, V_v9]; rfl
  · funext k l; rw [iblk10_apply, V_v11]; rfl
  · funext k; rw [iblk11_apply, V_v12]

theorem emb12 (t : Fin cfg0.N) (r : Fin 512) (j : Fin 1024) :
    ((cfg0.win 12).blk t).view.emb (ix2 r j : S512x1024.Idx) = (ix2 (rowOf t r) j : S512x1024.Idx) := by
  funext a
  refine Fin.ext ?_
  refine ((cfg0.win 12).rect_emb_val t (ix2 r j) a).trans ?_
  match a with
  | ⟨0, _⟩ =>
    show win0_12.index t 0 * 512 + r.val = 512 * t.val + r.val
    rw [show win0_12.index t 0 = win0_0.index t 0 from rfl, index0_0]
    omega
  | ⟨1, _⟩ => show 0 * 1024 + j.val = j.val; omega

theorem cut12 (t : Fin cfg0.N) (w : Vec Ideal S512x1024 .f32) (y : S512x1024.Idx) :
    (cfg0.win 12).cut (grid0.coords t) w y = w y := rfl

theorem final_at0 (c : Dev nD) (t : Fin cfg0.N) (r : Fin 512) (j : Fin 1024) :
    ((dats m 0 c).arrAt 12 cfg0.N : Vec Ideal S512x1024 .f32) (((cfg0.win 12).blk t).view.emb (ix2 r j : S512x1024.Idx)) = (dats m 0 c).flushed 12 t (ix2 r j : S512x1024.Idx) :=
  (dats m 0 c).arrAt_emb_eq_flushed 12 (Value.disjoint12) t (flush0_12 t) (ix2 r j : S512x1024.Idx)

theorem final_at1 (c : Dev nD) (t : Fin cfg0.N) (r : Fin 512) (j : Fin 1024) :
    (dats m 0 c).flushed 12 t (ix2 r j : S512x1024.Idx) =     Gen.out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix2 r j) := by
  refine (congrFun (Value.flushed12 m c t) (ix2 r j : S512x1024.Idx)).trans ?_
  generalize Gen.out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) = w
  rfl

/-- The result array at a row of the block of point `t`. -/
theorem final_at (c : Dev nD) (t : Fin cfg0.N) (r : Fin 512) (j : Fin 1024) :
    ((dats m 0 c).arrAt 12 cfg0.N : Vec Ideal S512x1024 .f32) (ix2 (rowOf t r) j) = kernelSpec m c siluK (rowOf t r) j := by
  rw [← flushed_apply m c t r j, ← emb12 t r j]
  exact (final_at0 m c t r j).trans (final_at1 m c t r j)

theorem exists_rowOf (R : Fin 512) : ∃ t r, rowOf t r = R :=
  ⟨⟨R.val / 512, show R.val / 512 < 1 by have := R.isLt; omega⟩, ⟨R.val % 512, Nat.mod_lt _ (by norm_num)⟩,
    Fin.ext (by show 512 * (R.val / 512) + R.val % 512 = R.val; omega)⟩

/-- The result array, entry by entry. -/
theorem final_apply (c : Dev nD) (R : Fin 512) (j : Fin 1024) :
    ((dats m 0 c).arrAt 12 cfg0.N : Vec Ideal S512x1024 .f32) (ix2 R j) = kernelSpec m c siluK R j := by
  obtain ⟨t, r, rfl⟩ := exists_rowOf R
  exact final_at m c t r j

end Cert.SampleTailIdeal
-- ==== Proof.SampleTailRef.lean ====
/- The reference of the tail call for the sample tokens, read at an entry: entry (R, j) is the row function `tailRow`, with `x · logistic x` for
   the activation, at row R of the flattened arguments. -/
module

public import proofs.«01_k».proof.Proof.TailRef
public import proofs.«01_k».proof.Proof.Gen.SampleTailRefIdeal.Read

@[expose] public section

set_option maxRecDepth 16384

noncomputable section

namespace Cert.SampleTailRefIdeal

open Idealize.ShloMosaic Cert.SampleTailRefIdeal.Gen Cert.SampleTailRefIdeal.Read Mixer

variable (x0 : Vec Ideal S128x4x1024 .f32) (x1 : Vec Ideal S512x1024 .bf16) (x2 : Vec Ideal S1x128x4x256 .f32) (x3 : Vec Ideal S1x1024x1024 .f32) (x4 : Vec Ideal S1x1024 .f32) (x5 : Vec Ideal S1x1024x2816 .f32) (x6 : Vec Ideal S1x1024x2816 .f32) (x7 : Vec Ideal S1x2816x1024 .f32) (x8 : Vec Ideal S1x1024 .f32) (x9 : Vec Ideal S1x1024x1024 .f32) (x10 : Vec Ideal S1x256x1024 .f32) (x11 : Vec Ideal S1024 .f32)

theorem ref_mixed (R : Fin 512) (j : Fin 1024) :
    val_main_v4 (F := Ideal) x0 x1 x3 (ix2 R j)
      = mixedRow (fun k => val_main_v0 (F := Ideal) x0 (ix2 R k)) (fun k => x1 (ix2 R k)) (fun k l => val_main_v2 (F := Ideal) x3 (ix2 k l)) j := by
  unfold val_main_v4 val_main_v3 val_main_v1
  generalize val_main_v0 (F := Ideal) x0 = y0
  generalize val_main_v2 (F := Ideal) x3 = y3
  pointwise [mixedRow, mulMat]

theorem ref_norm1 (R : Fin 512) (j : Fin 1024) :
    val_main_v18 (F := Ideal) x0 x1 x3 x4 (ix2 R j)
      = rms (fun k => val_main_v4 (F := Ideal) x0 x1 x3 (ix2 R k)) (fun k => x4 (ix2 0 k)) j := by
  unfold val_main_v18 val_main_v17 val_main_v16 val_main_v15 val_main_v14 val_main_v13 val_main_v12 val_main_v11 val_main_v10 val_main_v9 val_main_v8 val_main_v7 val_main_v6 val_main_v5
  generalize val_main_v4 (F := Ideal) x0 x1 x3 = y
  pointwise [rms, val_main_cst, val_main_cst_0, val_main_cst_1]

theorem ref_hidden (R : Fin 512) (l : Fin 2816) :
    val_main_v24 (F := Ideal) x0 x1 x3 x4 x5 x6 (ix2 R l)
      = Cert.TailRefIdeal.silu (mulMat (fun k => val_main_v18 (F := Ideal) x0 x1 x3 x4 (ix2 R k)) (fun k n => val_main_v19 (F := Ideal) x5 (ix2 k n)) l)
        * mulMat (fun k => val_main_v18 (F := Ideal) x0 x1 x3 x4 (ix2 R k)) (fun k n => val_main_v22 (F := Ideal) x6 (ix2 k n)) l := by
  unfold val_main_v24 val_main_v23 val_main_v21 val_main_call0_v5 val_main_call0_v4 val_main_call0_v3 val_main_call0_v2 val_main_call0_v1 val_main_call0_v0 val_main_v20
  generalize val_main_v18 (F := Ideal) x0 x1 x3 x4 = y
  generalize val_main_v19 (F := Ideal) x5 = y5
  generalize val_main_v22 (F := Ideal) x6 = y6
  pointwise [Cert.TailRefIdeal.silu, mulMat, val_main_call0_cst, val_main_call0_cst_0]
  rfl

theorem ref_ffn (R : Fin 512) (j : Fin 1024) :
    val_main_v27 (F := Ideal) x0 x1 x3 x4 x5 x6 x7 (ix2 R j)
      = val_main_v4 (F := Ideal) x0 x1 x3 (ix2 R j) + mulMat (fun l => val_main_v24 (F := Ideal) x0 x1 x3 x4 x5 x6 (ix2 R l)) (fun l n => val_main_v25 (F := Ideal) x7 (ix2 l n)) j := by
  unfold val_main_v27 val_main_v26
  generalize val_main_v24 (F := Ideal) x0 x1 x3 x4 x5 x6 = y
  generalize val_main_v25 (F := Ideal) x7 = y7
  generalize val_main_v4 (F := Ideal) x0 x1 x3 = y5
  pointwise [mulMat]

theorem ref_norm2 (R : Fin 512) (j : Fin 1024) :
    val_main_v41 (F := Ideal) x0 x1 x3 x4 x5 x6 x7 x8 (ix2 R j)
      = rms (fun k => val_main_v27 (F := Ideal) x0 x1 x3 x4 x5 x6 x7 (ix2 R k)) (fun k => x8 (ix2 0 k)) j := by
  unfold val_main_v41 val_main_v40 val_main_v39 val_main_v38 val_main_v37 val_main_v36 val_main_v35 val_main_v34 val_main_v33 val_main_v32 val_main_v31 val_main_v30 val_main_v29 val_main_v28
  generalize val_main_v27 (F := Ideal) x0 x1 x3 x4 x5 x6 x7 = y
  pointwise [rms, val_main_cst_2, val_main_cst_3, val_main_cst_4]

theorem ref_gate (R : Fin 512) (j : Fin 1024) :
    val_main_v49 (F := Ideal) x0 x1 x3 x4 x5 x6 x7 x8 x9 (ix2 R j)
      = Ideal.logistic (mulMat (fun k => val_main_v41 (F := Ideal) x0 x1 x3 x4 x5 x6 x7 x8 (ix2 R k)) (fun k n => val_main_v42 (F := Ideal) x9 (ix2 k n)) j) := by
  unfold val_main_v49 val_main_v48 val_main_v47 val_main_v46 val_main_v45 val_main_v44 val_main_v43
  generalize val_main_v41 (F := Ideal) x0 x1 x3 x4 x5 x6 x7 x8 = y
  generalize val_main_v42 (F := Ideal) x9 = y9
  pointwise [mulMat, val_main_cst_5, val_main_cst_6]
  rfl

theorem ref_gated (R : Fin 512) (j : Fin 1024) :
    val_main_v54 (F := Ideal) x0 x1 x2 x3 x4 x5 x6 x7 x8 x9 x10 (ix2 R j)
      = val_main_v27 (F := Ideal) x0 x1 x3 x4 x5 x6 x7 (ix2 R j) + val_main_v49 (F := Ideal) x0 x1 x3 x4 x5 x6 x7 x8 x9 (ix2 R j)
        * mulMat (fun k => val_main_v50 (F := Ideal) x2 (ix2 R k)) (fun k n => val_main_v51 (F := Ideal) x10 (ix2 k n)) j := by
  unfold val_main_v54 val_main_v53 val_main_v52
  generalize val_main_v27 (F := Ideal) x0 x1 x3 x4 x5 x6 x7 = y
  generalize val_main_v49 (F := Ideal) x0 x1 x3 x4 x5 x6 x7 x8 x9 = z
  generalize val_main_v50 (F := Ideal) x2 = y2
  generalize val_main_v51 (F := Ideal) x10 = y10
  pointwise [mulMat]

theorem ref_final (R : Fin 512) (j : Fin 1024) :
    val_main_v67 (F := Ideal) x0 x1 x2 x3 x4 x5 x6 x7 x8 x9 x10 x11 (ix2 R j)
      = rms (fun k => val_main_v54 (F := Ideal) x0 x1 x2 x3 x4 x5 x6 x7 x8 x9 x10 (ix2 R k)) (fun k => x11 (ix1 k)) j := by
  unfold val_main_v67 val_main_v66 val_main_v65 val_main_v64 val_main_v63 val_main_v62 val_main_v61 val_main_v60 val_main_v59 val_main_v58 val_main_v57 val_main_v56 val_main_v55
  generalize val_main_v54 (F := Ideal) x0 x1 x2 x3 x4 x5 x6 x7 x8 x9 x10 = y
  pointwise [rms, val_main_cst_7, val_main_cst_8, val_main_cst_9]

/-- Entry (R, j) of the reference's result. -/
theorem ref_apply (R : Fin 512) (j : Fin 1024) :
    val_main_v67 (F := Ideal) x0 x1 x2 x3 x4 x5 x6 x7 x8 x9 x10 x11 (ix2 R j)
      = tailRow Cert.TailRefIdeal.silu (fun k => val_main_v0 (F := Ideal) x0 (ix2 R k)) (fun k => x1 (ix2 R k))
          (fun k => val_main_v50 (F := Ideal) x2 (ix2 R k)) (fun k n => val_main_v2 (F := Ideal) x3 (ix2 k n)) (fun k => x4 (ix2 0 k))
          (fun k n => val_main_v19 (F := Ideal) x5 (ix2 k n)) (fun k n => val_main_v22 (F := Ideal) x6 (ix2 k n))
          (fun k n => val_main_v25 (F := Ideal) x7 (ix2 k n)) (fun k => x8 (ix2 0 k)) (fun k n => val_main_v42 (F := Ideal) x9 (ix2 k n))
          (fun k n => val_main_v51 (F := Ideal) x10 (ix2 k n)) (fun k => x11 (ix1 k)) j := by
  rw [ref_final]
  simp only [ref_gated, ref_gate, ref_norm2, ref_ffn, ref_hidden, ref_norm1, ref_mixed]
  rfl

end Cert.SampleTailRefIdeal
-- ==== Proof.SampleTailClaim.lean ====
/- The tail call for the sample tokens against its reference: from finite arguments the two leave the same array. -/
module

public import proofs.«01_k».proof.Defs
public import proofs.«01_k».proof.Proof.Precondition
public import proofs.«01_k».proof.Proof.SampleTailValue
public import proofs.«01_k».proof.Proof.SampleTailRef
public import proofs.«01_k».proof.Proof.TailClaim
public import proofs.«01_k».proof.Proof.Gen.Pre_finite_sample_tail
public import proofs.«01_k».proof.Proof.Gen.SampleTailRefIdeal

@[expose] public section

set_option maxRecDepth 16384

noncomputable section

namespace Cert.Proof.SampleTail

open Idealize.ShloMosaic Idealize.SL.Sem Mixer

/-- What the kernel computes is the reference's row function, when the arguments are finite. -/
theorem kernel_eq (m : (ℓ : Loc Cert.SampleTailIdeal.nD Cert.SampleTailIdeal.τ Cert.SampleTailIdeal.sig) → Buf (Elt Ideal) ℓ) (hpre : Cert.Pre_SampleTailIdeal_finite_sample_tail m)
    (c : Dev Cert.SampleTailIdeal.nD) (R : Fin 512) (j : Fin 1024) :
    Cert.SampleTailIdeal.kernelSpec m c siluK R j = Cert.SampleTailIdeal.kernelSpec m c Cert.TailRefIdeal.silu R j := by
  obtain ⟨p0, p1, p2, p3, p4, p5, p6, p7, p8, p9, p10, p11⟩ := hpre c
  have h0 := finite_of_test _ _ p0
  have h1 := finite_of_test _ _ p1
  have h3 := finite_of_test _ _ p3
  have h4 := finite_of_test _ _ p4
  have h5 := finite_of_test _ _ p5
  unfold Cert.SampleTailIdeal.kernelSpec Cert.SampleTailIdeal.tailSpec
  exact congrFun (tailRow_act (fun _ => h0 _) (fun _ => h1 _) (fun _ _ => h3 _) (fun _ => h4 _) (fun _ _ => h5 _)) j

/-- The reference's array is the kernel's. -/
theorem result_eq (m : (ℓ : Loc Cert.SampleTailIdeal.nD Cert.SampleTailIdeal.τ Cert.SampleTailIdeal.sig) → Buf (Elt Ideal) ℓ)
    (m' : (ℓ : Loc Cert.SampleTailRefIdeal.nD Cert.SampleTailRefIdeal.τ Cert.SampleTailRefIdeal.sig) → Buf (Elt Ideal) ℓ) (hpre : Cert.Pre_SampleTailIdeal_finite_sample_tail m)
    (c : Dev Cert.SampleTailIdeal.nD)
    (e0 : m' ((c.tc : Thread Cert.SampleTailRefIdeal.nD Cert.SampleTailRefIdeal.τ).loc Cert.SampleTailRefIdeal.main_arg0) = m ((c.tc : Thread Cert.SampleTailIdeal.nD Cert.SampleTailIdeal.τ).loc Cert.SampleTailIdeal.main_arg0))
    (e1 : m' ((c.tc : Thread Cert.SampleTailRefIdeal.nD Cert.SampleTailRefIdeal.τ).loc Cert.SampleTailRefIdeal.main_arg1) = m ((c.tc : Thread Cert.SampleTailIdeal.nD Cert.SampleTailIdeal.τ).loc Cert.SampleTailIdeal.main_arg1))
    (e2 : m' ((c.tc : Thread Cert.SampleTailRefIdeal.nD Cert.SampleTailRefIdeal.τ).loc Cert.SampleTailRefIdeal.main_arg2) = m ((c.tc : Thread Cert.SampleTailIdeal.nD Cert.SampleTailIdeal.τ).loc Cert.SampleTailIdeal.main_arg2))
    (e3 : m' ((c.tc : Thread Cert.SampleTailRefIdeal.nD Cert.SampleTailRefIdeal.τ).loc Cert.SampleTailRefIdeal.main_arg3) = m ((c.tc : Thread Cert.SampleTailIdeal.nD Cert.SampleTailIdeal.τ).loc Cert.SampleTailIdeal.main_arg3))
    (e4 : m' ((c.tc : Thread Cert.SampleTailRefIdeal.nD Cert.SampleTailRefIdeal.τ).loc Cert.SampleTailRefIdeal.main_arg4) = m ((c.tc : Thread Cert.SampleTailIdeal.nD Cert.SampleTailIdeal.τ).loc Cert.SampleTailIdeal.main_arg4))
    (e5 : m' ((c.tc : Thread Cert.SampleTailRefIdeal.nD Cert.SampleTailRefIdeal.τ).loc Cert.SampleTailRefIdeal.main_arg5) = m ((c.tc : Thread Cert.SampleTailIdeal.nD Cert.SampleTailIdeal.τ).loc Cert.SampleTailIdeal.main_arg5))
    (e6 : m' ((c.tc : Thread Cert.SampleTailRefIdeal.nD Cert.SampleTailRefIdeal.τ).loc Cert.SampleTailRefIdeal.main_arg6) = m ((c.tc : Thread Cert.SampleTailIdeal.nD Cert.SampleTailIdeal.τ).loc Cert.SampleTailIdeal.main_arg6))
    (e7 : m' ((c.tc : Thread Cert.SampleTailRefIdeal.nD Cert.SampleTailRefIdeal.τ).loc Cert.SampleTailRefIdeal.main_arg7) = m ((c.tc : Thread Cert.SampleTailIdeal.nD Cert.SampleTailIdeal.τ).loc Cert.SampleTailIdeal.main_arg7))
    (e8 : m' ((c.tc : Thread Cert.SampleTailRefIdeal.nD Cert.SampleTailRefIdeal.τ).loc Cert.SampleTailRefIdeal.main_arg8) = m ((c.tc : Thread Cert.SampleTailIdeal.nD Cert.SampleTailIdeal.τ).loc Cert.SampleTailIdeal.main_arg8))
    (e9 : m' ((c.tc : Thread Cert.SampleTailRefIdeal.nD Cert.SampleTailRefIdeal.τ).loc Cert.SampleTailRefIdeal.main_arg9) = m ((c.tc : Thread Cert.SampleTailIdeal.nD Cert.SampleTailIdeal.τ).loc Cert.SampleTailIdeal.main_arg9))
    (e10 : m' ((c.tc : Thread Cert.SampleTailRefIdeal.nD Cert.SampleTailRefIdeal.τ).loc Cert.SampleTailRefIdeal.main_arg10) = m ((c.tc : Thread Cert.SampleTailIdeal.nD Cert.SampleTailIdeal.τ).loc Cert.SampleTailIdeal.main_arg10))
    (e11 : m' ((c.tc : Thread Cert.SampleTailRefIdeal.nD Cert.SampleTailRefIdeal.τ).loc Cert.SampleTailRefIdeal.main_arg11) = m ((c.tc : Thread Cert.SampleTailIdeal.nD Cert.SampleTailIdeal.τ).loc Cert.SampleTailIdeal.main_arg11)) :
    Cert.SampleTailRefIdeal.Value.res_main_v67 m' c = (Cert.SampleTailIdeal.Gen.dats m 0 c).arrAt 12 Cert.SampleTailIdeal.cfg0.N := by
  rw [Cert.SampleTailRefIdeal.Read.val_main_v67_eq, e0, e1, e2, e3, e4, e5, e6, e7, e8, e9, e10, e11]
  refine funext fun (i : Cert.SampleTailIdeal.S512x1024.Idx) => ?_
  obtain ⟨R, j, rfl⟩ : ∃ R j, i = ix2 R j := ⟨i 0, i 1, eq_ix2 i⟩
  refine (Cert.SampleTailRefIdeal.ref_apply _ _ _ _ _ _ _ _ _ _ _ _ R j).trans ?_
  refine Eq.trans ?_ (Cert.SampleTailIdeal.final_apply m c R j).symm
  rw [kernel_eq m hpre c R j]
  unfold Cert.SampleTailIdeal.kernelSpec Cert.SampleTailIdeal.tailSpec
  refine congrFun (tailRow_congr Cert.TailRefIdeal.silu rfl rfl rfl rfl rfl rfl rfl rfl rfl rfl rfl ?_) j
  funext k
  pointwise []

/-- The value claim of the tail call for the sample tokens. -/
theorem algebraic : Cert.algebraic_SampleTailIdeal_SampleTailRefIdeal_pre_finite_sample_tail := by
  intro m g m' g' hpre hagree
  refine ⟨fun c => (Cert.SampleTailIdeal.Gen.dats m 0 c).arrAt 12 Cert.SampleTailIdeal.cfg0.N, Cert.SampleTailIdeal.Value.run_blocks m g, ?_⟩
  refine (θ_run _ _ _).mono (fun r h c => ?_) (Cert.SampleTailRefIdeal.Value.run m' g')
  obtain ⟨e0, e1, e2, e3, e4, e5, e6, e7, e8, e9, e10, e11⟩ := hagree c
  exact ⟨(h c).1.trans (result_eq m m' hpre c e0 e1 e2 e3 e4 e5 e6 e7 e8 e9 e10 e11), (h c).2⟩

end Cert.Proof.SampleTail
-- ==== Proof.lean ====
/- The claims of the certificate, assembled. For the sample mixers' call and for the tail's two calls (prompt and sample tokens):
   the frames of the kernel, of its idealization and of the reference, that the idealization keeps the kernel, and that the
   kernel computes what the reference does. -/
module

public import proofs.«01_k».proof.Defs
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleRefIdeal
public import proofs.«01_k».proof.Proof.Gen.SampleRefIdeal.Run
public import proofs.«01_k».proof.Proof.Gen.Pre_finite_sample
public import proofs.«01_k».proof.Proof.Gen.SampleIdeal.Value
public import proofs.«01_k».proof.Proof.Gen.SampleRefIdeal.Read
public import proofs.«01_k».proof.Proof.SampleClaim
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailRefIdeal
public import proofs.«01_k».proof.Proof.Gen.TailRefIdeal.Run
public import proofs.«01_k».proof.Proof.Gen.Pre_finite_tail
public import proofs.«01_k».proof.Proof.Gen.TailIdeal.Value
public import proofs.«01_k».proof.Proof.Gen.TailRefIdeal.Read
public import proofs.«01_k».proof.Proof.TailClaim
public import proofs.«01_k».proof.Proof.Gen.SampleTail
public import proofs.«01_k».proof.Proof.Gen.SampleTail.Frame
public import proofs.«01_k».proof.Proof.Gen.SampleTailIdeal
public import proofs.«01_k».proof.Proof.Gen.SampleTailIdeal.Frame
public import proofs.«01_k».proof.Proof.Gen.SampleTailRefIdeal
public import proofs.«01_k».proof.Proof.Gen.SampleTailRefIdeal.Run
public import proofs.«01_k».proof.Proof.Gen.Pre_finite_sample_tail
public import proofs.«01_k».proof.Proof.Gen.SampleTailIdeal.Value
public import proofs.«01_k».proof.Proof.Gen.SampleTailRefIdeal.Read
public import proofs.«01_k».proof.Proof.SampleTailClaim

@[expose] public section

noncomputable section

namespace Cert.Proof

open Idealize.ShloMosaic Idealize.SL.Sem

/-- The reference of the sample mixers' call runs, leaves its arguments as they were, and has no semaphore. -/
theorem frame_SampleRefIdeal : Cert.quiescent_SampleRefIdeal := fun m g _ =>
  (θ_run (Cert.SampleRefIdeal.defs (F := Ideal)) _ _).mono (fun r h => ⟨fun c => (h c).2.2.2, sem_eq_zero_of_no_sems (by decide) r.2⟩)
    (Cert.SampleRefIdeal.Value.run (F := Ideal) m g)

/-- The reference of the prompt's tail call runs, leaves its arguments as they were, and has no semaphore. -/
theorem frame_TailRefIdeal : Cert.quiescent_TailRefIdeal := fun m g _ =>
  (θ_run (Cert.TailRefIdeal.defs (F := Ideal)) _ _).mono (fun r h => ⟨fun c => (h c).2, sem_eq_zero_of_no_sems (by decide) r.2⟩)
    (Cert.TailRefIdeal.Value.run (F := Ideal) m g)

/-- The reference of the sample's tail call runs, leaves its arguments as they were, and has no semaphore. -/
theorem frame_SampleTailRefIdeal : Cert.quiescent_SampleTailRefIdeal := fun m g _ =>
  (θ_run (Cert.SampleTailRefIdeal.defs (F := Ideal)) _ _).mono (fun r h => ⟨fun c => (h c).2, sem_eq_zero_of_no_sems (by decide) r.2⟩)
    (Cert.SampleTailRefIdeal.Value.run (F := Ideal) m g)

/-- Every claim of the certificate. -/
theorem claim : Cert.Claim :=
  ⟨Cert.Sample.Gen.facts, Cert.SampleIdeal.Gen.facts, Cert.SampleRefIdeal.Gen.facts, Cert.Tail.Gen.facts, Cert.TailIdeal.Gen.facts, Cert.TailRefIdeal.Gen.facts, Cert.SampleTail.Gen.facts, Cert.SampleTailIdeal.Gen.facts, Cert.SampleTailRefIdeal.Gen.facts, Cert.Pre_finite_sample.Gen.facts, Cert.Pre_finite_tail.Gen.facts, Cert.Pre_finite_sample_tail.Gen.facts,
    fun m g _ => Cert.Sample.Gen.frame m g,
    fun m g _ => Cert.SampleIdeal.Gen.frame m g,
    fun m g _ => Cert.SampleIdeal.Gen.frame m g,
    frame_SampleRefIdeal,
    fun m g _ => frame_SampleRefIdeal m g trivial,
    fun m g _ => Cert.Tail.Gen.frame m g,
    fun m g _ => Cert.TailIdeal.Gen.frame m g,
    fun m g _ => Cert.TailIdeal.Gen.frame m g,
    frame_TailRefIdeal,
    fun m g _ => frame_TailRefIdeal m g trivial,
    fun m g _ => Cert.SampleTail.Gen.frame m g,
    fun m g _ => Cert.SampleTailIdeal.Gen.frame m g,
    fun m g _ => Cert.SampleTailIdeal.Gen.frame m g,
    frame_SampleTailRefIdeal,
    fun m g _ => frame_SampleTailRefIdeal m g trivial,
    trivial,
    Cert.Proof.Sample.algebraic,
    trivial,
    Cert.Proof.Tail.algebraic,
    trivial,
    Cert.Proof.SampleTail.algebraic⟩

end Cert.Proof

end
